-- ==== Defs.lean ====
def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def Pre_RglruRefIdeal (m : (ℓ : Loc Cert.RglruRefIdeal.nD Cert.RglruRefIdeal.τ Cert.RglruRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7)
      ∧ r.2.mem ((c.tc : Thread Cert.Rglru.nD Cert.Rglru.τ).loc Cert.Rglru.main_arg8) = m ((c.tc : Thread Cert.Rglru.nD Cert.Rglru.τ).loc Cert.Rglru.main_arg8)
      ∧ r.2.mem ((c.tc : Thread Cert.Rglru.nD Cert.Rglru.τ).loc Cert.Rglru.main_arg9) = m ((c.tc : Thread Cert.Rglru.nD Cert.Rglru.τ).loc Cert.Rglru.main_arg9)
      ∧ r.2.mem ((c.tc : Thread Cert.Rglru.nD Cert.Rglru.τ).loc Cert.Rglru.main_arg10) = m ((c.tc : Thread Cert.Rglru.nD Cert.Rglru.τ).loc Cert.Rglru.main_arg10))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7)
      ∧ r.2.mem ((c.tc : Thread Cert.RglruIdeal.nD Cert.RglruIdeal.τ).loc Cert.RglruIdeal.main_arg8) = m ((c.tc : Thread Cert.RglruIdeal.nD Cert.RglruIdeal.τ).loc Cert.RglruIdeal.main_arg8)
      ∧ r.2.mem ((c.tc : Thread Cert.RglruIdeal.nD Cert.RglruIdeal.τ).loc Cert.RglruIdeal.main_arg9) = m ((c.tc : Thread Cert.RglruIdeal.nD Cert.RglruIdeal.τ).loc Cert.RglruIdeal.main_arg9)
      ∧ r.2.mem ((c.tc : Thread Cert.RglruIdeal.nD Cert.RglruIdeal.τ).loc Cert.RglruIdeal.main_arg10) = m ((c.tc : Thread Cert.RglruIdeal.nD Cert.RglruIdeal.τ).loc Cert.RglruIdeal.main_arg10))
      ∧ r.2.sem = fun _ => 0)

def quiescent_RglruRefIdeal [hRglruRefIdeal : Cert.RglruRefIdeal.Facts] : Prop :=
  ∀ (m : (ℓ : Loc Cert.RglruRefIdeal.nD Cert.RglruRefIdeal.τ Cert.RglruRefIdeal.sig) → Buf (Elt Ideal) ℓ) (g : Dev Cert.RglruRefIdeal.nD → PrngReg), Pre_RglruRefIdeal m →
    θ_run (Cert.RglruRefIdeal.defs (F := Ideal)) (onTc (τ := Cert.RglruRefIdeal.τ) (Cert.RglruRefIdeal.main (F := Ideal))) ⟨m, fun _ => 0, g⟩ (fun r => (∀ c : Dev Cert.RglruRefIdeal.nD,
      r.2.mem ((c.tc : Thread Cert.RglruRefIdeal.nD Cert.RglruRefIdeal.τ).loc Cert.RglruRefIdeal.main_arg0) = m ((c.tc : Thread Cert.RglruRefIdeal.nD Cert.RglruRefIdeal.τ).loc Cert.RglruRefIdeal.main_arg0)
      ∧ r.2.mem ((c.tc : Thread Cert.RglruRefIdeal.nD Cert.RglruRefIdeal.τ).loc Cert.RglruRefIdeal.main_arg1) = m ((c.tc : Thread Cert.RglruRefIdeal.nD Cert.RglruRefIdeal.τ).loc Cert.RglruRefIdeal.main_arg1)
      ∧ r.2.mem ((c.tc : Thread Cert.RglruRefIdeal.nD Cert.RglruRefIdeal.τ).loc Cert.RglruRefIdeal.main_arg2) = m ((c.tc : Thread Cert.RglruRefIdeal.nD Cert.RglruRefIdeal.τ).loc Cert.RglruRefIdeal.main_arg2)
      ∧ r.2.mem ((c.tc : Thread Cert.RglruRefIdeal.nD Cert.RglruRefIdeal.τ).loc Cert.RglruRefIdeal.main_arg3) = m ((c.tc : Thread Cert.RglruRefIdeal.nD Cert.RglruRefIdeal.τ).loc Cert.RglruRefIdeal.main_arg3)
      ∧ r.2.mem ((c.tc : Thread Cert.RglruRefIdeal.nD Cert.RglruRefIdeal.τ).loc Cert.RglruRefIdeal.main_arg4) = m ((c.tc : Thread Cert.RglruRefIdeal.nD Cert.RglruRefIdeal.τ).loc Cert.RglruRefIdeal.main_arg4)
      ∧ r.2.mem ((c.tc : Thread Cert.RglruRefIdeal.nD Cert.RglruRefIdeal.τ).loc Cert.RglruRefIdeal.main_arg5) = m ((c.tc : Thread Cert.RglruRefIdeal.nD Cert.RglruRefIdeal.τ).loc Cert.RglruRefIdeal.main_arg5)
      ∧ r.2.mem ((c.tc : Thread Cert.RglruRefIdeal.nD Cert.RglruRefIdeal.τ).loc Cert.RglruRefIdeal.main_arg6) = m ((c.tc : Thread Cert.RglruRefIdeal.nD Cert.RglruRefIdeal.τ).loc Cert.RglruRefIdeal.main_arg6)
      ∧ r.2.mem ((c.tc : Thread Cert.RglruRefIdeal.nD Cert.RglruRefIdeal.τ).loc Cert.RglruRefIdeal.main_arg7) = m ((c.tc : Thread Cert.RglruRefIdeal.nD Cert.RglruRefIdeal.τ).loc Cert.RglruRefIdeal.main_arg7)
      ∧ r.2.mem ((c.tc : Thread Cert.RglruRefIdeal.nD Cert.RglruRefIdeal.τ).loc Cert.RglruRefIdeal.main_arg8) = m ((c.tc : Thread Cert.RglruRefIdeal.nD Cert.RglruRefIdeal.τ).loc Cert.RglruRefIdeal.main_arg8)
      ∧ r.2.mem ((c.tc : Thread Cert.RglruRefIdeal.nD Cert.RglruRefIdeal.τ).loc Cert.RglruRefIdeal.main_arg9) = m ((c.tc : Thread Cert.RglruRefIdeal.nD Cert.RglruRefIdeal.τ).loc Cert.RglruRefIdeal.main_arg9)
      ∧ r.2.mem ((c.tc : Thread Cert.RglruRefIdeal.nD Cert.RglruRefIdeal.τ).loc Cert.RglruRefIdeal.main_arg10) = m ((c.tc : Thread Cert.RglruRefIdeal.nD Cert.RglruRefIdeal.τ).loc Cert.RglruRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def preserves_Rglru_RglruIdeal : Prop :=
  True

def algebraic_RglruIdeal_RglruRefIdeal [hRglruIdeal : Cert.RglruIdeal.Facts] [hRglruRefIdeal : Cert.RglruRefIdeal.Facts] : Prop :=
  ∀ (m : (ℓ : Loc Cert.RglruIdeal.nD Cert.RglruIdeal.τ Cert.RglruIdeal.sig) → Buf (Elt Ideal) ℓ) (g : Dev Cert.RglruIdeal.nD → PrngReg)
    (m' : (ℓ : Loc Cert.RglruRefIdeal.nD Cert.RglruRefIdeal.τ Cert.RglruRefIdeal.sig) → Buf (Elt Ideal) ℓ) (g' : Dev Cert.RglruRefIdeal.nD → PrngReg), Pre_RglruIdeal m →
    (∀ c : Dev Cert.RglruIdeal.nD,
      m' ((c.tc : Thread Cert.RglruRefIdeal.nD Cert.RglruRefIdeal.τ).loc Cert.RglruRefIdeal.main_arg0) = m ((c.tc : Thread Cert.RglruIdeal.nD Cert.RglruIdeal.τ).loc Cert.RglruIdeal.main_arg0)
      ∧ m' ((c.tc : Thread Cert.RglruRefIdeal.nD Cert.RglruRefIdeal.τ).loc Cert.RglruRefIdeal.main_arg1) = m ((c.tc : Thread Cert.RglruIdeal.nD Cert.RglruIdeal.τ).loc Cert.RglruIdeal.main_arg1)
      ∧ m' ((c.tc : Thread Cert.RglruRefIdeal.nD Cert.RglruRefIdeal.τ).loc Cert.RglruRefIdeal.main_arg2) = m ((c.tc : Thread Cert.RglruIdeal.nD Cert.RglruIdeal.τ).loc Cert.RglruIdeal.main_arg2)
      ∧ m' ((c.tc : Thread Cert.RglruRefIdeal.nD Cert.RglruRefIdeal.τ).loc Cert.RglruRefIdeal.main_arg3) = m ((c.tc : Thread Cert.RglruIdeal.nD Cert.RglruIdeal.τ).loc Cert.RglruIdeal.main_arg3)
      ∧ m' ((c.tc : Thread Cert.RglruRefIdeal.nD Cert.RglruRefIdeal.τ).loc Cert.RglruRefIdeal.main_arg4) = m ((c.tc : Thread Cert.RglruIdeal.nD Cert.RglruIdeal.τ).loc Cert.RglruIdeal.main_arg4)
      ∧ m' ((c.tc : Thread Cert.RglruRefIdeal.nD Cert.RglruRefIdeal.τ).loc Cert.RglruRefIdeal.main_arg5) = m ((c.tc : Thread Cert.RglruIdeal.nD Cert.RglruIdeal.τ).loc Cert.RglruIdeal.main_arg5)
      ∧ m' ((c.tc : Thread Cert.RglruRefIdeal.nD Cert.RglruRefIdeal.τ).loc Cert.RglruRefIdeal.main_arg6) = m ((c.tc : Thread Cert.RglruIdeal.nD Cert.RglruIdeal.τ).loc Cert.RglruIdeal.main_arg6)
      ∧ m' ((c.tc : Thread Cert.RglruRefIdeal.nD Cert.RglruRefIdeal.τ).loc Cert.RglruRefIdeal.main_arg7) = m ((c.tc : Thread Cert.RglruIdeal.nD Cert.RglruIdeal.τ).loc Cert.RglruIdeal.main_arg7)
      ∧ m' ((c.tc : Thread Cert.RglruRefIdeal.nD Cert.RglruRefIdeal.τ).loc Cert.RglruRefIdeal.main_arg8) = m ((c.tc : Thread Cert.RglruIdeal.nD Cert.RglruIdeal.τ).loc Cert.RglruIdeal.main_arg8)
      ∧ m' ((c.tc : Thread Cert.RglruRefIdeal.nD Cert.RglruRefIdeal.τ).loc Cert.RglruRefIdeal.main_arg9) = m ((c.tc : Thread Cert.RglruIdeal.nD Cert.RglruIdeal.τ).loc Cert.RglruIdeal.main_arg9)
      ∧ m' ((c.tc : Thread Cert.RglruRefIdeal.nD Cert.RglruRefIdeal.τ).loc Cert.RglruRefIdeal.main_arg10) = m ((c.tc : Thread Cert.RglruIdeal.nD Cert.RglruIdeal.τ).loc Cert.RglruIdeal.main_arg10)) →
    ∃ (v0 : (c : Dev Cert.RglruIdeal.nD) → Buf (Elt Ideal) ((c.tc : Thread Cert.RglruIdeal.nD Cert.RglruIdeal.τ).loc Cert.RglruIdeal.main_v25_0)) (v1 : (c : Dev Cert.RglruIdeal.nD) → Buf (Elt Ideal) ((c.tc : Thread Cert.RglruIdeal.nD Cert.RglruIdeal.τ).loc Cert.RglruIdeal.main_v25_1)),
      θ_run (Cert.RglruIdeal.defs (F := Ideal)) (onTc (τ := Cert.RglruIdeal.τ) (Cert.RglruIdeal.main (F := Ideal))) ⟨m, fun _ => 0, g⟩ (fun r => ∀ c : Dev Cert.RglruIdeal.nD,
          r.2.mem ((c.tc : Thread Cert.RglruIdeal.nD Cert.RglruIdeal.τ).loc Cert.RglruIdeal.main_v25_0) = v0 c
          ∧ r.2.mem ((c.tc : Thread Cert.RglruIdeal.nD Cert.RglruIdeal.τ).loc Cert.RglruIdeal.main_v25_1) = v1 c
          ∧ r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
          ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
          ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
          ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
          ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
          ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
          ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
          ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7)
          ∧ r.2.mem ((c.tc : Thread Cert.RglruIdeal.nD Cert.RglruIdeal.τ).loc Cert.RglruIdeal.main_arg8) = m ((c.tc : Thread Cert.RglruIdeal.nD Cert.RglruIdeal.τ).loc Cert.RglruIdeal.main_arg8)
          ∧ r.2.mem ((c.tc : Thread Cert.RglruIdeal.nD Cert.RglruIdeal.τ).loc Cert.RglruIdeal.main_arg9) = m ((c.tc : Thread Cert.RglruIdeal.nD Cert.RglruIdeal.τ).loc Cert.RglruIdeal.main_arg9)
          ∧ r.2.mem ((c.tc : Thread Cert.RglruIdeal.nD Cert.RglruIdeal.τ).loc Cert.RglruIdeal.main_arg10) = m ((c.tc : Thread Cert.RglruIdeal.nD Cert.RglruIdeal.τ).loc Cert.RglruIdeal.main_arg10))
      ∧ θ_run (Cert.RglruRefIdeal.defs (F := Ideal)) (onTc (τ := Cert.RglruRefIdeal.τ) (Cert.RglruRefIdeal.main (F := Ideal))) ⟨m', fun _ => 0, g'⟩ (fun r => ∀ c : Dev Cert.RglruRefIdeal.nD,
          r.2.mem ((c.tc : Thread Cert.RglruRefIdeal.nD Cert.RglruRefIdeal.τ).loc Cert.RglruRefIdeal.main_v88) = v0 c
          ∧ r.2.mem ((c.tc : Thread Cert.RglruRefIdeal.nD Cert.RglruRefIdeal.τ).loc Cert.RglruRefIdeal.main_v73_4) = v1 c
          ∧ r.2.mem ((c.tc : Thread Cert.RglruRefIdeal.nD Cert.RglruRefIdeal.τ).loc Cert.RglruRefIdeal.main_arg0) = m' ((c.tc : Thread Cert.RglruRefIdeal.nD Cert.RglruRefIdeal.τ).loc Cert.RglruRefIdeal.main_arg0)
          ∧ r.2.mem ((c.tc : Thread Cert.RglruRefIdeal.nD Cert.RglruRefIdeal.τ).loc Cert.RglruRefIdeal.main_arg1) = m' ((c.tc : Thread Cert.RglruRefIdeal.nD Cert.RglruRefIdeal.τ).loc Cert.RglruRefIdeal.main_arg1)
          ∧ r.2.mem ((c.tc : Thread Cert.RglruRefIdeal.nD Cert.RglruRefIdeal.τ).loc Cert.RglruRefIdeal.main_arg2) = m' ((c.tc : Thread Cert.RglruRefIdeal.nD Cert.RglruRefIdeal.τ).loc Cert.RglruRefIdeal.main_arg2)
          ∧ r.2.mem ((c.tc : Thread Cert.RglruRefIdeal.nD Cert.RglruRefIdeal.τ).loc Cert.RglruRefIdeal.main_arg3) = m' ((c.tc : Thread Cert.RglruRefIdeal.nD Cert.RglruRefIdeal.τ).loc Cert.RglruRefIdeal.main_arg3)
          ∧ r.2.mem ((c.tc : Thread Cert.RglruRefIdeal.nD Cert.RglruRefIdeal.τ).loc Cert.RglruRefIdeal.main_arg4) = m' ((c.tc : Thread Cert.RglruRefIdeal.nD Cert.RglruRefIdeal.τ).loc Cert.RglruRefIdeal.main_arg4)
          ∧ r.2.mem ((c.tc : Thread Cert.RglruRefIdeal.nD Cert.RglruRefIdeal.τ).loc Cert.RglruRefIdeal.main_arg5) = m' ((c.tc : Thread Cert.RglruRefIdeal.nD Cert.RglruRefIdeal.τ).loc Cert.RglruRefIdeal.main_arg5)
          ∧ r.2.mem ((c.tc : Thread Cert.RglruRefIdeal.nD Cert.RglruRefIdeal.τ).loc Cert.RglruRefIdeal.main_arg6) = m' ((c.tc : Thread Cert.RglruRefIdeal.nD Cert.RglruRefIdeal.τ).loc Cert.RglruRefIdeal.main_arg6)
          ∧ r.2.mem ((c.tc : Thread Cert.RglruRefIdeal.nD Cert.RglruRefIdeal.τ).loc Cert.RglruRefIdeal.main_arg7) = m' ((c.tc : Thread Cert.RglruRefIdeal.nD Cert.RglruRefIdeal.τ).loc Cert.RglruRefIdeal.main_arg7)
          ∧ r.2.mem ((c.tc : Thread Cert.RglruRefIdeal.nD Cert.RglruRefIdeal.τ).loc Cert.RglruRefIdeal.main_arg8) = m' ((c.tc : Thread Cert.RglruRefIdeal.nD Cert.RglruRefIdeal.τ).loc Cert.RglruRefIdeal.main_arg8)
          ∧ r.2.mem ((c.tc : Thread Cert.RglruRefIdeal.nD Cert.RglruRefIdeal.τ).loc Cert.RglruRefIdeal.main_arg9) = m' ((c.tc : Thread Cert.RglruRefIdeal.nD Cert.RglruRefIdeal.τ).loc Cert.RglruRefIdeal.main_arg9)
          ∧ r.2.mem ((c.tc : Thread Cert.RglruRefIdeal.nD Cert.RglruRefIdeal.τ).loc Cert.RglruRefIdeal.main_arg10) = m' ((c.tc : Thread Cert.RglruRefIdeal.nD Cert.RglruRefIdeal.τ).loc Cert.RglruRefIdeal.main_arg10))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)) →
    ∃ (v0 : (c : Dev Cert.FfnIdeal.nD) → Buf (Elt Ideal) ((c.tc : Thread Cert.FfnIdeal.nD Cert.FfnIdeal.τ).loc Cert.FfnIdeal.main_v17_0)) (v1 : (c : Dev Cert.FfnIdeal.nD) → Buf (Elt Ideal) ((c.tc : Thread Cert.FfnIdeal.nD Cert.FfnIdeal.τ).loc Cert.FfnIdeal.main_v17_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v17_0) = v0 c
          ∧ r.2.mem ((c.tc : Thread Cert.FfnIdeal.nD Cert.FfnIdeal.τ).loc Cert.FfnIdeal.main_v17_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v75) = v0 c
          ∧ r.2.mem ((c.tc : Thread Cert.FfnRefIdeal.nD Cert.FfnRefIdeal.τ).loc Cert.FfnRefIdeal.main_v76) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v19_0)) (v1 : (c : Dev Cert.ProjIdeal.nD) → Buf (Elt Ideal) ((c.tc : Thread Cert.ProjIdeal.nD Cert.ProjIdeal.τ).loc Cert.ProjIdeal.main_v19_1)) (v2 : (c : Dev Cert.ProjIdeal.nD) → Buf (Elt Ideal) ((c.tc : Thread Cert.ProjIdeal.nD Cert.ProjIdeal.τ).loc Cert.ProjIdeal.main_v19_2)) (v3 : (c : Dev Cert.ProjIdeal.nD) → Buf (Elt Ideal) ((c.tc : Thread Cert.ProjIdeal.nD Cert.ProjIdeal.τ).loc Cert.ProjIdeal.main_v19_3)) (v4 : (c : Dev Cert.ProjIdeal.nD) → Buf (Elt Ideal) ((c.tc : Thread Cert.ProjIdeal.nD Cert.ProjIdeal.τ).loc Cert.ProjIdeal.main_v19_4)) (v5 : (c : Dev Cert.ProjIdeal.nD) → Buf (Elt Ideal) ((c.tc : Thread Cert.ProjIdeal.nD Cert.ProjIdeal.τ).loc Cert.ProjIdeal.main_v19_5)) (v6 : (c : Dev Cert.ProjIdeal.nD) → Buf (Elt Ideal) ((c.tc : Thread Cert.ProjIdeal.nD Cert.ProjIdeal.τ).loc Cert.ProjIdeal.main_v19_6)) (v7 : (c : Dev Cert.ProjIdeal.nD) → Buf (Elt Ideal) ((c.tc : Thread Cert.ProjIdeal.nD Cert.ProjIdeal.τ).loc Cert.ProjIdeal.main_v19_7)) (v8 : (c : Dev Cert.ProjIdeal.nD) → Buf (Elt Ideal) ((c.tc : Thread Cert.ProjIdeal.nD Cert.ProjIdeal.τ).loc Cert.ProjIdeal.main_v19_8)) (v9 : (c : Dev Cert.ProjIdeal.nD) → Buf (Elt Ideal) ((c.tc : Thread Cert.ProjIdeal.nD Cert.ProjIdeal.τ).loc Cert.ProjIdeal.main_v19_9)) (v10 : (c : Dev Cert.ProjIdeal.nD) → Buf (Elt Ideal) ((c.tc : Thread Cert.ProjIdeal.nD Cert.ProjIdeal.τ).loc Cert.ProjIdeal.main_v19_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v19_0) = v0 c
          ∧ r.2.mem ((c.tc : Thread Cert.ProjIdeal.nD Cert.ProjIdeal.τ).loc Cert.ProjIdeal.main_v19_1) = v1 c
          ∧ r.2.mem ((c.tc : Thread Cert.ProjIdeal.nD Cert.ProjIdeal.τ).loc Cert.ProjIdeal.main_v19_2) = v2 c
          ∧ r.2.mem ((c.tc : Thread Cert.ProjIdeal.nD Cert.ProjIdeal.τ).loc Cert.ProjIdeal.main_v19_3) = v3 c
          ∧ r.2.mem ((c.tc : Thread Cert.ProjIdeal.nD Cert.ProjIdeal.τ).loc Cert.ProjIdeal.main_v19_4) = v4 c
          ∧ r.2.mem ((c.tc : Thread Cert.ProjIdeal.nD Cert.ProjIdeal.τ).loc Cert.ProjIdeal.main_v19_5) = v5 c
          ∧ r.2.mem ((c.tc : Thread Cert.ProjIdeal.nD Cert.ProjIdeal.τ).loc Cert.ProjIdeal.main_v19_6) = v6 c
          ∧ r.2.mem ((c.tc : Thread Cert.ProjIdeal.nD Cert.ProjIdeal.τ).loc Cert.ProjIdeal.main_v19_7) = v7 c
          ∧ r.2.mem ((c.tc : Thread Cert.ProjIdeal.nD Cert.ProjIdeal.τ).loc Cert.ProjIdeal.main_v19_8) = v8 c
          ∧ r.2.mem ((c.tc : Thread Cert.ProjIdeal.nD Cert.ProjIdeal.τ).loc Cert.ProjIdeal.main_v19_9) = v9 c
          ∧ r.2.mem ((c.tc : Thread Cert.ProjIdeal.nD Cert.ProjIdeal.τ).loc Cert.ProjIdeal.main_v19_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v31) = v0 c
          ∧ r.2.mem ((c.tc : Thread Cert.ProjRefIdeal.nD Cert.ProjRefIdeal.τ).loc Cert.ProjRefIdeal.main_v16) = v1 c
          ∧ r.2.mem ((c.tc : Thread Cert.ProjRefIdeal.nD Cert.ProjRefIdeal.τ).loc Cert.ProjRefIdeal.main_v17) = v2 c
          ∧ r.2.mem ((c.tc : Thread Cert.ProjRefIdeal.nD Cert.ProjRefIdeal.τ).loc Cert.ProjRefIdeal.main_v32) = v3 c
          ∧ r.2.mem ((c.tc : Thread Cert.ProjRefIdeal.nD Cert.ProjRefIdeal.τ).loc Cert.ProjRefIdeal.main_v33) = v4 c
          ∧ r.2.mem ((c.tc : Thread Cert.ProjRefIdeal.nD Cert.ProjRefIdeal.τ).loc Cert.ProjRefIdeal.main_v34) = v5 c
          ∧ r.2.mem ((c.tc : Thread Cert.ProjRefIdeal.nD Cert.ProjRefIdeal.τ).loc Cert.ProjRefIdeal.main_v19) = v6 c
          ∧ r.2.mem ((c.tc : Thread Cert.ProjRefIdeal.nD Cert.ProjRefIdeal.τ).loc Cert.ProjRefIdeal.main_v35) = v7 c
          ∧ r.2.mem ((c.tc : Thread Cert.ProjRefIdeal.nD Cert.ProjRefIdeal.τ).loc Cert.ProjRefIdeal.main_v29) = v8 c
          ∧ r.2.mem ((c.tc : Thread Cert.ProjRefIdeal.nD Cert.ProjRefIdeal.τ).loc Cert.ProjRefIdeal.main_v21) = v9 c
          ∧ r.2.mem ((c.tc : Thread Cert.ProjRefIdeal.nD Cert.ProjRefIdeal.τ).loc Cert.ProjRefIdeal.main_v22) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def Claim : Prop :=
  ∃ (hRglru : Cert.Rglru.Facts) (hRglruIdeal : Cert.RglruIdeal.Facts) (hRglruRefIdeal : Cert.RglruRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts),
    quiescent_Rglru (hRglru := hRglru)
    ∧ quiescent_RglruIdeal (hRglruIdeal := hRglruIdeal)
    ∧ quiescent_RglruRefIdeal (hRglruRefIdeal := hRglruRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ preserves_Rglru_RglruIdeal
    ∧ algebraic_RglruIdeal_RglruRefIdeal (hRglruIdeal := hRglruIdeal) (hRglruRefIdeal := hRglruRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
-- ==== Rglru.lean ====
abbrev S8x4096x512 : Shape := ⟨3, ![8, 4096, 512]⟩
abbrev S8x512 : Shape := ⟨2, ![8, 512]⟩
abbrev S8x3x512 : Shape := ⟨3, ![8, 3, 512]⟩
abbrev S4x512 : Shape := ⟨2, ![4, 512]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x1x512 : Shape := ⟨3, ![8, 1, 512]⟩
abbrev S1x512 : Shape := ⟨2, ![1, 512]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S1x512x512 : Shape := ⟨3, ![1, 512, 512]⟩
abbrev S1x1x512 : Shape := ⟨3, ![1, 1, 512]⟩
abbrev S1x3x512 : Shape := ⟨3, ![1, 3, 512]⟩
abbrev S520x512 : Shape := ⟨2, ![520, 512]⟩
abbrev S3x512 : Shape := ⟨2, ![3, 512]⟩
abbrev S65x8x512 : Shape := ⟨3, ![65, 8, 512]⟩
abbrev S64x8x512 : Shape := ⟨3, ![64, 8, 512]⟩

abbrev nBuf : Space → Nat
  | .hbm => 39
  | .vmem => 24
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x512, .f32⟩
  | .hbm, ⟨3, _⟩ => ⟨S8x3x512, .f32⟩
  | .hbm, ⟨4, _⟩ => ⟨S4x512, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S512, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S8x1x512, .f32⟩
  | .hbm, ⟨19, _⟩ => ⟨S1x512, .f32⟩
  | .hbm, ⟨20, _⟩ => ⟨S8x64x1x64, .f32⟩
  | .hbm, ⟨21, _⟩ => ⟨S8x1x8x1, .f32⟩
  | .hbm, ⟨22, _⟩ => ⟨S8x64x8x64, .f32⟩
  | .hbm, ⟨23, _⟩ => ⟨S8x64x8x64, .f32⟩
  | .hbm, ⟨24, _⟩ => ⟨S8x64x8x64, .f32⟩
  | .hbm, ⟨25, _⟩ => ⟨S512x512, .f32⟩
  | .hbm, ⟨26, _⟩ => ⟨S512x512, .bf16⟩
  | .hbm, ⟨27, _⟩ => ⟨S1x512, .f32⟩
  | .hbm, ⟨28, _⟩ => ⟨S8x64x1x64, .f32⟩
  | .hbm, ⟨29, _⟩ => ⟨S8x1x8x1, .f32⟩
  | .hbm, ⟨30, _⟩ => ⟨S8x64x8x64, .f32⟩
  | .hbm, ⟨31, _⟩ => ⟨S8x64x8x64, .f32⟩
  | .hbm, ⟨32, _⟩ => ⟨S8x64x8x64, .f32⟩
  | .hbm, ⟨33, _⟩ => ⟨S512x512, .f32⟩
  | .hbm, ⟨34, _⟩ => ⟨S512x512, .bf16⟩
  | .hbm, ⟨35, _⟩ => ⟨S1x512, .f32⟩
  | .hbm, ⟨36, _⟩ => ⟨S1x512, .f32⟩
  | .hbm, ⟨37, _⟩ => ⟨S8x4096x512, .bf16⟩
  | .hbm, ⟨38, _⟩ => ⟨S8x1x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x3x512, .f32⟩
  | .local _ .vmem, ⟨7, _⟩ => ⟨S1x3x512, .f32⟩
  | .local _ .vmem, ⟨8, _⟩ => ⟨S4x512, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S1x512x512, .bf16⟩
  | .local _ .vmem, ⟨16, _⟩ => ⟨S1x512x512, .bf16⟩
  | .local _ .vmem, ⟨17, _⟩ => ⟨S1x1x512, .f32⟩
  | .local _ .vmem, ⟨18, _⟩ => ⟨S1x1x512, .f32⟩
  | .local _ .vmem, ⟨19, _⟩ => ⟨S520x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S8x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_58 : BitVec 32 := 0#32
  let c64_i32 : BitVec 32 := 64#32
  let v159 : BitVec 32 := Scalar.addi c0_i32_58 c64_i32
  let c1_i32_59 : BitVec 32 := 1#32
  ⟨c0_i32_58, v159, c1_i32_59⟩
def k0_mult1 (k0_t1 : Fin k0_t1_loop.trips) : BitVec 32 :=
  let c0_i32_58 : BitVec 32 := 0#32
  let c1_i32_59 : BitVec 32 := 1#32
  let arg20 : BitVec 32 := Scf.iv c0_i32_58 c1_i32_59 k0_t1
  let c8_i32 : BitVec 32 := 8#32
  let v188 : BitVec 32 := Scalar.muli arg20 c8_i32
  v188
def k0_off1 (k0_t1 : Fin k0_t1_loop.trips) : Fin 2 → Nat :=
  let c0_i32_58 : BitVec 32 := 0#32
  let c1_i32_59 : BitVec 32 := 1#32
  let arg20 : BitVec 32 := Scf.iv c0_i32_58 c1_i32_59 k0_t1
  let c8_i32 : BitVec 32 := 8#32
  let v188 : BitVec 32 := Scalar.muli arg20 c8_i32
  let v189 : BitVec 32 := v188
  let v190 : Index := Scalar.indexCast v189
  let c0_76 : Index := 0#32
  ![v190.toNat, 0]
def k0_cond2 (i : grid0.Coords) : BitVec 1 :=
  let arg1 : BitVec 32 := BitVec.ofNat 32 (i 1).val
  let c7_i32 : BitVec 32 := 7#32
  let v185 : BitVec 1 := Scalar.cmpi .eq arg1 c7_i32
  let v186 : BitVec 32 := Scalar.extui v185
  let c0_i32_75 : BitVec 32 := 0#32
  let v187 : BitVec 1 := Scalar.cmpi .ne v186 c0_i32_75
  v187

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== RglruRefIdeal.lean ====
abbrev S8x4096x512 : Shape := ⟨3, ![8, 4096, 512]⟩
abbrev S8x512 : Shape := ⟨2, ![8, 512]⟩
abbrev S8x3x512 : Shape := ⟨3, ![8, 3, 512]⟩
abbrev S4x512 : Shape := ⟨2, ![4, 512]⟩
abbrev S512 : Shape := ⟨1, ![512]⟩
abbrev S8x64x64 : Shape := ⟨3, ![8, 64, 64]⟩
abbrev S8x4099x512 : Shape := ⟨3, ![8, 4099, 512]⟩
abbrev S1x512 : Shape := ⟨2, ![1, 512]⟩
abbrev S1x1x512 : Shape := ⟨3, ![1, 1, 512]⟩
abbrev S8x4096x8x64 : Shape := ⟨4, ![8, 4096, 8, 64]⟩
abbrev S8x64x8x4096 : Shape := ⟨4, ![8, 64, 8, 4096]⟩
abbrev S_ : Shape := ⟨0, ![]⟩
abbrev S8x1x512 : Shape := ⟨3, ![8, 1, 512]⟩

abbrev nBuf : Space → Nat
  | .hbm => 166
  | .vmem => 0
  | .smem => 0
  | _ => 0

abbrev hbmTy0_0 (i : Nat) : BufTy := match i % 128 with
  | 0 => ⟨S8x4096x512, .f32⟩
  | 1 => ⟨S8x4096x512, .f32⟩
  | 2 => ⟨S8x512, .f32⟩
  | 3 => ⟨S8x3x512, .f32⟩
  | 4 => ⟨S4x512, .f32⟩
  | 5 => ⟨S512, .f32⟩
  | 6 => ⟨S8x64x64, .f32⟩
  | 7 => ⟨S512, .f32⟩
  | 8 => ⟨S8x64x64, .f32⟩
  | 9 => ⟨S512, .f32⟩
  | 10 => ⟨S512, .f32⟩
  | 11 => ⟨S8x4099x512, .f32⟩
  | 12 => ⟨S1x512, .f32⟩
  | 13 => ⟨S512, .f32⟩
  | 14 => ⟨S8x4096x512, .f32⟩
  | 15 => ⟨S1x1x512, .f32⟩
  | 16 => ⟨S8x4096x512, .f32⟩
  | 17 => ⟨S8x4096x512, .f32⟩
  | 18 => ⟨S1x1x512, .f32⟩
  | 19 => ⟨S8x4096x512, .f32⟩
  | 20 => ⟨S8x4096x512, .f32⟩
  | 21 => ⟨S1x512, .f32⟩
  | 22 => ⟨S512, .f32⟩
  | 23 => ⟨S8x4096x512, .f32⟩
  | 24 => ⟨S1x1x512, .f32⟩
  | 25 => ⟨S8x4096x512, .f32⟩
  | 26 => ⟨S8x4096x512, .f32⟩
  | 27 => ⟨S8x4096x512, .f32⟩
  | 28 => ⟨S1x512, .f32⟩
  | 29 => ⟨S512, .f32⟩
  | 30 => ⟨S8x4096x512, .f32⟩
  | 31 => ⟨S1x1x512, .f32⟩
  | 32 => ⟨S8x4096x512, .f32⟩
  | 33 => ⟨S8x4096x512, .f32⟩
  | 34 => ⟨S8x4096x512, .f32⟩
  | 35 => ⟨S1x512, .f32⟩
  | 36 => ⟨S512, .f32⟩
  | 37 => ⟨S8x4096x512, .f32⟩
  | 38 => ⟨S1x1x512, .f32⟩
  | 39 => ⟨S8x4096x512, .f32⟩
  | 40 => ⟨S8x4096x512, .f32⟩
  | 41 => ⟨S8x4096x512, .f32⟩
  | 42 => ⟨S8x4096x8x64, .f32⟩
  | 43 => ⟨S8x64x8x4096, .f32⟩
  | 44 => ⟨S8x4096x8x64, .f32⟩
  | 45 => ⟨S8x4096x512, .f32⟩
  | 46 => ⟨S1x1x512, .f32⟩
  | 47 => ⟨S8x4096x512, .f32⟩
  | 48 => ⟨S8x4096x512, .f32⟩
  | 49 => ⟨S8x4096x512, .f32⟩
  | 50 => ⟨S8x4096x512, .f32⟩
  | 51 => ⟨S_, .f32⟩
  | 52 => ⟨S8x4096x512, .f32⟩
  | 53 => ⟨S8x4096x512, .f32⟩
  | 54 => ⟨S_, .f32⟩
  | 55 => ⟨S8x4096x512, .f32⟩
  | 56 => ⟨S8x4096x512, .f32⟩
  | 57 => ⟨S8x64x8x4096, .f32⟩
  | 58 => ⟨S8x4096x8x64, .f32⟩
  | 59 => ⟨S8x4096x512, .f32⟩
  | 60 => ⟨S1x1x512, .f32⟩
  | 61 => ⟨S8x4096x512, .f32⟩
  | 62 => ⟨S8x4096x512, .f32⟩
  | 63 => ⟨S8x4096x512, .f32⟩
  | 64 => ⟨S8x4096x512, .f32⟩
  | 65 => ⟨S_, .f32⟩
  | 66 => ⟨S8x4096x512, .f32⟩
  | 67 => ⟨S8x4096x512, .f32⟩
  | 68 => ⟨S_, .f32⟩
  | 69 => ⟨S8x4096x512, .f32⟩
  | 70 => ⟨S8x4096x512, .f32⟩
  | 71 => ⟨S_, .f32⟩
  | 72 => ⟨S8x4096x512, .f32⟩
  | 73 => ⟨S8x4096x512, .f32⟩
  | 74 => ⟨S512, .f32⟩
  | 75 => ⟨S_, .f32⟩
  | 76 => ⟨S512, .f32⟩
  | 77 => ⟨S512, .f32⟩
  | 78 => ⟨S512, .f32⟩
  | 79 => ⟨S512, .f32⟩
  | 80 => ⟨S512, .i1⟩
  | 81 => ⟨S512, .f32⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S1x1x512, .f32⟩
  | 90 => ⟨S8x4096x512, .f32⟩
  | 91 => ⟨S8x4096x512, .f32⟩
  | 92 => ⟨S8x4096x512, .f32⟩
  | 93 => ⟨S_, .f32⟩
  | 94 => ⟨S8x4096x512, .f32⟩
  | 95 => ⟨S8x4096x512, .f32⟩
  | 96 => ⟨S8x4096x512, .f32⟩
  | 97 => ⟨S8x4096x512, .f32⟩
  | 98 => ⟨S8x4096x512, .f32⟩
  | 99 => ⟨S8x4096x512, .f32⟩
  | 100 => ⟨S8x4096x512, .f32⟩
  | 101 => ⟨S8x1x512, .f32⟩
  | 102 => ⟨S_, .f32⟩
  | 103 => ⟨S8x4096x512, .f32⟩
  | 104 => ⟨S_, .i32⟩
  | 105 => ⟨S_, .i32⟩
  | 106 => ⟨S8x4096x512, .f32⟩
  | 107 => ⟨S8x4096x512, .f32⟩
  | 108 => ⟨S_, .i32⟩
  | 109 => ⟨S_, .i32⟩
  | 110 => ⟨S8x1x512, .f32⟩
  | 111 => ⟨S8x4096x512, .f32⟩
  | 112 => ⟨S_, .i32⟩
  | 113 => ⟨S_, .i1⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S8x1x512, .f32⟩
  | 125 => ⟨S8x1x512, .f32⟩
  | 126 => ⟨S_, .i32⟩
  | 127 => ⟨S_, .i1⟩
  | _ => ⟨S8x4096x512, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S8x1x512, .f32⟩
  | 7 => ⟨S8x1x512, .f32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S8x4096x512, .f32⟩
  | 17 => ⟨S_, .i32⟩
  | 18 => ⟨S_, .i32⟩
  | 19 => ⟨S8x4096x512, .f32⟩
  | 20 => ⟨S8x4096x512, .f32⟩
  | 21 => ⟨S_, .f32⟩
  | 22 => ⟨S8x4096x512, .f32⟩
  | 23 => ⟨S8x4096x512, .f32⟩
  | 24 => ⟨S8x4096x512, .f32⟩
  | 25 => ⟨S_, .f32⟩
  | 26 => ⟨S8x4096x512, .f32⟩
  | 27 => ⟨S8x4096x512, .f32⟩
  | 28 => ⟨S8x4096x512, .f32⟩
  | 29 => ⟨S_, .f32⟩
  | 30 => ⟨S8x4096x512, .f32⟩
  | 31 => ⟨S8x4096x512, .f32⟩
  | 32 => ⟨S_, .f32⟩
  | 33 => ⟨S8x4096x512, .f32⟩
  | 34 => ⟨S8x4096x512, .f32⟩
  | 35 => ⟨S8x4096x512, .f32⟩
  | 36 => ⟨S8x4096x512, .f32⟩
  | 37 => ⟨S8x4096x512, .bf16⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst : Ref sig .tc := ⟨.hbm, 51, rfl⟩
abbrev main_v40 : Ref sig .tc := ⟨.hbm, 52, rfl⟩
abbrev main_v41 : Ref sig .tc := ⟨.hbm, 53, rfl⟩
abbrev main_cst_0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_4 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_5 : Ref sig .tc := ⟨.hbm, 102, rfl⟩
abbrev main_v72 : Ref sig .tc := ⟨.hbm, 103, rfl⟩
abbrev main_c : Ref sig .tc := ⟨.hbm, 104, rfl⟩
abbrev main_c_6 : Ref sig .tc := ⟨.hbm, 105, rfl⟩
abbrev main_v73_0 : Ref sig .tc := ⟨.hbm, 106, rfl⟩
abbrev main_v73_1 : Ref sig .tc := ⟨.hbm, 107, rfl⟩
abbrev main_v73_2 : Ref sig .tc := ⟨.hbm, 108, rfl⟩
abbrev main_v73_3 : Ref sig .tc := ⟨.hbm, 109, rfl⟩
abbrev main_v73_4 : Ref sig .tc := ⟨.hbm, 110, rfl⟩
abbrev main_v73_5 : Ref sig .tc := ⟨.hbm, 111, rfl⟩
abbrev main_while0c_c_16 : Ref sig .tc := ⟨.hbm, 112, rfl⟩
abbrev main_while0c_v89 : Ref sig .tc := ⟨.hbm, 113, rfl⟩
abbrev main_while0b_c_16 : Ref sig .tc := ⟨.hbm, 114, rfl⟩
abbrev main_while0b_v89 : Ref sig .tc := ⟨.hbm, 115, rfl⟩
abbrev main_while0b_c_17 : Ref sig .tc := ⟨.hbm, 116, rfl⟩
abbrev main_while0b_v90 : Ref sig .tc := ⟨.hbm, 117, rfl⟩
abbrev main_while0b_v91 : Ref sig .tc := ⟨.hbm, 118, rfl⟩
abbrev main_while0b_c_18 : Ref sig .tc := ⟨.hbm, 119, rfl⟩
abbrev main_while0b_v92 : Ref sig .tc := ⟨.hbm, 120, rfl⟩
abbrev main_while0b_v93 : Ref sig .tc := ⟨.hbm, 121, rfl⟩
abbrev main_while0b_c_19 : Ref sig .tc := ⟨.hbm, 122, rfl⟩
abbrev main_while0b_c_20 : Ref sig .tc := ⟨.hbm, 123, rfl⟩
abbrev main_while0b_v94 : Ref sig .tc := ⟨.hbm, 124, rfl⟩
abbrev main_while0b_v95 : Ref sig .tc := ⟨.hbm, 125, rfl⟩
abbrev main_while0b_c_21 : Ref sig .tc := ⟨.hbm, 126, rfl⟩
abbrev main_while0b_v96 : Ref sig .tc := ⟨.hbm, 127, rfl⟩
abbrev main_while0b_v97 : Ref sig .tc := ⟨.hbm, 128, rfl⟩
abbrev main_while0b_c_22 : Ref sig .tc := ⟨.hbm, 129, rfl⟩
abbrev main_while0b_v98 : Ref sig .tc := ⟨.hbm, 130, rfl⟩
abbrev main_while0b_v99 : Ref sig .tc := ⟨.hbm, 131, rfl⟩
abbrev main_while0b_c_23 : Ref sig .tc := ⟨.hbm, 132, rfl⟩
abbrev main_while0b_c_24 : Ref sig .tc := ⟨.hbm, 133, rfl⟩
abbrev main_while0b_v100 : Ref sig .tc := ⟨.hbm, 134, rfl⟩
abbrev main_while0b_v101 : Ref sig .tc := ⟨.hbm, 135, rfl⟩
abbrev main_while0b_c_25 : Ref sig .tc := ⟨.hbm, 136, rfl⟩
abbrev main_while0b_v102 : Ref sig .tc := ⟨.hbm, 137, rfl⟩
abbrev main_while0b_v103 : Ref sig .tc := ⟨.hbm, 138, rfl⟩
abbrev main_while0b_c_26 : Ref sig .tc := ⟨.hbm, 139, rfl⟩
abbrev main_while0b_v104 : Ref sig .tc := ⟨.hbm, 140, rfl⟩
abbrev main_while0b_v105 : Ref sig .tc := ⟨.hbm, 141, rfl⟩
abbrev main_while0b_c_27 : Ref sig .tc := ⟨.hbm, 142, rfl⟩
abbrev main_while0b_c_28 : Ref sig .tc := ⟨.hbm, 143, rfl⟩
abbrev main_while0b_v106 : Ref sig .tc := ⟨.hbm, 144, rfl⟩
abbrev main_while0b_c_29 : Ref sig .tc := ⟨.hbm, 145, rfl⟩
abbrev main_while0b_v107 : Ref sig .tc := ⟨.hbm, 146, rfl⟩
abbrev main_v74 : Ref sig .tc := ⟨.hbm, 147, rfl⟩
abbrev main_v75 : Ref sig .tc := ⟨.hbm, 148, rfl⟩
abbrev main_cst_7 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_cst_8 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_cst_9 : Ref sig .tc := ⟨.hbm, 157, rfl⟩
abbrev main_v82 : Ref sig .tc := ⟨.hbm, 158, rfl⟩
abbrev main_v83 : Ref sig .tc := ⟨.hbm, 159, rfl⟩
abbrev main_cst_10 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩

abbrev nD : Nat := 1
abbrev τ : Topo := Topo.v7x

variable {F : FTy → Type} [FloatOps F]

abbrev main_while0_count : Scf.Loop 32 := ⟨0#32, 4096#32, 1#32⟩
-- ==== Ffn.lean ====
abbrev S8x4096x1024 : Shape := ⟨3, ![8, 4096, 1024]⟩
abbrev S8x4096x512 : Shape := ⟨3, ![8, 4096, 512]⟩
abbrev S8x2x2816 : Shape := ⟨3, ![8, 2, 2816]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S8 : Shape := ⟨1, ![8]⟩
abbrev S512x1024 : Shape := ⟨2, ![512, 1024]⟩
abbrev S8x64x1024 : Shape := ⟨3, ![8, 64, 1024]⟩
abbrev S_ : Shape := ⟨0, ![]⟩
abbrev S8x1 : Shape := ⟨2, ![8, 1]⟩
abbrev S1x1024 : Shape := ⟨2, ![1, 1024]⟩
abbrev S1x2816 : Shape := ⟨2, ![1, 2816]⟩
abbrev S1x512x1024 : Shape := ⟨3, ![1, 512, 1024]⟩
abbrev S1x512x512 : Shape := ⟨3, ![1, 512, 512]⟩
abbrev S1x2x2816 : Shape := ⟨3, ![1, 2, 2816]⟩
abbrev S520x2816 : Shape := ⟨2, ![520, 2816]⟩
abbrev S2x2816 : Shape := ⟨2, ![2, 2816]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 34
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x2x2816, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S3x2816, .f32⟩
  | .hbm, ⟨9, _⟩ => ⟨S2816, .f32⟩
  | .hbm, ⟨10, _⟩ => ⟨S2816x1024, .f32⟩
  | .hbm, ⟨11, _⟩ => ⟨S1024, .f32⟩
  | .hbm, ⟨12, _⟩ => ⟨S8, .i32⟩
  | .hbm, ⟨13, _⟩ => ⟨S8, .i1⟩
  | .hbm, ⟨14, _⟩ => ⟨S512x1024, .f32⟩
  | .hbm, ⟨15, _⟩ => ⟨S8x64x1024, .f32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S8x1, .i32⟩
  | .hbm, ⟨21, _⟩ => ⟨S8x64x1024, .f32⟩
  | .hbm, ⟨22, _⟩ => ⟨S512x1024, .f32⟩
  | .hbm, ⟨23, _⟩ => ⟨S512x1024, .f32⟩
  | .hbm, ⟨24, _⟩ => ⟨S512x1024, .bf16⟩
  | .hbm, ⟨25, _⟩ => ⟨S512x1024, .bf16⟩
  | .hbm, ⟨26, _⟩ => ⟨S1x1024, .f32⟩
  | .hbm, ⟨27, _⟩ => ⟨S1024x2816, .bf16⟩
  | .hbm, ⟨28, _⟩ => ⟨S1024x2816, .bf16⟩
  | .hbm, ⟨29, _⟩ => ⟨S1x2816, .f32⟩
  | .hbm, ⟨30, _⟩ => ⟨S2816x1024, .bf16⟩
  | .hbm, ⟨31, _⟩ => ⟨S1x1024, .f32⟩
  | .hbm, ⟨32, _⟩ => ⟨S8x4096x1024, .f32⟩
  | .hbm, ⟨33, _⟩ => ⟨S8x2x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x2x2816, .f32⟩
  | .local _ .vmem, ⟨7, _⟩ => ⟨S1x2x2816, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S3x2816, .f32⟩
  | .local _ .vmem, ⟨14, _⟩ => ⟨S1x2816, .f32⟩
  | .local _ .vmem, ⟨15, _⟩ => ⟨S2816x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x2x2816, .f32⟩
  | .local _ .vmem, ⟨20, _⟩ => ⟨S1x2x2816, .f32⟩
  | .local _ .vmem, ⟨21, _⟩ => ⟨S520x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_c_1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v99 : BitVec 1 := Scalar.cmpi .eq arg1 c7_i32
  let v100 : BitVec 32 := Scalar.extui v99
  let c0_i32_54 : BitVec 32 := 0#32
  let v101 : BitVec 1 := Scalar.cmpi .ne v100 c0_i32_54
  v101

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnRefIdeal.lean ====
abbrev S8x4096x1024 : Shape := ⟨3, ![8, 4096, 1024]⟩
abbrev S8x4096x512 : Shape := ⟨3, ![8, 4096, 512]⟩
abbrev S8x2x2816 : Shape := ⟨3, ![8, 2, 2816]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S8x4096x4x2x64 : Shape := ⟨5, ![8, 4096, 4, 2, 64]⟩
abbrev S8x4096x2x4x64 : Shape := ⟨5, ![8, 4096, 2, 4, 64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x2x2816, .f32⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S3x2816, .f32⟩
  | .hbm, ⟨9, _⟩ => ⟨S2816, .f32⟩
  | .hbm, ⟨10, _⟩ => ⟨S2816x1024, .f32⟩
  | .hbm, ⟨11, _⟩ => ⟨S1024, .f32⟩
  | .hbm, ⟨12, _⟩ => ⟨S8x4096x512, .f32⟩
  | .hbm, ⟨13, _⟩ => ⟨S8x4096x4x2x64, .f32⟩
  | .hbm, ⟨14, _⟩ => ⟨S8x4096x2x4x64, .f32⟩
  | .hbm, ⟨15, _⟩ => ⟨S8x4096x512, .f32⟩
  | .hbm, ⟨16, _⟩ => ⟨S8x4096x512, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S8x4096x2816, .f32⟩
  | .hbm, ⟨37, _⟩ => ⟨S8x4098x2816, .f32⟩
  | .hbm, ⟨38, _⟩ => ⟨S1x2816, .f32⟩
  | .hbm, ⟨39, _⟩ => ⟨S2816, .f32⟩
  | .hbm, ⟨40, _⟩ => ⟨S8x4096x2816, .f32⟩
  | .hbm, ⟨41, _⟩ => ⟨S1x1x2816, .f32⟩
  | .hbm, ⟨42, _⟩ => ⟨S8x4096x2816, .f32⟩
  | .hbm, ⟨43, _⟩ => ⟨S8x4096x2816, .f32⟩
  | .hbm, ⟨44, _⟩ => ⟨S1x1x2816, .f32⟩
  | .hbm, ⟨45, _⟩ => ⟨S8x4096x2816, .f32⟩
  | .hbm, ⟨46, _⟩ => ⟨S8x4096x2816, .f32⟩
  | .hbm, ⟨47, _⟩ => ⟨S1x2816, .f32⟩
  | .hbm, ⟨48, _⟩ => ⟨S2816, .f32⟩
  | .hbm, ⟨49, _⟩ => ⟨S8x4096x2816, .f32⟩
  | .hbm, ⟨50, _⟩ => ⟨S1x1x2816, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S1x2816, .f32⟩
  | .hbm, ⟨55, _⟩ => ⟨S2816, .f32⟩
  | .hbm, ⟨56, _⟩ => ⟨S8x4096x2816, .f32⟩
  | .hbm, ⟨57, _⟩ => ⟨S1x1x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S_, .f32⟩
  | .hbm, ⟨64, _⟩ => ⟨S8x4096x2816, .f32⟩
  | .hbm, ⟨65, _⟩ => ⟨S8x4096x2816, .f32⟩
  | .hbm, ⟨66, _⟩ => ⟨S8x4096x2816, .f32⟩
  | .hbm, ⟨67, _⟩ => ⟨S_, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S_, .f32⟩
  | .hbm, ⟨72, _⟩ => ⟨S8x4096x2816, .f32⟩
  | .hbm, ⟨73, _⟩ => ⟨S8x4096x2816, .f32⟩
  | .hbm, ⟨74, _⟩ => ⟨S_, .f32⟩
  | .hbm, ⟨75, _⟩ => ⟨S8x4096x2816, .f32⟩
  | .hbm, ⟨76, _⟩ => ⟨S8x4096x2816, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S_, .f32⟩
  | .hbm, ⟨84, _⟩ => ⟨S8x4096, .f32⟩
  | .hbm, ⟨85, _⟩ => ⟨S8x4096x1, .f32⟩
  | .hbm, ⟨86, _⟩ => ⟨S_, .f32⟩
  | .hbm, ⟨87, _⟩ => ⟨S8x4096x1, .f32⟩
  | .hbm, ⟨88, _⟩ => ⟨S8x4096x1, .f32⟩
  | .hbm, ⟨89, _⟩ => ⟨S_, .f32⟩
  | .hbm, ⟨90, _⟩ => ⟨S8x4096x1, .f32⟩
  | .hbm, ⟨91, _⟩ => ⟨S8x4096x1, .f32⟩
  | .hbm, ⟨92, _⟩ => ⟨S8x4096x1, .f32⟩
  | .hbm, ⟨93, _⟩ => ⟨S8x4096x1024, .f32⟩
  | .hbm, ⟨94, _⟩ => ⟨S8x4096x1024, .f32⟩
  | .hbm, ⟨95, _⟩ => ⟨S1x1x1024, .f32⟩
  | .hbm, ⟨96, _⟩ => ⟨S8x4096x1024, .f32⟩
  | .hbm, ⟨97, _⟩ => ⟨S8x4096x1024, .f32⟩
  | .hbm, ⟨98, _⟩ => ⟨S8x2x2816, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_2 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_3 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_4 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_6 : Ref sig .tc := ⟨.hbm, 83, rfl⟩
abbrev main_v64 : Ref sig .tc := ⟨.hbm, 84, rfl⟩
abbrev main_v65 : Ref sig .tc := ⟨.hbm, 85, rfl⟩
abbrev main_cst_7 : Ref sig .tc := ⟨.hbm, 86, rfl⟩
abbrev main_v66 : Ref sig .tc := ⟨.hbm, 87, rfl⟩
abbrev main_v67 : Ref sig .tc := ⟨.hbm, 88, rfl⟩
abbrev main_cst_8 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩

abbrev nD : Nat := 1
abbrev τ : Topo := Topo.v7x

variable {F : FTy → Type} [FloatOps F]
-- ==== Proj.lean ====
abbrev S8x4096x1024 : Shape := ⟨3, ![8, 4096, 1024]⟩
abbrev S1024 : Shape := ⟨1, ![1024]⟩
abbrev S1024x2376 : Shape := ⟨2, ![1024, 2376]⟩
abbrev S8 : Shape := ⟨1, ![8]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S1024x8x64 : Shape := ⟨3, ![1024, 8, 64]⟩
abbrev S_ : Shape := ⟨0, ![]⟩
abbrev S8x1 : Shape := ⟨2, ![8, 1]⟩
abbrev S1024x56 : Shape := ⟨2, ![1024, 56]⟩
abbrev S1024x2560 : Shape := ⟨2, ![1024, 2560]⟩
abbrev S32768x1024 : Shape := ⟨2, ![32768, 1024]⟩
abbrev S1x1024 : Shape := ⟨2, ![1, 1024]⟩
abbrev S32768x512 : Shape := ⟨2, ![32768, 512]⟩
abbrev S32768x128 : Shape := ⟨2, ![32768, 128]⟩
abbrev S32768x64 : Shape := ⟨2, ![32768, 64]⟩
abbrev S512x1024 : Shape := ⟨2, ![512, 1024]⟩
abbrev S512x512 : Shape := ⟨2, ![512, 512]⟩
abbrev S512x128 : Shape := ⟨2, ![512, 128]⟩
abbrev S512x64 : Shape := ⟨2, ![512, 64]⟩
abbrev S512 : Shape := ⟨1, ![512]⟩
abbrev S512x1 : Shape := ⟨2, ![512, 1]⟩

abbrev nBuf : Space → Nat
  | .hbm => 37
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2376, .f32⟩
  | .hbm, ⟨3, _⟩ => ⟨S8, .i32⟩
  | .hbm, ⟨4, _⟩ => ⟨S8, .i1⟩
  | .hbm, ⟨5, _⟩ => ⟨S1024x512, .f32⟩
  | .hbm, ⟨6, _⟩ => ⟨S1024x128, .f32⟩
  | .hbm, ⟨7, _⟩ => ⟨S1024x128, .f32⟩
  | .hbm, ⟨8, _⟩ => ⟨S1024x512, .f32⟩
  | .hbm, ⟨9, _⟩ => ⟨S1024x64, .f32⟩
  | .hbm, ⟨10, _⟩ => ⟨S1024x8, .f32⟩
  | .hbm, ⟨11, _⟩ => ⟨S1024x1024, .f32⟩
  | .hbm, ⟨12, _⟩ => ⟨S1024x8x64, .f32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S8x1, .i32⟩
  | .hbm, ⟨18, _⟩ => ⟨S1024x8x64, .f32⟩
  | .hbm, ⟨19, _⟩ => ⟨S1024x512, .f32⟩
  | .hbm, ⟨20, _⟩ => ⟨S_, .f32⟩
  | .hbm, ⟨21, _⟩ => ⟨S1024x56, .f32⟩
  | .hbm, ⟨22, _⟩ => ⟨S1024x2560, .f32⟩
  | .hbm, ⟨23, _⟩ => ⟨S1024x2560, .bf16⟩
  | .hbm, ⟨24, _⟩ => ⟨S32768x1024, .f32⟩
  | .hbm, ⟨25, _⟩ => ⟨S1x1024, .f32⟩
  | .hbm, ⟨26, _⟩ => ⟨S32768x512, .bf16⟩
  | .hbm, ⟨27, _⟩ => ⟨S32768x128, .f32⟩
  | .hbm, ⟨28, _⟩ => ⟨S32768x128, .f32⟩
  | .hbm, ⟨29, _⟩ => ⟨S32768x128, .bf16⟩
  | .hbm, ⟨30, _⟩ => ⟨S32768x128, .bf16⟩
  | .hbm, ⟨31, _⟩ => ⟨S32768x512, .bf16⟩
  | .hbm, ⟨32, _⟩ => ⟨S32768x64, .f32⟩
  | .hbm, ⟨33, _⟩ => ⟨S32768x128, .bf16⟩
  | .hbm, ⟨34, _⟩ => ⟨S32768x128, .f32⟩
  | .hbm, ⟨35, _⟩ => ⟨S32768x512, .f32⟩
  | .hbm, ⟨36, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x512, .bf16⟩
  | .local _ .vmem, ⟨15, _⟩ => ⟨S512x512, .bf16⟩
  | .local _ .vmem, ⟨16, _⟩ => ⟨S512x64, .f32⟩
  | .local _ .vmem, ⟨17, _⟩ => ⟨S512x64, .f32⟩
  | .local _ .vmem, ⟨18, _⟩ => ⟨S512x128, .bf16⟩
  | .local _ .vmem, ⟨19, _⟩ => ⟨S512x128, .bf16⟩
  | .local _ .vmem, ⟨20, _⟩ => ⟨S512x128, .f32⟩
  | .local _ .vmem, ⟨21, _⟩ => ⟨S512x128, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v19_3 : Ref sig .tc := ⟨.hbm, 29, rfl⟩
abbrev main_v19_4 : Ref sig .tc := ⟨.hbm, 30, rfl⟩
abbrev main_v19_5 : Ref sig .tc := ⟨.hbm, 31, rfl⟩
abbrev main_v19_6 : Ref sig .tc := ⟨.hbm, 32, rfl⟩
abbrev main_v19_7 : Ref sig .tc := ⟨.hbm, 33, rfl⟩
abbrev main_v19_8 : Ref sig .tc := ⟨.hbm, 34, rfl⟩
abbrev main_v19_9 : Ref sig .tc := ⟨.hbm, 35, rfl⟩
abbrev main_v19_10 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjRefIdeal.lean ====
abbrev S8x4096x1024 : Shape := ⟨3, ![8, 4096, 1024]⟩
abbrev S1024 : Shape := ⟨1, ![1024]⟩
abbrev S1024x2376 : Shape := ⟨2, ![1024, 2376]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2376 : Shape := ⟨3, ![8, 4096, 2376]⟩
abbrev S32768x2376 : Shape := ⟨2, ![32768, 2376]⟩
abbrev S32768x512 : Shape := ⟨2, ![32768, 512]⟩
abbrev S32768x128 : Shape := ⟨2, ![32768, 128]⟩
abbrev S32768x64 : Shape := ⟨2, ![32768, 64]⟩
abbrev S32768x8 : Shape := ⟨2, ![32768, 8]⟩
abbrev S32768x2x4x64 : Shape := ⟨4, ![32768, 2, 4, 64]⟩
abbrev S32768x4x2x64 : Shape := ⟨4, ![32768, 4, 2, 64]⟩
abbrev S32768x56 : Shape := ⟨2, ![32768, 56]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2376, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x2376, .f32⟩
  | .hbm, ⟨20, _⟩ => ⟨S32768x2376, .f32⟩
  | .hbm, ⟨21, _⟩ => ⟨S32768x512, .f32⟩
  | .hbm, ⟨22, _⟩ => ⟨S32768x128, .f32⟩
  | .hbm, ⟨23, _⟩ => ⟨S32768x128, .f32⟩
  | .hbm, ⟨24, _⟩ => ⟨S32768x512, .f32⟩
  | .hbm, ⟨25, _⟩ => ⟨S32768x64, .f32⟩
  | .hbm, ⟨26, _⟩ => ⟨S32768x8, .f32⟩
  | .hbm, ⟨27, _⟩ => ⟨S32768x512, .f32⟩
  | .hbm, ⟨28, _⟩ => ⟨S32768x512, .f32⟩
  | .hbm, ⟨29, _⟩ => ⟨S_, .f32⟩
  | .hbm, ⟨30, _⟩ => ⟨S32768x512, .f32⟩
  | .hbm, ⟨31, _⟩ => ⟨S32768x512, .f32⟩
  | .hbm, ⟨32, _⟩ => ⟨S32768x2x4x64, .f32⟩
  | .hbm, ⟨33, _⟩ => ⟨S32768x4x2x64, .f32⟩
  | .hbm, ⟨34, _⟩ => ⟨S32768x512, .f32⟩
  | .hbm, ⟨35, _⟩ => ⟨S_, .f32⟩
  | .hbm, ⟨36, _⟩ => ⟨S32768x56, .f32⟩
  | .hbm, ⟨37, _⟩ => ⟨S32768x128, .f32⟩
  | .hbm, ⟨38, _⟩ => ⟨S32768x128, .f32⟩
  | .hbm, ⟨39, _⟩ => ⟨S32768x512, .bf16⟩
  | .hbm, ⟨40, _⟩ => ⟨S32768x128, .bf16⟩
  | .hbm, ⟨41, _⟩ => ⟨S32768x128, .bf16⟩
  | .hbm, ⟨42, _⟩ => ⟨S32768x512, .bf16⟩
  | .hbm, ⟨43, _⟩ => ⟨S32768x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Proof.Rglru.Setup.lean ====
/- The launch of the recurrence: when the two conditionals of the body are taken, and the
   memrefs the pipeline hands the body at a grid point. -/
module

public import proofs.«01_k».proof.Proof.Gen.RglruIdeal.Frame
public import proofs.«01_k».proof.Proof.Gen.RglruIdeal.Skeleton
public import proofs.«01_k».proof.Proof.Gen.RglruIdeal.Loops

@[expose] public section

set_option maxRecDepth 16384

noncomputable section

namespace Cert.RglruIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RglruIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl

/-! ## The memrefs the body is handed -/

/-- Each window's current staging memref at point `t`, spelled as the pipeline passes it (`bodyAt0`), and its wholeness. -/
abbrev ms0_0 (t : Fin cfg0.N) : Memref sig .tc .vmem S1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x512 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S520x512 .f32 := Memref.whole cc0_scratch0
abbrev scM0_1 : Memref sig .tc .vmem S512x512 .f32 := Memref.whole cc0_scratch1
abbrev scM0_2 : Memref sig .tc .vmem S512x512 .f32 := Memref.whole cc0_scratch2
abbrev scM0_3 : Memref sig .tc .vmem S512x512 .f32 := Memref.whole cc0_scratch3
abbrev scM0_4 : Memref sig .tc .vmem S8x512 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.RglruIdeal.Value
-- ==== Proof.Rglru.Loop.lean ====
/- The loop over the groups of eight rows: the row carried from group to group, and the rows it stores. -/
module

public import proofs.«01_k».proof.Proof.Rglru.Setup
public import Idealize.ShloMosaic.Lib.Pointwise
public import Idealize.ShloMosaic.Lib.VecWindow
public import Idealize.ShloMosaic.Lib.WritesUnit

@[expose] public section

set_option maxRecDepth 16384

noncomputable section

namespace Cert.RglruIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RglruIdeal.Gen

variable {F : FTy → Type} [FloatOps F]

local notation "𝕄" => MT nD τ sig Unit (Elt F) ℕ (UR sig nD τ) ℕ

/-- The loop runs over the 64 groups. -/
theorem trips_eq : k0_t1_loop.trips = 64 := by decide +kernel

/-- Group `k`, of an array of 512 rows. -/
def grp (A : Vec F S512x512 .f32) (k : Fin k0_t1_loop.trips) : Vec F S8x512 .f32 :=
  View.ld A (Rect.unit (s := S512x512) (k0_off1 k) S8x512.size (k0_off1_inb k))

/-- What is carried into group `k`: the state after the group before, in every row. -/
def acc (A U : Vec F S512x512 .f32) (H : Vec F S8x512 .f32) : ℕ → Vec F S8x512 .f32
  | 0 => H
  | k + 1 => if h : k < k0_t1_loop.trips then k0_pay3 (acc A U H k) (grp A ⟨k, h⟩) (grp U ⟨k, h⟩) else acc A U H k

/-- The stores of the groups before `k`. -/
def pieces (A U : Vec F S512x512 .f32) (H : Vec F S8x512 .f32) : ℕ → List (View.Piece (Elt F) S512x512 .f32)
  | 0 => []
  | k + 1 => if h : k < k0_t1_loop.trips then
      ⟨Rect.unit (s := S512x512) (k0_off1 ⟨k, h⟩) S8x512.size (k0_off1_inb ⟨k, h⟩), k0_pay2 (acc A U H k) (grp A ⟨k, h⟩) (grp U ⟨k, h⟩)⟩ :: pieces A U H k
      else pieces A U H k

/-- The states after every row. -/
def states (A U : Vec F S512x512 .f32) (H : Vec F S8x512 .f32) : Vec F S512x512 .f32 := fun i =>
  have h : (i 0).val / 8 < k0_t1_loop.trips := by have := (i 0).isLt; have : S512x512.size 0 = 512 := rfl; rw [trips_eq]; omega
  k0_pay2 (acc A U H ((i 0).val / 8)) (grp A ⟨(i 0).val / 8, h⟩) (grp U ⟨(i 0).val / 8, h⟩)
    (ix2 ⟨(i 0).val % 8, Nat.mod_lt _ (by decide)⟩ (i 1))

/-- One group's yield. -/
theorem tripR_eq (𝒱 : Variants) (c : Dev nD) (bd : Option 𝒱.V) (i : grid0.Coords) (arg2 : Memref sig .tc .vmem S1x512x512 .f32) (harg2 : arg2.IsWhole) (arg3 : Memref sig .tc .vmem S1x512x512 .f32) (harg3 : arg3.IsWhole) (arg4 : Memref sig .tc .vmem S1x1x512 .f32) (harg4 : arg4.IsWhole) (arg5 : Memref sig .tc .vmem S1x3x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x512 .bf16) (harg13 : arg13.IsWhole) (arg14 : Memref sig .tc .vmem S1x1x512 .f32) (harg14 : arg14.IsWhole) (arg15 : Memref sig .tc .vmem S520x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S8x512 .f32) (harg19 : arg19.IsWhole) (X_arg16 : BufTy.Contents (Elt F) arg16.view.ty) (X_arg17 : BufTy.Contents (Elt F) arg17.view.ty) (k : Fin k0_t1_loop.trips) (a : Vec F S8x512 .f32) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg16 X_arg17 k a = k0_pay3 a (grp (arg16.view.read (Elt F) X_arg16) k) (grp (arg17.view.read (Elt F) X_arg17) k) := by
  unfold tripR_k0_t1 trip_k0_t1
  rfl

/-- One group's store. -/
theorem tripL_eq (𝒱 : Variants) (c : Dev nD) (bd : Option 𝒱.V) (i : grid0.Coords) (arg2 : Memref sig .tc .vmem S1x512x512 .f32) (harg2 : arg2.IsWhole) (arg3 : Memref sig .tc .vmem S1x512x512 .f32) (harg3 : arg3.IsWhole) (arg4 : Memref sig .tc .vmem S1x1x512 .f32) (harg4 : arg4.IsWhole) (arg5 : Memref sig .tc .vmem S1x3x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x512 .bf16) (harg13 : arg13.IsWhole) (arg14 : Memref sig .tc .vmem S1x1x512 .f32) (harg14 : arg14.IsWhole) (arg15 : Memref sig .tc .vmem S520x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S8x512 .f32) (harg19 : arg19.IsWhole) (X_arg16 : BufTy.Contents (Elt F) arg16.view.ty) (X_arg17 : BufTy.Contents (Elt F) arg17.view.ty) (k : Fin k0_t1_loop.trips) (a : Vec F S8x512 .f32) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg16 X_arg17 k a = [⟨Rect.unit (s := S512x512) (k0_off1 k) S8x512.size (k0_off1_inb k), k0_pay2 a (grp (arg16.view.read (Elt F) X_arg16) k) (grp (arg17.view.read (Elt F) X_arg17) k)⟩] := by
  unfold tripL_k0_t1 trip_k0_t1
  rfl

/-- The loop's state before group `k`. -/
theorem st_eq (𝒱 : Variants) (c : Dev nD) (bd : Option 𝒱.V) (i : grid0.Coords) (arg2 : Memref sig .tc .vmem S1x512x512 .f32) (harg2 : arg2.IsWhole) (arg3 : Memref sig .tc .vmem S1x512x512 .f32) (harg3 : arg3.IsWhole) (arg4 : Memref sig .tc .vmem S1x1x512 .f32) (harg4 : arg4.IsWhole) (arg5 : Memref sig .tc .vmem S1x3x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x512 .bf16) (harg13 : arg13.IsWhole) (arg14 : Memref sig .tc .vmem S1x1x512 .f32) (harg14 : arg14.IsWhole) (arg15 : Memref sig .tc .vmem S520x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S8x512 .f32) (harg19 : arg19.IsWhole) (X_arg16 : BufTy.Contents (Elt F) arg16.view.ty) (X_arg17 : BufTy.Contents (Elt F) arg17.view.ty) (H : Vec F S8x512 .f32) : ∀ k, k ≤ k0_t1_loop.trips →
    st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg16 X_arg17 H k = (acc (arg16.view.read (Elt F) X_arg16) (arg17.view.read (Elt F) X_arg17) H k,
      pieces (arg16.view.read (Elt F) X_arg16) (arg17.view.read (Elt F) X_arg17) H k)
  | 0, _ => rfl
  | k + 1, h => by
    have hk : k < k0_t1_loop.trips := h
    have e := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg16 X_arg17 H ⟨k, hk⟩
    rw [tripR_eq, tripL_eq, show (⟨k, hk⟩ : Fin k0_t1_loop.trips).val = k from rfl, st_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg16 X_arg17 H k (Nat.le_of_lt hk)] at e
    refine e.trans ?_
    rw [acc, pieces, dif_pos hk, dif_pos hk]
    rfl

/-- The rows stored by the groups before `k`, read back. -/
theorem read_pieces (v : View sig .tc .vmem S512x512 .f32) (f : v.ty.Contents (Elt F)) (A U : Vec F S512x512 .f32) (H : Vec F S8x512 .f32) :
    ∀ k, k ≤ k0_t1_loop.trips → ∀ i : S512x512.Idx, (i 0).val < 8 * k →
      v.read (Elt F) (v.writes (Elt F) f (pieces A U H k)) i = states A U H i
  | 0, _, i, hi => absurd hi (Nat.not_lt_zero _)
  | k + 1, h, i, hi => by
    have hk : k < k0_t1_loop.trips := h
    rw [pieces, dif_pos hk]
    by_cases hlt : (i 0).val < 8 * k
    · refine (View.read_writes_cons_rows_of_not_mem (W := 8) v f _ _ _ i (k0_off1_eq ⟨k, hk⟩) rfl (Or.inl hlt)).trans ?_
      exact read_pieces v f A U H k (Nat.le_of_lt hk) i hlt
    · have hd : (i 0).val / 8 = k := by omega
      refine (View.read_writes_cons_rows_of_mem v f _ _ _ i (ix2 ⟨(i 0).val % 8, Nat.mod_lt _ (by decide)⟩ (i 1)) (k0_off1_eq ⟨k, hk⟩) (by show _ = 8 * k + (i 0).val % 8; omega) rfl).trans ?_
      subst hd
      rfl

/-- A load of all the rows after the loop. -/
theorem readAt_states (v : View sig .tc .vmem S512x512 .f32) (f : v.ty.Contents (Elt F)) (A U : Vec F S512x512 .f32) (H : Vec F S8x512 .f32)
    (inb : ∀ a, (![0, 0] : Fin 2 → ℕ) a + S512x512.size a ≤ S512x512.size a) :
    v.readAt (Elt F) (Rect.unit (s := S512x512) ![0, 0] S512x512.size inb).toLoadRect (v.writes (Elt F) f (pieces A U H k0_t1_loop.trips)) = states A U H := by
  refine (View.readAt_full _ _ _).trans ?_
  funext i
  exact read_pieces v f A U H _ (Nat.le_refl _) i (by have := (i 0).isLt; have : S512x512.size 0 = 512 := rfl; rw [trips_eq]; omega)

end Cert.RglruIdeal.Value
end
-- ==== Proof.Rglru.Conv.lean ====
/- What one step of the recurrence computes from its blocks, the eight rows before them and the state before them. -/
module

public import proofs.«01_k».proof.Proof.Rglru.Loop
public import Idealize.ShloMosaic.Lib.Pointwise
public import Idealize.ShloMosaic.Lib.VecWindow
public import Idealize.ShloMosaic.Lib.WritesUnit

@[expose] public section

set_option maxRecDepth 16384

noncomputable section

namespace Cert.RglruIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RglruIdeal.Gen

variable {F : FTy → Type} [FloatOps F]

local notation "𝕄" => MT nD τ sig Unit (Elt F) ℕ (UR sig nD τ) ℕ

/-- The eight rows `T` followed by the 512 rows `blk`: what the convolution reads. -/
def strip (T : Vec F S8x512 .f32) (blk : Vec F S512x512 .f32) : Vec F S520x512 .f32 := fun i =>
  if h : (i 0).val < 8 then T (ix2 ⟨(i 0).val, h⟩ (i 1))
  else blk (ix2 ⟨(i 0).val - 8, by have := (i 0).isLt; have : S520x512.size 0 = 520 := rfl; omega⟩ (i 1))

/-- The last eight rows of a block. -/
def last8 (blk : Vec F S512x512 .f32) : Vec F S8x512 .f32 := fun j =>
  blk (ix2 ⟨(j 0).val + 504, by have := (j 0).isLt; have : S8x512.size 0 = 8 := rfl; omega⟩ (j 1))

/-- The eight rows before a sequence: the three the call is given, in the last three. -/
def headRows (x3 : Vec F S1x3x512 .f32) : Vec F S8x512 .f32 := fun i =>
  if h : 5 ≤ (i 0).val then k0_pay8 x3 (ix2 ⟨(i 0).val - 5, by have := (i 0).isLt; have : S8x512.size 0 = 8 := rfl; omega⟩ (i 1))
  else k0_pay7 i

/-- The scratch block `X` holds `T` in its first eight rows. -/
def Carries (X : Vec F S520x512 .f32) (T : Vec F S8x512 .f32) : Prop :=
  ∀ (y : S520x512.Idx) (j : S8x512.Idx), (y 0).val = (j 0).val → (y 1).val = (j 1).val → X y = T j

/-- A load of the whole block once rows 8 to 519 are stored and the first eight hold `T`. -/
theorem readAt_strip (v : View sig .tc .vmem S520x512 .f32) (f : v.ty.Contents (Elt F)) (L : List (View.Piece (Elt F) S520x512 .f32))
    (T : Vec F S8x512 .f32) (blk : Vec F S512x512 .f32) (hT : Carries (v.read (Elt F) (v.writes (Elt F) f L)) T)
    (inb : ∀ a, (![0, 0] : Fin 2 → ℕ) a + S520x512.size a ≤ S520x512.size a)
    (inb8 : ∀ a, (![8, 0] : Fin 2 → ℕ) a + S512x512.size a ≤ S520x512.size a) :
    v.readAt (Elt F) (Rect.unit (s := S520x512) ![0, 0] S520x512.size inb).toLoadRect
      (v.writes (Elt F) f (⟨Rect.unit (s := S520x512) ![8, 0] S512x512.size inb8, blk⟩ :: L)) = strip T blk := by
  funext i
  show v.read (Elt F) _ ((Rect.unit (s := S520x512) ![0, 0] S520x512.size inb).idx i) = _
  have h0 : ((Rect.unit (s := S520x512) ![0, 0] S520x512.size inb).idx i 0).val = (i 0).val := by
    show 0 + 1 * (i 0).val = _; omega
  have h1 : ((Rect.unit (s := S520x512) ![0, 0] S520x512.size inb).idx i 1).val = (i 1).val := by
    show 0 + 1 * (i 1).val = _; omega
  by_cases h : (i 0).val < 8
  · refine Eq.trans ?_ (dif_pos h).symm
    rw [View.read_writes_cons_rows_of_not_mem (W := 512) v f inb8 blk L _ rfl rfl (Or.inl (by rw [h0]; omega))]
    exact hT _ _ h0 h1
  · refine Eq.trans ?_ (dif_neg h).symm
    exact View.read_writes_cons_rows_of_mem v f inb8 blk L _ _ rfl
      (by rw [h0]; show _ = 8 + ((i 0).val - 8); omega) h1

/-- A load of the last eight of the stored rows. -/
theorem readAt_last8 (v : View sig .tc .vmem S520x512 .f32) (f : v.ty.Contents (Elt F)) (L : List (View.Piece (Elt F) S520x512 .f32))
    (blk : Vec F S512x512 .f32) (inb : ∀ a, (![512, 0] : Fin 2 → ℕ) a + S8x512.size a ≤ S520x512.size a)
    (inb8 : ∀ a, (![8, 0] : Fin 2 → ℕ) a + S512x512.size a ≤ S520x512.size a) :
    v.readAt (Elt F) (Rect.unit (s := S520x512) ![512, 0] S8x512.size inb).toLoadRect
      (v.writes (Elt F) f (⟨Rect.unit (s := S520x512) ![8, 0] S512x512.size inb8, blk⟩ :: L)) = last8 blk := by
  funext i
  show v.read (Elt F) _ ((Rect.unit (s := S520x512) ![512, 0] S8x512.size inb).idx i) = _
  have h0 : ((Rect.unit (s := S520x512) ![512, 0] S8x512.size inb).idx i 0).val = 512 + (i 0).val := by
    show 512 + 1 * (i 0).val = _; omega
  have h1 : ((Rect.unit (s := S520x512) ![512, 0] S8x512.size inb).idx i 1).val = (i 1).val := by
    show 0 + 1 * (i 1).val = _; omega
  exact View.read_writes_cons_rows_of_mem v f inb8 blk L _ _ rfl
    (by rw [h0]; show _ = 8 + ((i 0).val + 504); omega) h1

/-- After a store of `T` to the first eight rows the block carries `T`. -/
theorem carries_cons (v : View sig .tc .vmem S520x512 .f32) (f : v.ty.Contents (Elt F)) (L : List (View.Piece (Elt F) S520x512 .f32))
    (T : Vec F S8x512 .f32) (inb : ∀ a, (![0, 0] : Fin 2 → ℕ) a + S8x512.size a ≤ S520x512.size a) :
    Carries (v.read (Elt F) (v.writes (Elt F) f (⟨Rect.unit (s := S520x512) ![0, 0] S8x512.size inb, T⟩ :: L))) T :=
  fun y j h0 h1 => View.read_writes_cons_rows_of_mem v f inb T L y j rfl (by omega) h1

/-- After the two stores at the start of a sequence the block carries the rows the call is given. -/
theorem carries_head (v : View sig .tc .vmem S520x512 .f32) (f : v.ty.Contents (Elt F)) (x3 : Vec F S1x3x512 .f32)
    (inb : ∀ a, (![0, 0] : Fin 2 → ℕ) a + S8x512.size a ≤ S520x512.size a) (inb5 : ∀ a, (![5, 0] : Fin 2 → ℕ) a + S3x512.size a ≤ S520x512.size a) :
    Carries (v.read (Elt F) (v.writes (Elt F) f [⟨Rect.unit (s := S520x512) ![5, 0] S3x512.size inb5, k0_pay8 x3⟩, ⟨Rect.unit (s := S520x512) ![0, 0] S8x512.size inb, k0_pay7⟩])) (headRows x3) := by
  intro y j h0 h1
  have hj := (j 0).isLt
  have e8 : S8x512.size 0 = 8 := rfl
  by_cases h : 5 ≤ (j 0).val
  · refine Eq.trans ?_ (dif_pos h).symm
    exact View.read_writes_cons_rows_of_mem v f inb5 _ _ y _ rfl (by rw [h0]; show _ = 5 + ((j 0).val - 5); omega) h1
  · refine Eq.trans ?_ (dif_neg h).symm
    refine (View.read_writes_cons_rows_of_not_mem (W := 3) v f inb5 _ _ y rfl rfl (Or.inl (by omega))).trans ?_
    exact View.read_writes_cons_rows_of_mem v f inb _ _ y j rfl (by omega) h1

/-- The store that keeps the last eight rows keeps them as they are. -/
theorem pay14_eq (w : Vec F S8x512 .f32) : k0_pay14 w = w := by
  funext j
  unfold k0_pay14
  exact shapeCast_apply _ _ _ _ rfl

/-- The state, loaded once stored. -/
theorem read_state (v : View sig .tc .vmem S8x512 .f32) (w : Vec F S8x512 .f32) :
    v.readCov (Val := Elt F) [⟨Rect.unit (s := S8x512) ![0, 0] S8x512.size inb_S8x512_S8x512_0_0, w⟩] (Rect.unit (s := S8x512) ![0, 0] S8x512.size inb_S8x512_S8x512_0_0).toLoadRect = w :=
  View.readCov_full v inb_S8x512_S8x512_0_0 inb_S8x512_S8x512_0_0 w []

/-- Row `r` of the convolution's four. -/
abbrev cw0 (x4 : Vec F S4x512 .f32) : Vec F S1x512 .f32 := View.ld x4 (Rect.unit (s := S4x512) ![0, 0] S1x512.size inb_S4x512_S1x512_0_0)
abbrev cw1 (x4 : Vec F S4x512 .f32) : Vec F S1x512 .f32 := View.ld x4 (Rect.unit (s := S4x512) ![1, 0] S1x512.size inb_S4x512_S1x512_1_0)
abbrev cw2 (x4 : Vec F S4x512 .f32) : Vec F S1x512 .f32 := View.ld x4 (Rect.unit (s := S4x512) ![2, 0] S1x512.size inb_S4x512_S1x512_2_0)
abbrev cw3 (x4 : Vec F S4x512 .f32) : Vec F S1x512 .f32 := View.ld x4 (Rect.unit (s := S4x512) ![3, 0] S1x512.size inb_S4x512_S1x512_3_0)

/-- The recurrence gate of every row, as its input. -/
def gBlk (X : Vec F S520x512 .f32) (x4 : Vec F S4x512 .f32) (x5 : Vec F S1x512 .f32) (x6 : Vec F S512x512 .bf16) (x7 : Vec F S1x512 .f32) : Vec F S512x512 .f32 :=
  k0_pay16 (k0_pay11 X) (iota .tc S64x8x512 32 [1] iota_S64x8x512_d1_w32) (k0_pay12 X x5 (cw0 x4) (cw1 x4)) (cw2 x4) (cw3 x4) x6 x7

/-- The decay of every row. -/
def dBlk (X : Vec F S520x512 .f32) (x4 : Vec F S4x512 .f32) (x5 : Vec F S1x512 .f32) (x6 : Vec F S512x512 .bf16) (x7 : Vec F S1x512 .f32) (x10 : Vec F S1x512 .f32) : Vec F S512x512 .f32 :=
  k0_pay19 (gBlk X x4 x5 x6 x7) x10

/-- The input of every row. -/
def uBlk (X : Vec F S520x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32) : Vec F S512x512 .f32 :=
  k0_pay20 (k0_pay13 (k0_pay11 X) (iota .tc S64x8x512 32 [1] iota_S64x8x512_d1_w32) (k0_pay12 X x5 (cw0 x4) (cw1 x4)) (cw2 x4) (cw3 x4))
    (k0_pay15 (k0_pay11 X) (iota .tc S64x8x512 32 [1] iota_S64x8x512_d1_w32) (k0_pay12 X x5 (cw0 x4) (cw1 x4)) (cw2 x4) (cw3 x4))
    (gBlk X x4 x5 x6 x7) (k0_pay17 x8) x9 x10

/-- The decays accumulated within each group of eight rows. -/
def aAcc (X : Vec F S520x512 .f32) (x4 : Vec F S4x512 .f32) (x5 : Vec F S1x512 .f32) (x6 : Vec F S512x512 .bf16) (x7 : Vec F S1x512 .f32) (x10 : Vec F S1x512 .f32) : Vec F S512x512 .f32 :=
  k0_pay27 (dBlk X x4 x5 x6 x7 x10)

/-- The inputs accumulated within each group of eight rows. -/
def uAcc (X : Vec F S520x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32) : Vec F S512x512 .f32 :=
  k0_pay28 (dBlk X x4 x5 x6 x7 x10) (uBlk X x4 x5 x6 x7 x8 x9 x10)

/-- The state after a step, in every row. -/
def hEnd (T H : Vec F S8x512 .f32) (x0 : Vec F S1x512x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32) : Vec F S8x512 .f32 :=
  acc (aAcc (strip T (k0_pay10 x0)) x4 x5 x6 x7 x10) (uAcc (strip T (k0_pay10 x0)) x4 x5 x6 x7 x8 x9 x10) H k0_t1_loop.trips

/-- The rows of results of a step. -/
def rBlk (T H : Vec F S8x512 .f32) (x0 x1 : Vec F S1x512x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32) : Vec F S1x512x512 .bf16 :=
  k0_pay5 (states (aAcc (strip T (k0_pay10 x0)) x4 x5 x6 x7 x10) (uAcc (strip T (k0_pay10 x0)) x4 x5 x6 x7 x8 x9 x10) H) x1

/-- The state the loop yields, from what the two scratch arrays hold. -/
theorem hEnd_of (𝒱 : Variants) (c : Dev nD) (bd : Option 𝒱.V) (i : grid0.Coords) (arg2 : Memref sig .tc .vmem S1x512x512 .f32) (harg2 : arg2.IsWhole) (arg3 : Memref sig .tc .vmem S1x512x512 .f32) (harg3 : arg3.IsWhole) (arg4 : Memref sig .tc .vmem S1x1x512 .f32) (harg4 : arg4.IsWhole) (arg5 : Memref sig .tc .vmem S1x3x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x512 .bf16) (harg13 : arg13.IsWhole) (arg14 : Memref sig .tc .vmem S1x1x512 .f32) (harg14 : arg14.IsWhole) (arg15 : Memref sig .tc .vmem S520x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S8x512 .f32) (harg19 : arg19.IsWhole) (X_arg16 : BufTy.Contents (Elt F) arg16.view.ty) (X_arg17 : BufTy.Contents (Elt F) arg17.view.ty) (T H : Vec F S8x512 .f32) (x0 : Vec F S1x512x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32)
    (hA : arg16.view.read (Elt F) X_arg16 = aAcc (strip T (k0_pay10 x0)) x4 x5 x6 x7 x10) (hU : arg17.view.read (Elt F) X_arg17 = uAcc (strip T (k0_pay10 x0)) x4 x5 x6 x7 x8 x9 x10) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg16 X_arg17 H k0_t1_loop.trips).1 = hEnd T H x0 x4 x5 x6 x7 x8 x9 x10 := by
  rw [st_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg16 X_arg17 H k0_t1_loop.trips (Nat.le_refl _), hA, hU]
  rfl

/-- The rows the loop stores, likewise. -/
theorem states_of (𝒱 : Variants) (c : Dev nD) (bd : Option 𝒱.V) (i : grid0.Coords) (arg2 : Memref sig .tc .vmem S1x512x512 .f32) (harg2 : arg2.IsWhole) (arg3 : Memref sig .tc .vmem S1x512x512 .f32) (harg3 : arg3.IsWhole) (arg4 : Memref sig .tc .vmem S1x1x512 .f32) (harg4 : arg4.IsWhole) (arg5 : Memref sig .tc .vmem S1x3x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x512 .bf16) (harg13 : arg13.IsWhole) (arg14 : Memref sig .tc .vmem S1x1x512 .f32) (harg14 : arg14.IsWhole) (arg15 : Memref sig .tc .vmem S520x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S8x512 .f32) (harg19 : arg19.IsWhole) (X_arg16 : BufTy.Contents (Elt F) arg16.view.ty) (X_arg17 : BufTy.Contents (Elt F) arg17.view.ty) (f : BufTy.Contents (Elt F) arg18.view.ty) (inb : ∀ a, (![0, 0] : Fin 2 → ℕ) a + S512x512.size a ≤ S512x512.size a) (T H : Vec F S8x512 .f32) (x0 : Vec F S1x512x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32)
    (hA : arg16.view.read (Elt F) X_arg16 = aAcc (strip T (k0_pay10 x0)) x4 x5 x6 x7 x10) (hU : arg17.view.read (Elt F) X_arg17 = uAcc (strip T (k0_pay10 x0)) x4 x5 x6 x7 x8 x9 x10) :
    arg18.view.readAt (Elt F) (Rect.unit (s := S512x512) ![0, 0] S512x512.size inb).toLoadRect (arg18.view.writes (Elt F) f (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg16 X_arg17 H k0_t1_loop.trips).2)
      = states (aAcc (strip T (k0_pay10 x0)) x4 x5 x6 x7 x10) (uAcc (strip T (k0_pay10 x0)) x4 x5 x6 x7 x8 x9 x10) H := by
  rw [st_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg16 X_arg17 H k0_t1_loop.trips (Nat.le_refl _), hA, hU]
  exact readAt_states _ _ _ _ _ _

end Cert.RglruIdeal.Value
end
-- ==== Proof.Rglru.RunA.lean ====
module

public import proofs.«01_k».proof.Proof.Rglru.Conv
public import Idealize.ShloMosaic.Lib.Pointwise
public import Idealize.ShloMosaic.Lib.VecWindow
public import Idealize.ShloMosaic.Lib.WritesUnit

@[expose] public section

set_option maxRecDepth 16384

noncomputable section

namespace Cert.RglruIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RglruIdeal.Gen

variable {F : FTy → Type} [FloatOps F]

local notation "𝕄" => MT nD τ sig Unit (Elt F) ℕ (UR sig nD τ) ℕ

set_option maxHeartbeats 1600000 in
/-- The body at the start of a sequence: the rows and the state before are the call's own. -/
theorem run_A (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x1x512 .f32) (harg4 : arg4.IsWhole) (arg5 : Memref sig .tc .vmem S1x3x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x512 .bf16) (harg13 : arg13.IsWhole) (arg14 : Memref sig .tc .vmem S1x1x512 .f32) (harg14 : arg14.IsWhole) (arg15 : Memref sig .tc .vmem S520x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S8x512 .f32) (harg19 : arg19.IsWhole) (hc0 : cond0_0 i) (hc1 : ¬cond0_1 i)
    (x0 : Vec F S1x512x512 .f32) (x1 : Vec F S1x512x512 .f32) (x2 : Vec F S1x1x512 .f32) (x3 : Vec F S1x3x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32) (d12 : Vec F S1x1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare d12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (rBlk (headRows x3) (k0_pay9 x2) x0 x1 x4 x5 x6 x7 x8 x9 x10) ∗ owns (c : Thread nD τ) arg14 fullShare d12 ∗ (∃ Y, iprop(⌜Carries Y (last8 (k0_pay10 x0))⌝ ∗ owns (c : Thread nD τ) arg15 fullShare Y)) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (k0_pay4 (hEnd (headRows x3) (k0_pay9 x2) x0 x4 x5 x6 x7 x8 x9 x10))) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_rglru_eq_skeleton]; unfold cc0_rglru_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%ds, %fs, -, HS⟩, ⟨%da, %fa, -, HA⟩, ⟨%du, %fu, -, HU⟩, ⟨%dh, %fh, -, HH⟩, ⟨%dc, %fc, -, HC⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    obtain rfl := harg14.eq_unread hf12
    sl_exec (disch := first | sl_exact hc0 | sl_exact hc1)
    sl_step
    have e0 : View.readAt (Elt F) arg2.view (Rect.unit (s := S1x512x512) ![0, 0, 0] S1x512x512.size inb_S1x512x512_S1x512x512_0_0_0).toLoadRect (harg2.unread x0) = x0 := (View.readAt_full _ _ _).trans (harg2.read_unread _)
    have e1 : View.readAt (Elt F) arg3.view (Rect.unit (s := S1x512x512) ![0, 0, 0] S1x512x512.size inb_S1x512x512_S1x512x512_0_0_0).toLoadRect (harg3.unread x1) = x1 := (View.readAt_full _ _ _).trans (harg3.read_unread _)
    have e5 : View.readAt (Elt F) arg7.view (Rect.unit (s := S1x512) ![0, 0] S1x512.size inb_S1x512_S1x512_0_0).toLoadRect (harg7.unread x5) = x5 := (View.readAt_full _ _ _).trans (harg7.read_unread _)
    have e6 : View.readAt (Elt F) arg8.view (Rect.unit (s := S512x512) ![0, 0] S512x512.size inb_S512x512_S512x512_0_0).toLoadRect (harg8.unread x6) = x6 := (View.readAt_full _ _ _).trans (harg8.read_unread _)
    have e7 : View.readAt (Elt F) arg9.view (Rect.unit (s := S1x512) ![0, 0] S1x512.size inb_S1x512_S1x512_0_0).toLoadRect (harg9.unread x7) = x7 := (View.readAt_full _ _ _).trans (harg9.read_unread _)
    have e8 : View.readAt (Elt F) arg10.view (Rect.unit (s := S512x512) ![0, 0] S512x512.size inb_S512x512_S512x512_0_0).toLoadRect (harg10.unread x8) = x8 := (View.readAt_full _ _ _).trans (harg10.read_unread _)
    have e9 : View.readAt (Elt F) arg11.view (Rect.unit (s := S1x512) ![0, 0] S1x512.size inb_S1x512_S1x512_0_0).toLoadRect (harg11.unread x9) = x9 := (View.readAt_full _ _ _).trans (harg11.read_unread _)
    have e10 : View.readAt (Elt F) arg12.view (Rect.unit (s := S1x512) ![0, 0] S1x512.size inb_S1x512_S1x512_0_0).toLoadRect (harg12.unread x10) = x10 := (View.readAt_full _ _ _).trans (harg12.read_unread _)
    have e2 : View.readAt (Elt F) arg4.view (Rect.unit (s := S1x1x512) ![0, 0, 0] S1x1x512.size inb_S1x1x512_S1x1x512_0_0_0).toLoadRect (harg4.unread x2) = x2 := (View.readAt_full _ _ _).trans (harg4.read_unread _)
    have e3 : View.readAt (Elt F) arg5.view (Rect.unit (s := S1x3x512) ![0, 0, 0] S1x3x512.size inb_S1x3x512_S1x3x512_0_0_0).toLoadRect (harg5.unread x3) = x3 := (View.readAt_full _ _ _).trans (harg5.read_unread _)
    have r0 : View.readAt (Elt F) arg6.view (Rect.unit (s := S4x512) ![0, 0] S1x512.size inb_S4x512_S1x512_0_0).toLoadRect (harg6.unread x4) = cw0 x4 := by
      rw [View.readAt_eq_ld, harg6.read_unread]
    have r1 : View.readAt (Elt F) arg6.view (Rect.unit (s := S4x512) ![1, 0] S1x512.size inb_S4x512_S1x512_1_0).toLoadRect (harg6.unread x4) = cw1 x4 := by
      rw [View.readAt_eq_ld, harg6.read_unread]
    have r2 : View.readAt (Elt F) arg6.view (Rect.unit (s := S4x512) ![2, 0] S1x512.size inb_S4x512_S1x512_2_0).toLoadRect (harg6.unread x4) = cw2 x4 := by
      rw [View.readAt_eq_ld, harg6.read_unread]
    have r3 : View.readAt (Elt F) arg6.view (Rect.unit (s := S4x512) ![3, 0] S1x512.size inb_S4x512_S1x512_3_0).toLoadRect (harg6.unread x4) = cw3 x4 := by
      rw [View.readAt_eq_ld, harg6.read_unread]
    have l0 : arg15.view.readCov [⟨Rect.unit (s := S520x512) ![8, 0] S512x512.size inb_S520x512_S512x512_8_0, k0_pay10 x0⟩, ⟨Rect.unit (s := S520x512) ![5, 0] S3x512.size inb_S520x512_S3x512_5_0, k0_pay8 x3⟩, ⟨Rect.unit (s := S520x512) ![0, 0] S8x512.size inb_S520x512_S8x512_0_0, k0_pay7 (F := F)⟩] (Rect.unit (s := S520x512) ![0, 0] S520x512.size inb_S520x512_S520x512_0_0).toLoadRect = strip (headRows x3) (k0_pay10 x0) :=
      readAt_strip arg15.view arg15.view.junk [⟨Rect.unit (s := S520x512) ![5, 0] S3x512.size inb_S520x512_S3x512_5_0, k0_pay8 x3⟩, ⟨Rect.unit (s := S520x512) ![0, 0] S8x512.size inb_S520x512_S8x512_0_0, k0_pay7 (F := F)⟩] (headRows x3) (k0_pay10 x0) (carries_head _ _ _ _ _) inb_S520x512_S520x512_0_0 inb_S520x512_S512x512_8_0
    have l19 := read_state arg19.view (k0_pay9 (F := F) x2)
    have l15 : arg15.view.readCov [⟨Rect.unit (s := S520x512) ![8, 0] S512x512.size inb_S520x512_S512x512_8_0, k0_pay10 x0⟩, ⟨Rect.unit (s := S520x512) ![5, 0] S3x512.size inb_S520x512_S3x512_5_0, k0_pay8 x3⟩, ⟨Rect.unit (s := S520x512) ![0, 0] S8x512.size inb_S520x512_S8x512_0_0, k0_pay7 (F := F)⟩] (Rect.unit (s := S520x512) ![512, 0] S8x512.size inb_S520x512_S8x512_512_0).toLoadRect = last8 (k0_pay10 x0) :=
      readAt_last8 arg15.view arg15.view.junk [⟨Rect.unit (s := S520x512) ![5, 0] S3x512.size inb_S520x512_S3x512_5_0, k0_pay8 x3⟩, ⟨Rect.unit (s := S520x512) ![0, 0] S8x512.size inb_S520x512_S8x512_0_0, k0_pay7 (F := F)⟩] (k0_pay10 x0) inb_S520x512_S8x512_512_0 inb_S520x512_S512x512_8_0
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; swap; · iexact H11
      ipureintro
      sl_unfold_words
      refine (View.read_writes_full _ _ _ _ _).trans ?_
      simp only [e0, e1, e5, e6, e7, e8, e9, e10, r0, r1, r2, r3, e2, e3, l0, l19]
      rw [show Scf.trips (0#32) (Scalar.addi 0#32 64#32) 1#32 = k0_t1_loop.trips from rfl]
      exact congrArg (fun v => k0_pay5 v x1) (states_of _ _ _ _ _ _ _ _ _ _ _ _ _ _ _ _ _ _ _ _ _ _ _ _ _ _ _ _ _ _ _ _ _ _ _ _ _ _ _ _ _ _ fh inb_S512x512_S512x512_0_0 (headRows x3) (k0_pay9 x2) x0 x4 x5 x6 x7 x8 x9 x10 (View.read_writes_full _ _ _ _ _) (View.read_writes_full _ _ _ _ _))
    isplitl [H12]
    · iexists _; isplitr; swap; · iexact H12
      ipureintro
      exact harg14.read_unread _
    isplitl [HS]
    · iexists _
      isplitr
      swap
      · iexists _; isplitr; swap; · iexact HS
        ipureintro
        rfl
      ipureintro
      sl_unfold_words
      simp only [e0, e3]
      rw [l15, pay14_eq]
      exact carries_cons _ _ _ _ _
    isplitl [HA]
    · iexists _; iexists _; isplitr; swap; · iexact HA
      ipureintro; rfl
    isplitl [HU]
    · iexists _; iexists _; isplitr; swap; · iexact HU
      ipureintro; rfl
    isplitl [HH]
    · iexists _; iexists _; isplitr; swap; · iexact HH
      ipureintro; rfl
    iexists _; isplitr; swap; · iexact HC
    ipureintro
    sl_unfold_words
    refine (View.read_writes_full _ _ _ _ _).trans ?_
    simp only [e0, e1, e5, e6, e7, e8, e9, e10, r0, r1, r2, r3, e2, e3, l0, l19]
    rw [show Scf.trips (0#32) (Scalar.addi 0#32 64#32) 1#32 = k0_t1_loop.trips from rfl]
    exact congrArg k0_pay4 (hEnd_of _ _ _ _ _ _ _ _ _ _ _ _ _ _ _ _ _ _ _ _ _ _ _ _ _ _ _ _ _ _ _ _ _ _ _ _ _ _ _ _ _ _ (headRows x3) (k0_pay9 x2) x0 x4 x5 x6 x7 x8 x9 x10 (View.read_writes_full _ _ _ _ _) (View.read_writes_full _ _ _ _ _))

end Cert.RglruIdeal.Value
end
-- ==== Proof.Rglru.RunB.lean ====
module

public import proofs.«01_k».proof.Proof.Rglru.Conv
public import Idealize.ShloMosaic.Lib.Pointwise
public import Idealize.ShloMosaic.Lib.VecWindow
public import Idealize.ShloMosaic.Lib.WritesUnit

@[expose] public section

set_option maxRecDepth 16384

noncomputable section

namespace Cert.RglruIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RglruIdeal.Gen

variable {F : FTy → Type} [FloatOps F]

local notation "𝕄" => MT nD τ sig Unit (Elt F) ℕ (UR sig nD τ) ℕ

set_option maxHeartbeats 1600000 in
/-- The body at a middle step: the rows and the state before are those the step before left. -/
theorem run_B (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x1x512 .f32) (harg4 : arg4.IsWhole) (arg5 : Memref sig .tc .vmem S1x3x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x512 .bf16) (harg13 : arg13.IsWhole) (arg14 : Memref sig .tc .vmem S1x1x512 .f32) (harg14 : arg14.IsWhole) (arg15 : Memref sig .tc .vmem S520x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S8x512 .f32) (harg19 : arg19.IsWhole) (hc0 : ¬cond0_0 i) (hc1 : ¬cond0_1 i)
    (x0 : Vec F S1x512x512 .f32) (x1 : Vec F S1x512x512 .f32) (x2 : Vec F S1x1x512 .f32) (x3 : Vec F S1x3x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32) (d12 : Vec F S1x1x512 .f32) (xs : Vec F S520x512 .f32) (T : Vec F S8x512 .f32) (hT : Carries xs T) (H : Vec F S8x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare d12 ∗ owns (c : Thread nD τ) arg15 fullShare xs ∗ (∃ d, owns (c : Thread nD τ) arg16 fullShare d) ∗ (∃ d, owns (c : Thread nD τ) arg17 fullShare d) ∗ (∃ d, owns (c : Thread nD τ) arg18 fullShare d) ∗ owns (c : Thread nD τ) arg19 fullShare H
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (rBlk T H x0 x1 x4 x5 x6 x7 x8 x9 x10) ∗ owns (c : Thread nD τ) arg14 fullShare d12 ∗ (∃ Y, iprop(⌜Carries Y (last8 (k0_pay10 x0))⌝ ∗ owns (c : Thread nD τ) arg15 fullShare Y)) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (k0_pay4 (hEnd T H x0 x4 x5 x6 x7 x8 x9 x10))) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_rglru_eq_skeleton]; unfold cc0_rglru_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%fs, %hfs, HS⟩, ⟨%da, %fa, -, HA⟩, ⟨%du, %fu, -, HU⟩, ⟨%dh, %fh, -, HH⟩, ⟨%fc, %hfc, HC⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    obtain rfl := harg14.eq_unread hf12
    obtain rfl := harg15.eq_unread hfs; obtain rfl := harg19.eq_unread hfc
    sl_exec (disch := first | sl_exact hc0 | sl_exact hc1)
    sl_step
    have e0 : View.readAt (Elt F) arg2.view (Rect.unit (s := S1x512x512) ![0, 0, 0] S1x512x512.size inb_S1x512x512_S1x512x512_0_0_0).toLoadRect (harg2.unread x0) = x0 := (View.readAt_full _ _ _).trans (harg2.read_unread _)
    have e1 : View.readAt (Elt F) arg3.view (Rect.unit (s := S1x512x512) ![0, 0, 0] S1x512x512.size inb_S1x512x512_S1x512x512_0_0_0).toLoadRect (harg3.unread x1) = x1 := (View.readAt_full _ _ _).trans (harg3.read_unread _)
    have e5 : View.readAt (Elt F) arg7.view (Rect.unit (s := S1x512) ![0, 0] S1x512.size inb_S1x512_S1x512_0_0).toLoadRect (harg7.unread x5) = x5 := (View.readAt_full _ _ _).trans (harg7.read_unread _)
    have e6 : View.readAt (Elt F) arg8.view (Rect.unit (s := S512x512) ![0, 0] S512x512.size inb_S512x512_S512x512_0_0).toLoadRect (harg8.unread x6) = x6 := (View.readAt_full _ _ _).trans (harg8.read_unread _)
    have e7 : View.readAt (Elt F) arg9.view (Rect.unit (s := S1x512) ![0, 0] S1x512.size inb_S1x512_S1x512_0_0).toLoadRect (harg9.unread x7) = x7 := (View.readAt_full _ _ _).trans (harg9.read_unread _)
    have e8 : View.readAt (Elt F) arg10.view (Rect.unit (s := S512x512) ![0, 0] S512x512.size inb_S512x512_S512x512_0_0).toLoadRect (harg10.unread x8) = x8 := (View.readAt_full _ _ _).trans (harg10.read_unread _)
    have e9 : View.readAt (Elt F) arg11.view (Rect.unit (s := S1x512) ![0, 0] S1x512.size inb_S1x512_S1x512_0_0).toLoadRect (harg11.unread x9) = x9 := (View.readAt_full _ _ _).trans (harg11.read_unread _)
    have e10 : View.readAt (Elt F) arg12.view (Rect.unit (s := S1x512) ![0, 0] S1x512.size inb_S1x512_S1x512_0_0).toLoadRect (harg12.unread x10) = x10 := (View.readAt_full _ _ _).trans (harg12.read_unread _)
    have r0 : View.readAt (Elt F) arg6.view (Rect.unit (s := S4x512) ![0, 0] S1x512.size inb_S4x512_S1x512_0_0).toLoadRect (harg6.unread x4) = cw0 x4 := by
      rw [View.readAt_eq_ld, harg6.read_unread]
    have r1 : View.readAt (Elt F) arg6.view (Rect.unit (s := S4x512) ![1, 0] S1x512.size inb_S4x512_S1x512_1_0).toLoadRect (harg6.unread x4) = cw1 x4 := by
      rw [View.readAt_eq_ld, harg6.read_unread]
    have r2 : View.readAt (Elt F) arg6.view (Rect.unit (s := S4x512) ![2, 0] S1x512.size inb_S4x512_S1x512_2_0).toLoadRect (harg6.unread x4) = cw2 x4 := by
      rw [View.readAt_eq_ld, harg6.read_unread]
    have r3 : View.readAt (Elt F) arg6.view (Rect.unit (s := S4x512) ![3, 0] S1x512.size inb_S4x512_S1x512_3_0).toLoadRect (harg6.unread x4) = cw3 x4 := by
      rw [View.readAt_eq_ld, harg6.read_unread]
    have l0 : View.readAt (Elt F) arg15.view (Rect.unit (s := S520x512) ![0, 0] S520x512.size inb_S520x512_S520x512_0_0).toLoadRect (arg15.view.writes (Elt F) (harg15.unread xs) [⟨Rect.unit (s := S520x512) ![8, 0] S512x512.size inb_S520x512_S512x512_8_0, k0_pay10 x0⟩]) = strip T (k0_pay10 x0) :=
      readAt_strip arg15.view (harg15.unread xs) [] T (k0_pay10 x0) (by rw [View.writes_nil, harg15.read_unread]; exact hT) inb_S520x512_S520x512_0_0 inb_S520x512_S512x512_8_0
    have l19 : View.readAt (Elt F) arg19.view (Rect.unit (s := S8x512) ![0, 0] S8x512.size inb_S8x512_S8x512_0_0).toLoadRect (harg19.unread H) = H := (View.readAt_full _ _ _).trans (harg19.read_unread _)
    have l15 : arg15.view.readCov [⟨Rect.unit (s := S520x512) ![8, 0] S512x512.size inb_S520x512_S512x512_8_0, k0_pay10 x0⟩] (Rect.unit (s := S520x512) ![512, 0] S8x512.size inb_S520x512_S8x512_512_0).toLoadRect = last8 (k0_pay10 x0) :=
      readAt_last8 arg15.view arg15.view.junk [] (k0_pay10 x0) inb_S520x512_S8x512_512_0 inb_S520x512_S512x512_8_0
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; swap; · iexact H11
      ipureintro
      sl_unfold_words
      refine (View.read_writes_full _ _ _ _ _).trans ?_
      simp only [e0, e1, e5, e6, e7, e8, e9, e10, r0, r1, r2, r3, l0, l19]
      rw [show Scf.trips (0#32) (Scalar.addi 0#32 64#32) 1#32 = k0_t1_loop.trips from rfl]
      exact congrArg (fun v => k0_pay5 v x1) (states_of _ _ _ _ _ _ _ _ _ _ _ _ _ _ _ _ _ _ _ _ _ _ _ _ _ _ _ _ _ _ _ _ _ _ _ _ _ _ _ _ _ _ fh inb_S512x512_S512x512_0_0 T H x0 x4 x5 x6 x7 x8 x9 x10 (View.read_writes_full _ _ _ _ _) (View.read_writes_full _ _ _ _ _))
    isplitl [H12]
    · iexists _; isplitr; swap; · iexact H12
      ipureintro
      exact harg14.read_unread _
    isplitl [HS]
    · iexists _
      isplitr
      swap
      · iexists _; isplitr; swap; · iexact HS
        ipureintro
        rfl
      ipureintro
      sl_unfold_words
      simp only [e0]
      rw [l15, pay14_eq]
      exact carries_cons _ _ _ _ _
    isplitl [HA]
    · iexists _; iexists _; isplitr; swap; · iexact HA
      ipureintro; rfl
    isplitl [HU]
    · iexists _; iexists _; isplitr; swap; · iexact HU
      ipureintro; rfl
    isplitl [HH]
    · iexists _; iexists _; isplitr; swap; · iexact HH
      ipureintro; rfl
    iexists _; isplitr; swap; · iexact HC
    ipureintro
    sl_unfold_words
    refine (View.read_writes_full _ _ _ _ _).trans ?_
    simp only [e0, e1, e5, e6, e7, e8, e9, e10, r0, r1, r2, r3, l0, l19]
    rw [show Scf.trips (0#32) (Scalar.addi 0#32 64#32) 1#32 = k0_t1_loop.trips from rfl]
    exact congrArg k0_pay4 (hEnd_of _ _ _ _ _ _ _ _ _ _ _ _ _ _ _ _ _ _ _ _ _ _ _ _ _ _ _ _ _ _ _ _ _ _ _ _ _ _ _ _ _ _ T H x0 x4 x5 x6 x7 x8 x9 x10 (View.read_writes_full _ _ _ _ _) (View.read_writes_full _ _ _ _ _))

end Cert.RglruIdeal.Value
end
-- ==== Proof.Rglru.RunC.lean ====
module

public import proofs.«01_k».proof.Proof.Rglru.Conv
public import Idealize.ShloMosaic.Lib.Pointwise
public import Idealize.ShloMosaic.Lib.VecWindow
public import Idealize.ShloMosaic.Lib.WritesUnit

@[expose] public section

set_option maxRecDepth 16384

noncomputable section

namespace Cert.RglruIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RglruIdeal.Gen

variable {F : FTy → Type} [FloatOps F]

local notation "𝕄" => MT nD τ sig Unit (Elt F) ℕ (UR sig nD τ) ℕ

set_option maxHeartbeats 1600000 in
/-- The body at a sequence's last step: the state is stored as well. -/
theorem run_C (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x1x512 .f32) (harg4 : arg4.IsWhole) (arg5 : Memref sig .tc .vmem S1x3x512 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512x512 .bf16) (harg13 : arg13.IsWhole) (arg14 : Memref sig .tc .vmem S1x1x512 .f32) (harg14 : arg14.IsWhole) (arg15 : Memref sig .tc .vmem S520x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S8x512 .f32) (harg19 : arg19.IsWhole) (hc0 : ¬cond0_0 i) (hc1 : cond0_1 i)
    (x0 : Vec F S1x512x512 .f32) (x1 : Vec F S1x512x512 .f32) (x2 : Vec F S1x1x512 .f32) (x3 : Vec F S1x3x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32) (xs : Vec F S520x512 .f32) (T : Vec F S8x512 .f32) (hT : Carries xs T) (H : Vec F S8x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare xs ∗ (∃ d, owns (c : Thread nD τ) arg16 fullShare d) ∗ (∃ d, owns (c : Thread nD τ) arg17 fullShare d) ∗ (∃ d, owns (c : Thread nD τ) arg18 fullShare d) ∗ owns (c : Thread nD τ) arg19 fullShare H
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (rBlk T H x0 x1 x4 x5 x6 x7 x8 x9 x10) ∗ owns (c : Thread nD τ) arg14 fullShare (k0_pay6 (hEnd T H x0 x4 x5 x6 x7 x8 x9 x10)) ∗ (∃ Y, iprop(⌜Carries Y (last8 (k0_pay10 x0))⌝ ∗ owns (c : Thread nD τ) arg15 fullShare Y)) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (k0_pay4 (hEnd T H x0 x4 x5 x6 x7 x8 x9 x10))) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_rglru_eq_skeleton]; unfold cc0_rglru_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs, %hfs, HS⟩, ⟨%da, %fa, -, HA⟩, ⟨%du, %fu, -, HU⟩, ⟨%dh, %fh, -, HH⟩, ⟨%fc, %hfc, HC⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    obtain rfl := harg15.eq_unread hfs; obtain rfl := harg19.eq_unread hfc
    sl_exec (disch := first | sl_exact hc0 | sl_exact hc1)
    sl_step
    have e0 : View.readAt (Elt F) arg2.view (Rect.unit (s := S1x512x512) ![0, 0, 0] S1x512x512.size inb_S1x512x512_S1x512x512_0_0_0).toLoadRect (harg2.unread x0) = x0 := (View.readAt_full _ _ _).trans (harg2.read_unread _)
    have e1 : View.readAt (Elt F) arg3.view (Rect.unit (s := S1x512x512) ![0, 0, 0] S1x512x512.size inb_S1x512x512_S1x512x512_0_0_0).toLoadRect (harg3.unread x1) = x1 := (View.readAt_full _ _ _).trans (harg3.read_unread _)
    have e5 : View.readAt (Elt F) arg7.view (Rect.unit (s := S1x512) ![0, 0] S1x512.size inb_S1x512_S1x512_0_0).toLoadRect (harg7.unread x5) = x5 := (View.readAt_full _ _ _).trans (harg7.read_unread _)
    have e6 : View.readAt (Elt F) arg8.view (Rect.unit (s := S512x512) ![0, 0] S512x512.size inb_S512x512_S512x512_0_0).toLoadRect (harg8.unread x6) = x6 := (View.readAt_full _ _ _).trans (harg8.read_unread _)
    have e7 : View.readAt (Elt F) arg9.view (Rect.unit (s := S1x512) ![0, 0] S1x512.size inb_S1x512_S1x512_0_0).toLoadRect (harg9.unread x7) = x7 := (View.readAt_full _ _ _).trans (harg9.read_unread _)
    have e8 : View.readAt (Elt F) arg10.view (Rect.unit (s := S512x512) ![0, 0] S512x512.size inb_S512x512_S512x512_0_0).toLoadRect (harg10.unread x8) = x8 := (View.readAt_full _ _ _).trans (harg10.read_unread _)
    have e9 : View.readAt (Elt F) arg11.view (Rect.unit (s := S1x512) ![0, 0] S1x512.size inb_S1x512_S1x512_0_0).toLoadRect (harg11.unread x9) = x9 := (View.readAt_full _ _ _).trans (harg11.read_unread _)
    have e10 : View.readAt (Elt F) arg12.view (Rect.unit (s := S1x512) ![0, 0] S1x512.size inb_S1x512_S1x512_0_0).toLoadRect (harg12.unread x10) = x10 := (View.readAt_full _ _ _).trans (harg12.read_unread _)
    have r0 : View.readAt (Elt F) arg6.view (Rect.unit (s := S4x512) ![0, 0] S1x512.size inb_S4x512_S1x512_0_0).toLoadRect (harg6.unread x4) = cw0 x4 := by
      rw [View.readAt_eq_ld, harg6.read_unread]
    have r1 : View.readAt (Elt F) arg6.view (Rect.unit (s := S4x512) ![1, 0] S1x512.size inb_S4x512_S1x512_1_0).toLoadRect (harg6.unread x4) = cw1 x4 := by
      rw [View.readAt_eq_ld, harg6.read_unread]
    have r2 : View.readAt (Elt F) arg6.view (Rect.unit (s := S4x512) ![2, 0] S1x512.size inb_S4x512_S1x512_2_0).toLoadRect (harg6.unread x4) = cw2 x4 := by
      rw [View.readAt_eq_ld, harg6.read_unread]
    have r3 : View.readAt (Elt F) arg6.view (Rect.unit (s := S4x512) ![3, 0] S1x512.size inb_S4x512_S1x512_3_0).toLoadRect (harg6.unread x4) = cw3 x4 := by
      rw [View.readAt_eq_ld, harg6.read_unread]
    have l0 : View.readAt (Elt F) arg15.view (Rect.unit (s := S520x512) ![0, 0] S520x512.size inb_S520x512_S520x512_0_0).toLoadRect (arg15.view.writes (Elt F) (harg15.unread xs) [⟨Rect.unit (s := S520x512) ![8, 0] S512x512.size inb_S520x512_S512x512_8_0, k0_pay10 x0⟩]) = strip T (k0_pay10 x0) :=
      readAt_strip arg15.view (harg15.unread xs) [] T (k0_pay10 x0) (by rw [View.writes_nil, harg15.read_unread]; exact hT) inb_S520x512_S520x512_0_0 inb_S520x512_S512x512_8_0
    have l19 : View.readAt (Elt F) arg19.view (Rect.unit (s := S8x512) ![0, 0] S8x512.size inb_S8x512_S8x512_0_0).toLoadRect (harg19.unread H) = H := (View.readAt_full _ _ _).trans (harg19.read_unread _)
    have l15 : arg15.view.readCov [⟨Rect.unit (s := S520x512) ![8, 0] S512x512.size inb_S520x512_S512x512_8_0, k0_pay10 x0⟩] (Rect.unit (s := S520x512) ![512, 0] S8x512.size inb_S520x512_S8x512_512_0).toLoadRect = last8 (k0_pay10 x0) :=
      readAt_last8 arg15.view arg15.view.junk [] (k0_pay10 x0) inb_S520x512_S8x512_512_0 inb_S520x512_S512x512_8_0
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; swap; · iexact H11
      ipureintro
      sl_unfold_words
      refine (View.read_writes_full _ _ _ _ _).trans ?_
      simp only [e0, e1, e5, e6, e7, e8, e9, e10, r0, r1, r2, r3, l0, l19]
      rw [show Scf.trips (0#32) (Scalar.addi 0#32 64#32) 1#32 = k0_t1_loop.trips from rfl]
      exact congrArg (fun v => k0_pay5 v x1) (states_of _ _ _ _ _ _ _ _ _ _ _ _ _ _ _ _ _ _ _ _ _ _ _ _ _ _ _ _ _ _ _ _ _ _ _ _ _ _ _ _ _ _ fh inb_S512x512_S512x512_0_0 T H x0 x4 x5 x6 x7 x8 x9 x10 (View.read_writes_full _ _ _ _ _) (View.read_writes_full _ _ _ _ _))
    isplitl [H12]
    · iexists _; isplitr; swap; · iexact H12
      ipureintro
      sl_unfold_words
      refine (View.read_writes_full _ _ _ _ _).trans ?_
      simp only [e0, e1, e5, e6, e7, e8, e9, e10, r0, r1, r2, r3, l0, l19]
      rw [show Scf.trips (0#32) (Scalar.addi 0#32 64#32) 1#32 = k0_t1_loop.trips from rfl]
      exact congrArg k0_pay6 (hEnd_of _ _ _ _ _ _ _ _ _ _ _ _ _ _ _ _ _ _ _ _ _ _ _ _ _ _ _ _ _ _ _ _ _ _ _ _ _ _ _ _ _ _ T H x0 x4 x5 x6 x7 x8 x9 x10 (View.read_writes_full _ _ _ _ _) (View.read_writes_full _ _ _ _ _))
    isplitl [HS]
    · iexists _
      isplitr
      swap
      · iexists _; isplitr; swap; · iexact HS
        ipureintro
        rfl
      ipureintro
      sl_unfold_words
      simp only [e0]
      rw [l15, pay14_eq]
      exact carries_cons _ _ _ _ _
    isplitl [HA]
    · iexists _; iexists _; isplitr; swap; · iexact HA
      ipureintro; rfl
    isplitl [HU]
    · iexists _; iexists _; isplitr; swap; · iexact HU
      ipureintro; rfl
    isplitl [HH]
    · iexists _; iexists _; isplitr; swap; · iexact HH
      ipureintro; rfl
    iexists _; isplitr; swap; · iexact HC
    ipureintro
    sl_unfold_words
    refine (View.read_writes_full _ _ _ _ _).trans ?_
    simp only [e0, e1, e5, e6, e7, e8, e9, e10, r0, r1, r2, r3, l0, l19]
    rw [show Scf.trips (0#32) (Scalar.addi 0#32 64#32) 1#32 = k0_t1_loop.trips from rfl]
    exact congrArg k0_pay4 (hEnd_of _ _ _ _ _ _ _ _ _ _ _ _ _ _ _ _ _ _ _ _ _ _ _ _ _ _ _ _ _ _ _ _ _ _ _ _ _ _ _ _ _ _ T H x0 x4 x5 x6 x7 x8 x9 x10 (View.read_writes_full _ _ _ _ _) (View.read_writes_full _ _ _ _ _))

end Cert.RglruIdeal.Value
end
-- ==== Proof.Rglru.Frame.lean ====
/- The launch of the recurrence: what each step leaves in its blocks and in the scratch it carries, the body
   obligation at every step, and the run of the whole launch. -/
module

public import proofs.«01_k».proof.Proof.Rglru.RunA
public import proofs.«01_k».proof.Proof.Rglru.RunB
public import proofs.«01_k».proof.Proof.Rglru.RunC
public import Idealize.ShloMosaic.Lib.Claim
public import Idealize.ShloMosaic.Lib.Pointwise
public import Idealize.ShloMosaic.Lib.VecWindow
public import Idealize.ShloMosaic.Lib.WritesUnit

@[expose] public section

set_option maxRecDepth 16384

noncomputable section

namespace Cert.RglruIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RglruIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight rows before step `t`: the call's own at the start of a sequence, else the last eight of the step before. -/
def tailAt (c : Dev nD) (t : Fin cfg0.N) : Vec F S8x512 .f32 :=
  if t.val % 8 = 0 then headRows (iblk m c 3 t) else last8 (k0_pay10 (iblk m c 0 ⟨t.val - 1, lt_of_le_of_lt (Nat.sub_le _ _) t.isLt⟩))

/-- The state step `t` starts from, in every row: the call's own at the start of a sequence, else what the step before ends with. -/
def startAt (c : Dev nD) : (n : ℕ) → n < cfg0.N → Vec F S8x512 .f32
  | 0, h => k0_pay9 (iblk m c 2 ⟨0, h⟩)
  | n + 1, h => if (n + 1) % 8 = 0 then k0_pay9 (iblk m c 2 ⟨n + 1, h⟩)
      else k0_pay4 (hEnd (tailAt m c ⟨n, Nat.lt_of_succ_lt h⟩) (startAt c n (Nat.lt_of_succ_lt h)) (iblk m c 0 ⟨n, Nat.lt_of_succ_lt h⟩) (iblk m c 4 ⟨n, Nat.lt_of_succ_lt h⟩) (iblk m c 5 ⟨n, Nat.lt_of_succ_lt h⟩) (iblk m c 6 ⟨n, Nat.lt_of_succ_lt h⟩) (iblk m c 7 ⟨n, Nat.lt_of_succ_lt h⟩) (iblk m c 8 ⟨n, Nat.lt_of_succ_lt h⟩) (iblk m c 9 ⟨n, Nat.lt_of_succ_lt h⟩) (iblk m c 10 ⟨n, Nat.lt_of_succ_lt h⟩))

/-- The state step `t` ends with, in every row. -/
def endAt (c : Dev nD) (t : Fin cfg0.N) : Vec F S8x512 .f32 :=
  hEnd (tailAt m c t) (startAt m c t.val t.isLt) (iblk m c 0 t) (iblk m c 4 t) (iblk m c 5 t) (iblk m c 6 t) (iblk m c 7 t) (iblk m c 8 t) (iblk m c 9 t) (iblk m c 10 t)

/-- The rows of results of step `t`. -/
def rAt (c : Dev nD) (t : Fin cfg0.N) : Vec F S1x512x512 .bf16 :=
  rBlk (tailAt m c t) (startAt m c t.val t.isLt) (iblk m c 0 t) (iblk m c 1 t) (iblk m c 4 t) (iblk m c 5 t) (iblk m c 6 t) (iblk m c 7 t) (iblk m c 8 t) (iblk m c 9 t) (iblk m c 10 t)

theorem startAt_first (c : Dev nD) (t : Fin cfg0.N) (h : t.val % 8 = 0) : startAt m c t.val t.isLt = k0_pay9 (iblk m c 2 t) := by
  obtain ⟨n, hn⟩ := t
  cases n with
  | zero => rfl
  | succ n => exact if_pos h

theorem startAt_next (c : Dev nD) (t : Fin cfg0.N) (h : ¬t.val % 8 = 0) :
    startAt m c t.val t.isLt = k0_pay4 (endAt m c ⟨t.val - 1, lt_of_le_of_lt (Nat.sub_le _ _) t.isLt⟩) := by
  obtain ⟨n, hn⟩ := t
  cases n with
  | zero => exact absurd rfl h
  | succ n => exact if_neg h

/-- What the scratch holds after `k` steps: in its first eight rows the last rows of step `k - 1`. -/
def carried (c : Dev nD) (k : ℕ) (X : Vec F S520x512 .f32) : Prop :=
  ∀ s : Fin cfg0.N, s.val + 1 = k → Carries X (last8 (k0_pay10 (iblk m c 0 s)))

/-- What the state's scratch holds after `k` steps. -/
def carriedH (c : Dev nD) (k : ℕ) (X : Vec F S8x512 .f32) : Prop :=
  ∀ s : Fin cfg0.N, s.val + 1 = k → X = k0_pay4 (endAt m c s)

/-- The proof data of the launch. -/
def dats (_ : Fin 1) (c : Dev nD) : Dat τ (Elt F) Unit ℕ (UR sig nD τ) ℕ cfg0 c where
  A w := V m c (Pipeline.arrRef spec0 w)
  after
    | ⟨0, _⟩ => fun t => iblk m c 0 t
    | ⟨1, _⟩ => fun t => iblk m c 1 t
    | ⟨2, _⟩ => fun t => iblk m c 2 t
    | ⟨3, _⟩ => fun t => iblk m c 3 t
    | ⟨4, _⟩ => fun t => iblk m c 4 t
    | ⟨5, _⟩ => fun t => iblk m c 5 t
    | ⟨6, _⟩ => fun t => iblk m c 6 t
    | ⟨7, _⟩ => fun t => iblk m c 7 t
    | ⟨8, _⟩ => fun t => iblk m c 8 t
    | ⟨9, _⟩ => fun t => iblk m c 9 t
    | ⟨10, _⟩ => fun t => iblk m c 10 t
    | ⟨11, _⟩ => fun t => rAt m c t
    | ⟨12, _⟩ => fun t => k0_pay6 (endAt m c t)
  Φ k := iprop((∃ X, iprop(⌜carried m c k.val X⌝ ∗ owns (c : Thread nD τ) scM0_0 fullShare X)) ∗ (∃ d, owns (c : Thread nD τ) scM0_1 fullShare d) ∗ (∃ d, owns (c : Thread nD τ) scM0_2 fullShare d) ∗ (∃ d, owns (c : Thread nD τ) scM0_3 fullShare d) ∗ (∃ X, iprop(⌜carriedH m c k.val X⌝ ∗ owns (c : Thread nD τ) scM0_4 fullShare X)) ∗ (∃ r, prngReg c r))
  q _ := fullShare
  owed _ := 0

/-- The arrays are those the launch finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
/-- Every step leaves its rows of results in the first output's block. -/
theorem after0_11 (c : Dev nD) (t : Fin cfg0.N) : (dats m 0 c).after 11 t = rAt m c t := by dsimp only [dats]
/-- A sequence's last step leaves its last state in the second output's block. -/
theorem after0_12 (c : Dev nD) (t : Fin cfg0.N) : (dats m 0 c).after 12 t = k0_pay6 (endAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The invariant, spelled out. -/
theorem Phi_eq (c : Dev nD) (k : Fin (cfg0.N + 1)) : (dats m 0 c).Φ k
    = iprop((∃ X, iprop(⌜carried m c k.val X⌝ ∗ owns (c : Thread nD τ) scM0_0 fullShare X)) ∗ (∃ d, owns (c : Thread nD τ) scM0_1 fullShare d) ∗ (∃ d, owns (c : Thread nD τ) scM0_2 fullShare d) ∗ (∃ d, owns (c : Thread nD τ) scM0_3 fullShare d) ∗ (∃ X, iprop(⌜carriedH m c k.val X⌝ ∗ owns (c : Thread nD τ) scM0_4 fullShare X)) ∗ (∃ r, prngReg c r)) := by
  dsimp only [dats]

/-- The first output is stored at every step. -/
theorem liveAt0_11 : ∀ t : Fin cfg0.N, cfg0.idle 11 (grid0.coords t) = false := fun _ => rfl

/-- The second output is stored at a sequence's last step, -/
theorem liveAt0_12 (t : Fin cfg0.N) (h : t.val % 8 = 7) : cfg0.idle 12 (grid0.coords t) = false := by
  show (!(k0_cond2 (grid0.coords t) == 1#1)) = false
  rw [(hcond0_1 t).mpr h]; rfl

/-- and at no other. -/
theorem idleAt0_12 (t : Fin cfg0.N) (h : ¬t.val % 8 = 7) : cfg0.idle 12 (grid0.coords t) = true := by
  show (!(k0_cond2 (grid0.coords t) == 1#1)) = true
  have := mt (hcond0_1 t).mp h
  simpa [cond0_1] using this

/-- Elsewhere its block isn't written back. -/
theorem noflush0_12 (t : Fin cfg0.N) (h : ¬t.val % 8 = 7) : (cfg0.win 12).flush t = false :=
  Bool.eq_false_iff.mpr (mt (flush0_12 t).mp h)

/-- What the scratch holds after step `t`. -/
theorem carried_succ (c : Dev nD) (t : Fin cfg0.N) (X : Vec F S520x512 .f32) (h : Carries X (last8 (k0_pay10 (iblk m c 0 t)))) :
    carried m c t.succ.val X := by
  intro s hs
  have e : s = t := Fin.ext (by simpa using hs)
  subst e; exact h

theorem carriedH_succ (c : Dev nD) (t : Fin cfg0.N) : carriedH m c t.succ.val (k0_pay4 (endAt m c t)) := by
  intro s hs
  have e : s = t := Fin.ext (by simpa using hs)
  subst e; rfl

/-- What the scratch holds before a step inside a sequence. -/
theorem carried_tail (c : Dev nD) (t : Fin cfg0.N) (X : Vec F S520x512 .f32) (h : carried m c t.castSucc.val X)
    (h0 : ¬t.val % 8 = 0) : Carries X (tailAt m c t) := by
  unfold tailAt
  rw [if_neg h0]
  exact h ⟨t.val - 1, lt_of_le_of_lt (Nat.sub_le _ _) t.isLt⟩ (show t.val - 1 + 1 = t.val by omega)

theorem carriedH_start (c : Dev nD) (t : Fin cfg0.N) (X : Vec F S8x512 .f32) (h : carriedH m c t.castSucc.val X)
    (h0 : ¬t.val % 8 = 0) : X = startAt m c t.val t.isLt :=
  (h ⟨t.val - 1, lt_of_le_of_lt (Nat.sub_le _ _) t.isLt⟩ (show t.val - 1 + 1 = t.val by omega)).trans (startAt_next m c t h0).symm

/-! ## The body obligation -/

/-- What the body is called with at step `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4800000 in
/-- The body at any step: at the start of a sequence the carried rows and state come from the call's inputs, inside it
    from the scratch; at the end of a sequence the state is also stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [Phi_eq, Phi_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  by_cases h0 : t.val % 8 = 0
  · have h1 : ¬t.val % 8 = 7 := by omega
    rw [(dats m 0 c).leavesExact_idle 12 t (idleAt0_12 t h1) (noflush0_12 t h1)]
    have hend : endAt m c t = hEnd (headRows (iblk m c 3 t)) (k0_pay9 (iblk m c 2 t)) (iblk m c 0 t) (iblk m c 4 t) (iblk m c 5 t) (iblk m c 6 t) (iblk m c 7 t) (iblk m c 8 t) (iblk m c 9 t) (iblk m c 10 t) := by
      unfold endAt tailAt; rw [if_pos h0, startAt_first m c t h0]
    rw [show rAt m c t = rBlk (headRows (iblk m c 3 t)) (k0_pay9 (iblk m c 2 t)) (iblk m c 0 t) (iblk m c 1 t) (iblk m c 4 t) (iblk m c 5 t) (iblk m c 6 t) (iblk m c 7 t) (iblk m c 8 t) (iblk m c 9 t) (iblk m c 10 t) from by
      unfold rAt tailAt; rw [if_pos h0, startAt_first m c t h0]]
    iintro ⟨⟨⟨%X, %hX, HS0⟩, HS1, HS2, HS3, ⟨%Z, %hZ, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((run_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 12 t d12)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [HS0]; · iexists _; iexact HS0
    isplitl [HS1]; · iexact HS1
    isplitl [HS2]; · iexact HS2
    isplitl [HS3]; · iexact HS3
    isplitl [HS4]; · iexists _; iexact HS4
    iintro ⟨H0, H1, H2, H3, H4, H5, H6, H7, H8, H9, H10, H11, H12, ⟨%Y, %hY, HS0⟩, HS1, HS2, HS3, HS4⟩
    isplitl [HS0 HS1 HS2 HS3 HS4 Hg]
    · isplitl [HS0]
      · iexists Y; isplitr
        · ipureintro; exact carried_succ m c t Y hY
        iexact HS0
      isplitl [HS1]; · iexact HS1
      isplitl [HS2]; · iexact HS2
      isplitl [HS3]; · iexact HS3
      isplitl [HS4]
      · iexists _; isplitr
        · ipureintro; exact carriedH_succ m c t
        rw [show endAt m c t = hEnd (headRows (iblk m c 3 t)) (k0_pay9 (iblk m c 2 t)) (iblk m c 0 t) (iblk m c 4 t) (iblk m c 5 t) (iblk m c 6 t) (iblk m c 7 t) (iblk m c 8 t) (iblk m c 9 t) (iblk m c 10 t) from hend]
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  by_cases h1 : t.val % 8 = 7
  · rw [show (dats m 0 c).leavesExact 12 t = owns (c : Thread nD τ) (ms0_12 t) fullShare ((dats m 0 c).after 12 t) from by
      unfold Dat.leavesExact; rw [liveAt0_12 t h1], after0_12]
    iintro ⟨⟨⟨%X, %hX, HS0⟩, HS1, HS2, HS3, ⟨%Z, %hZ, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    obtain rfl := carriedH_start m c t Z hZ h0
    iapply ((run_C c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) X (tailAt m c t) (carried_tail m c t X hX h0) (startAt m c t.val t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, ⟨%Y, %hY, HS0⟩, HS1, HS2, HS3, HS4⟩
    isplitl [HS0 HS1 HS2 HS3 HS4 Hg]
    · isplitl [HS0]
      · iexists Y; isplitr
        · ipureintro; exact carried_succ m c t Y hY
        iexact HS0
      isplitl [HS1]; · iexact HS1
      isplitl [HS2]; · iexact HS2
      isplitl [HS3]; · iexact HS3
      isplitl [HS4]
      · iexists _; isplitr
        · ipureintro; exact carriedH_succ m c t
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [(dats m 0 c).leavesExact_idle 12 t (idleAt0_12 t h1) (noflush0_12 t h1)]
    iintro ⟨⟨⟨%X, %hX, HS0⟩, HS1, HS2, HS3, ⟨%Z, %hZ, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    obtain rfl := carriedH_start m c t Z hZ h0
    iapply ((run_B c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 12 t d12) X (tailAt m c t) (carried_tail m c t X hX h0) (startAt m c t.val t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, ⟨%Y, %hY, HS0⟩, HS1, HS2, HS3, HS4⟩
    isplitl [HS0 HS1 HS2 HS3 HS4 Hg]
    · isplitl [HS0]
      · iexists Y; isplitr
        · ipureintro; exact carried_succ m c t Y hY
        iexact HS0
      isplitl [HS1]; · iexact HS1
      isplitl [HS2]; · iexact HS2
      isplitl [HS3]; · iexact HS3
      isplitl [HS4]
      · iexists _; isplitr
        · ipureintro; exact carriedH_succ m c t
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12

/-- The body table's row at step `t`. -/
theorem row0 (t : Fin cfg0.N) :
    defs₀ (F := F) .tc cfg0.body (cfg0.bodyArgs t (cfg0.slots t)) = bodyAt0 t := by
  unfold defs₀; rw [Defs.onTc_tc]

/-- The body obligation at every step. -/
theorem body_obligation (c : Dev nD) : BodyObligation (dats (F := F) m 0 c) (defs₀ (F := F)) Variants.none () Set.univ := fun t => by
  rw [bigSep_W0, bigSep_W0, row0]
  exact triple_restated (sound_body m c t) rfl .rfl fun _ => .rfl

/-! ## The run -/

/-- The launch starts with the scratch at anything. -/
theorem enters (c : Dev nD) : (Pipeline.ΦA spec0 c : sProp 𝕄) ⊢ (dats m 0 c).Φ 0 := by
  rw [Phi_eq, PhiA0_eq]
  iintro ⟨⟨⟨%d, H⟩, H1, H2, H3, ⟨%e, H4⟩⟩, Hg⟩
  isplitl [H]
  · iexists d; isplitr
    · ipureintro; intro s hs; exact absurd hs (Nat.succ_ne_zero _)
    iexact H
  isplitl [H1]; · iexact H1
  isplitl [H2]; · iexact H2
  isplitl [H3]; · iexact H3
  isplitl [H4]
  · iexists e; isplitr
    · ipureintro; intro s hs; exact absurd hs (Nat.succ_ne_zero _)
    iexact H4
  iexact Hg

/-- The launch ends with the scratch at something. -/
theorem leaves (c : Dev nD) : (dats m 0 c).Φ (Fin.last cfg0.N) ⊢ (Pipeline.ΦA spec0 c : sProp 𝕄) := by
  rw [Phi_eq, PhiA0_eq]
  iintro ⟨⟨%X, %hX, H⟩, H1, H2, H3, ⟨%Z, %hZ, H4⟩, Hg⟩
  isplitl [H H1 H2 H3 H4]
  · isplitl [H]; · iexists X; iexact H
    isplitl [H1]; · iexact H1
    isplitl [H2]; · iexact H2
    isplitl [H3]; · iexact H3
    iexists Z; iexact H4
  iexact Hg

set_option backward.isDefEq.respectTransparency.types false in
/-- The launch runs to the end, each array at what the steps make of it, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := leaves m)

/-- The same without the semaphores. -/
theorem run_main : θ_run defs (onTc (τ := τ) (main (F := F))) (s₀ m ρ) (Pipeline.FramePost cfgs (dats m) 0 (V m)) :=
  (θ_run defs _ _).mono (fun _ h => h.1) (run_quiescent m ρ)

/-- Every run ends with the argument arrays as they were and no semaphore left over. -/
theorem frame : θ_run (defs (F := F)) (onTc (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0 :=
  θ_run_and (frame_of m ρ (dats m) (A_eq m) (run_main m ρ)) ((θ_run defs _ _).mono (fun _ h => h.2) (run_quiescent m ρ))

end Cert.RglruIdeal.Value

end
-- ==== Proof.Rglru.Spec.lean ====
/- What the recurrence computes, index by index: the tokens are convolved over time, two gates are read off each block of
   columns, and every column's state is scaled by its decay and takes in the gated token; the output is the state times
   the activated gate. -/
module

public import proofs.«01_k».proof.Proof.Gen.RglruIdeal
public import Idealize.ShloMosaic.Lib.Pointwise

@[expose] public section

noncomputable section

namespace Cert.RglruSpec

open Cert.RglruIdeal Idealize.ShloMosaic

/-- The arguments: the recurrence's and the gate's tokens, the carried state and rows, and the weights. -/
structure Args where
  /-- the tokens -/
  X : S8x4096x512.Idx → EReal
  /-- the output's gate -/
  Y : S8x4096x512.Idx → EReal
  /-- the state before the first token -/
  H : S8x512.Idx → EReal
  /-- the three rows before the first token -/
  C : S8x3x512.Idx → EReal
  /-- the convolution's weights -/
  K : S4x512.Idx → EReal
  /-- the convolution's bias -/
  B : S512.Idx → EReal
  /-- the recurrence gate's weights -/
  WA : S8x64x64.Idx → EReal
  /-- the recurrence gate's bias -/
  BA : S512.Idx → EReal
  /-- the input gate's weights -/
  WX : S8x64x64.Idx → EReal
  /-- the input gate's bias -/
  BX : S512.Idx → EReal
  /-- the decay's parameter -/
  L : S512.Idx → EReal

variable (a : Args) (b : Fin 8) (s : ℕ) (j : Fin 512)

/-- Row `n` of the carried rows followed by the tokens. -/
def row (n : ℕ) : EReal :=
  if h : n < 3 then a.C (ix3 b ⟨n, h⟩ j) else if h' : n - 3 < 4096 then a.X (ix3 b ⟨n - 3, h'⟩ j) else 0

/-- The convolved token. -/
def conv : EReal :=
  a.B (ix1 j) + a.K (ix2 0 j) * row a b j s + a.K (ix2 1 j) * row a b j (1 + s) + a.K (ix2 2 j) * row a b j (2 + s)
    + a.K (ix2 3 j) * row a b j (3 + s)

/-- The block of columns that column `j` is in. -/
def blk : Fin 8 := ⟨j.val / 64, by omega⟩

/-- Column `j` within its block. -/
def off : Fin 64 := ⟨j.val % 64, by omega⟩

/-- Column `i` of the block that column `j` is in. -/
def col (i : Fin 64) : Fin 512 := ⟨j.val / 64 * 64 + i.val, by omega⟩

/-- A gate: the convolved block of columns against its weights, under the logistic function. -/
def gate (w : S8x64x64.Idx → EReal) (c : S512.Idx → EReal) : EReal :=
  Ideal.logistic ((∑ i, w (ix3 (blk j) i (off j)) * conv a b s (col j i)) + c (ix1 j))

/-- The smooth positive part of the negated parameter. -/
def rate : EReal := max (-a.L (ix1 j)) 0 + Ideal.log1p (Ideal.exp (-(max (-a.L (ix1 j)) (- -a.L (ix1 j)))))

/-- The logarithm of the decay. -/
def logDecay : EReal := Ideal.ofBits FTy.f32 3238002688#32 * gate a b s j a.WA a.BA * rate a j

/-- The decay. -/
def decay : EReal := Ideal.exp (logDecay a b s j)

/-- What a token adds to the state. -/
def input : EReal :=
  Ideal.sqrt (-(Ideal.exp (Ideal.ofBits FTy.f32 1073741824#32 * logDecay a b s j) - 1)) *
    (gate a b s j a.WX a.BX * conv a b s j)

/-- The state after `n` tokens. -/
def state : ℕ → EReal
  | 0 => a.H (ix2 b j)
  | n + 1 => decay a b n j * state n + input a b n j

/-- The output's activation. -/
def gelu (v : EReal) : EReal :=
  v * (Ideal.ofBits FTy.f32 1056964608#32 * (1 +
    Ideal.tanh (Ideal.ofBits FTy.f32 1061962282#32 * (v + Ideal.ofBits FTy.f32 1027024659#32 * (v * v * v)))))

/-- The gated output at token `s`. -/
def out (s : Fin 4096) : EReal := state a b j (s.val + 1) * gelu (a.Y (ix3 b s j))

/-- The gated output as an array. -/
def outArr : S8x4096x512.Idx → EReal := fun i => out a (i 0) (i 2) (i 1)

/-- The last state as an array. -/
def lastArr : S8x512.Idx → EReal := fun i => state a (i 0) (i 1) 4096

end Cert.RglruSpec

end
-- ==== Proof.Rglru.Arith.lean ====
/- Identities of the scalar functions that the recurrence uses, and of composed affine steps. -/
module

public import proofs.«01_k».proof.Proof.Rglru.Spec

@[expose] public section

noncomputable section

namespace Cert.RglruSpec

open Idealize.ShloMosaic

theorem half_val : Ideal.ofBits FTy.f32 1056964608#32 = ((1 / 2 : ℝ) : EReal) := by
  simp [Ideal.ofBits, Ideal.ieee, -EReal.coe_mul]; norm_num

theorem two_val : Ideal.ofBits FTy.f32 1073741824#32 = ((2 : ℝ) : EReal) := by
  simp [Ideal.ofBits, Ideal.ieee, -EReal.coe_mul, -EReal.coe_neg]; norm_num

theorem neg_eight_val : Ideal.ofBits FTy.f32 3238002688#32 = ((-8 : ℝ) : EReal) := by
  simp [Ideal.ofBits, Ideal.ieee, -EReal.coe_mul, -EReal.coe_neg]; norm_num

/-- The logistic function by the hyperbolic tangent of half the argument. -/
theorem logistic_eq (z : EReal) :
    Ideal.ofBits FTy.f32 1056964608#32 * (Ideal.tanh (Ideal.ofBits FTy.f32 1056964608#32 * z) + 1) = Ideal.logistic z := by
  rw [half_val]
  induction z with
  | bot =>
    rw [EReal.coe_mul_bot_of_pos (by norm_num), Ideal.tanh_bot, Ideal.logistic_bot]
    have : (-1 : EReal) + 1 = 0 := by rw [← EReal.coe_one, ← EReal.coe_neg, ← EReal.coe_add]; norm_num
    rw [this, mul_zero]
  | top =>
    rw [EReal.coe_mul_top_of_pos (by norm_num), Ideal.tanh_top, Ideal.logistic_top]
    rw [← EReal.coe_one, ← EReal.coe_add, ← EReal.coe_mul]; norm_num
  | coe x =>
    rw [← EReal.coe_mul, Ideal.tanh_coe, Ideal.logistic_coe, ← EReal.coe_one, ← EReal.coe_add, ← EReal.coe_mul]
    congr 1
    have hp := Real.exp_pos (1 / 2 * x)
    have hn := Real.exp_pos (-(1 / 2 * x))
    have e : Real.exp (-x) = Real.exp (-(1 / 2 * x)) * Real.exp (-(1 / 2 * x)) := by rw [← Real.exp_add]; ring_nf
    have e1 : Real.exp (-(1 / 2 * x)) = (Real.exp (1 / 2 * x))⁻¹ := Real.exp_neg _
    rw [e, Real.tanh_eq_sinh_div_cosh, Real.sinh_eq, Real.cosh_eq, e1]
    generalize Real.exp (1 / 2 * x) = y at hp
    have h1 : y ≠ 0 := hp.ne'
    have h2 : y * y + 1 ≠ 0 := by positivity
    field_simp
    ring

/-- One less the square of the decay, by the hyperbolic tangent of its logarithm. -/
theorem damp_eq (l : EReal) (hl : l ≤ 0) :
    (0 - Ideal.tanh l) * (Ideal.exp l * Ideal.exp l + 1) = -(Ideal.exp (Ideal.ofBits FTy.f32 1073741824#32 * l) - 1) := by
  rw [two_val]
  induction l with
  | bot =>
    rw [EReal.coe_mul_bot_of_pos (by norm_num), Ideal.tanh_bot, Ideal.exp_bot]
    simp
  | top => exact absurd hl (by simp)
  | coe x =>
    rw [← EReal.coe_mul, Ideal.tanh_coe, Ideal.exp_coe, Ideal.exp_coe, ← EReal.coe_one, ← EReal.coe_mul, ← EReal.coe_add,
      ← EReal.coe_sub, ← EReal.coe_neg, ← EReal.coe_zero, ← EReal.coe_sub, ← EReal.coe_mul]
    congr 1
    have hp := Real.exp_pos x
    have hn := Real.exp_pos (-x)
    have e : Real.exp (2 * x) = Real.exp x * Real.exp x := by rw [← Real.exp_add]; ring_nf
    have e1 : Real.exp (-x) = (Real.exp x)⁻¹ := Real.exp_neg x
    rw [e, Real.tanh_eq_sinh_div_cosh, Real.sinh_eq, Real.cosh_eq, e1]
    field_simp
    ring

/-- What is under the root is a number that is not negative. -/
theorem damp_real (l : EReal) (hl : l ≤ 0) :
    ∃ x : ℝ, 0 ≤ x ∧ -(Ideal.exp (Ideal.ofBits FTy.f32 1073741824#32 * l) - 1) = (x : EReal) := by
  rw [two_val]
  induction l with
  | bot =>
    refine ⟨1, zero_le_one, ?_⟩
    rw [EReal.coe_mul_bot_of_pos (by norm_num), Ideal.exp_bot]
    simp
  | top => exact absurd hl (by simp)
  | coe x =>
    refine ⟨-(Real.exp (2 * x) - 1), ?_, ?_⟩
    · have hx : x ≤ 0 := EReal.coe_le_coe_iff.mp hl
      have := Real.exp_le_one_iff.mpr (show 2 * x ≤ 0 by linarith)
      linarith
    · rw [← EReal.coe_mul, Ideal.exp_coe, ← EReal.coe_one, ← EReal.coe_sub, ← EReal.coe_neg]

/-- A root as the argument times its reciprocal root. -/
theorem root_eq (x : ℝ) (hx : 0 ≤ x) : (if (0 : EReal) < x then (x : EReal) * Ideal.rsqrt x else 0) = Ideal.sqrt x := by
  rw [Ideal.sqrt_coe, if_neg (not_lt.mpr hx), Ideal.rsqrt_coe, if_neg (not_lt.mpr hx)]
  rcases hx.lt_or_eq with h | h
  · rw [if_pos (by exact_mod_cast h), if_neg h.ne', ← EReal.coe_mul]
    congr 1
    have := Real.mul_self_sqrt hx
    have hs : Real.sqrt x ≠ 0 := (Real.sqrt_pos.mpr h).ne'
    field_simp
    nlinarith
  · subst h
    simp

theorem scale_eq (l : EReal) (hl : l ≤ 0) (z : EReal) (hz : z = (0 - Ideal.tanh l) * (Ideal.exp l * Ideal.exp l + 1)) :
    (if 0 < z then z * Ideal.rsqrt z else 0) = Ideal.sqrt (-(Ideal.exp (Ideal.ofBits FTy.f32 1073741824#32 * l) - 1)) := by
  obtain ⟨x, hx, e⟩ := damp_real l hl
  rw [hz, damp_eq l hl, e]
  exact root_eq x hx

theorem exp_nonneg (x : EReal) : 0 ≤ Ideal.exp x := by
  induction x with
  | bot => simp
  | top => simp
  | coe x => rw [Ideal.exp_coe]; exact_mod_cast (Real.exp_pos x).le

theorem log1p_nonneg (x : EReal) (hx : 0 ≤ x) : 0 ≤ Ideal.log1p x := by
  unfold Ideal.log1p
  induction x with
  | bot => simp at hx
  | top => rw [show (1 : EReal) + ⊤ = ⊤ from EReal.add_top_of_ne_bot (EReal.coe_ne_bot 1), Ideal.log_top]; simp
  | coe x =>
    have h0 : 0 ≤ x := by exact_mod_cast hx
    rw [← EReal.coe_one, ← EReal.coe_add, Ideal.log_coe]
    rw [if_neg (by linarith)]
    exact_mod_cast Real.log_nonneg (show (1 : ℝ) ≤ 1 + x by linarith)

theorem logistic_real (x : EReal) : ∃ y : ℝ, 0 ≤ y ∧ Ideal.logistic x = y := by
  induction x with
  | bot => exact ⟨0, le_rfl, by simp⟩
  | top => exact ⟨1, zero_le_one, by simp⟩
  | coe x => exact ⟨(1 + Real.exp (-x))⁻¹, by positivity, by simp⟩

theorem logDecay_le (a : Args) (b : Fin 8) (s : ℕ) (j : Fin 512) : logDecay a b s j ≤ 0 := by
  obtain ⟨y, hy, e⟩ := logistic_real ((∑ i, a.WA (ix3 (blk j) i (off j)) * conv a b s (col j i)) + a.BA (ix1 j))
  have hr : 0 ≤ rate a j := add_nonneg (le_max_right _ _) (log1p_nonneg _ (exp_nonneg _))
  unfold logDecay gate
  rw [e, neg_eight_val, ← EReal.coe_mul, show (-8 : ℝ) * y = -(8 * y) by ring, EReal.coe_neg, EReal.neg_mul]
  exact EReal.neg_le_zero.mpr (mul_nonneg (by exact_mod_cast (by positivity : 0 ≤ 8 * y)) hr)

/-- A number from zero on. -/
def Real0 (x : EReal) : Prop := ∃ y : ℝ, 0 ≤ y ∧ x = y

theorem Real0.mul {x y : EReal} (hx : Real0 x) (hy : Real0 y) : Real0 (x * y) := by
  obtain ⟨x, h, rfl⟩ := hx
  obtain ⟨y, h', rfl⟩ := hy
  exact ⟨x * y, mul_nonneg h h', by rw [EReal.coe_mul]⟩

theorem Real0.distrib {x : EReal} (hx : Real0 x) (y z : EReal) : x * (y + z) = x * y + x * z := by
  obtain ⟨x, h, rfl⟩ := hx
  exact EReal.left_distrib_of_nonneg_of_ne_top (by exact_mod_cast h) (EReal.coe_ne_top _) y z

theorem decay_real (a : Args) (b : Fin 8) (s : ℕ) (j : Fin 512) : Real0 (decay a b s j) := by
  unfold decay
  have h := logDecay_le a b s j
  revert h
  generalize logDecay a b s j = l
  intro h
  induction l with
  | bot => exact ⟨0, le_rfl, by simp⟩
  | top => exact absurd h (by simp)
  | coe x => exact ⟨Real.exp x, (Real.exp_pos x).le, by simp⟩

/-! ## Affine steps, composed by doubling -/

variable (D U : ℕ → EReal)

/-- `n` steps from step `lo` on. -/
def steps (lo : ℕ) : ℕ → EReal → EReal
  | 0, h => h
  | n + 1, h => D (lo + n) * steps lo n h + U (lo + n)

theorem steps_add (lo n k : ℕ) (h : EReal) : steps D U lo (n + k) h = steps D U (lo + n) k (steps D U lo n h) := by
  induction k with
  | zero => rfl
  | succ k ih =>
    show D (lo + (n + k)) * steps D U lo (n + k) h + U (lo + (n + k)) = _
    rw [ih, ← Nat.add_assoc]
    rfl

/-- The factors with those `s` rows before. -/
def facs (s : ℕ) (A : ℕ → EReal) (p : ℕ) : EReal := if s ≤ p then A p * A (p - s) else A p

/-- The summands with those `s` rows before. -/
def sums (s : ℕ) (A V : ℕ → EReal) (p : ℕ) : EReal := if s ≤ p then A p * V (p - s) + V p else V p

/-- Each row holds the last `s` steps up to it. -/
def Holds (s : ℕ) (A V : ℕ → EReal) : Prop :=
  ∀ p, Real0 (A p) ∧ ∀ h, A p * h + V p = steps D U (p + 1 - min (p + 1) s) (min (p + 1) s) h

theorem holds_one (hD : ∀ p, Real0 (D p)) : Holds D U 1 D U := fun p => ⟨hD p, fun h => by
  have e : min (p + 1) 1 = 1 := by omega
  rw [e]
  rfl⟩

theorem holds_double {s : ℕ} {A V : ℕ → EReal} (H : Holds D U s A V) : Holds D U (s + s) (facs s A) (sums s A V) := by
  intro p
  unfold facs sums
  by_cases hp : s ≤ p
  · rw [if_pos hp, if_pos hp]
    refine ⟨(H p).1.mul (H (p - s)).1, fun h => ?_⟩
    have e1 : A p * A (p - s) * h + (A p * V (p - s) + V p) = A p * (A (p - s) * h + V (p - s)) + V p := by
      rw [(H p).1.distrib, mul_assoc, add_assoc]
    rw [e1, (H (p - s)).2, (H p).2]
    have e2 : min (p + 1) s = s := by omega
    have e3 : min (p + 1) (s + s) = min (p - s + 1) s + s := by omega
    rw [e2, e3, steps_add]
    congr 1
    · omega
    · congr 1; omega
  · rw [if_neg hp, if_neg hp]
    refine ⟨(H p).1, fun h => ?_⟩
    have e : min (p + 1) (s + s) = min (p + 1) s := by omega
    rw [e]
    exact (H p).2 h

theorem holds_eight (hD : ∀ p, Real0 (D p)) (p : ℕ) (hp : p < 8) (h : EReal) :
    facs 4 (facs 2 (facs 1 D)) p * h + sums 4 (facs 2 (facs 1 D)) (sums 2 (facs 1 D) (sums 1 D U)) p = steps D U 0 (p + 1) h := by
  have H := (holds_double D U (holds_double D U (holds_double D U (holds_one D U hD))) p).2 h
  have e : min (p + 1) (1 + 1 + (1 + 1) + (1 + 1 + (1 + 1))) = p + 1 := by omega
  rw [e, Nat.sub_self] at H
  exact H

/-- Steps of the recurrence from token `n` on. -/
theorem steps_state (a : Args) (b : Fin 8) (j : Fin 512) (n p : ℕ) :
    steps (fun q => decay a b (n + q) j) (fun q => input a b (n + q) j) 0 p (state a b j n) = state a b j (n + p) := by
  induction p with
  | zero => rfl
  | succ p ih =>
    show _ * steps _ _ 0 p _ + _ = _
    rw [ih, Nat.zero_add]
    rfl

end Cert.RglruSpec

end
-- ==== Proof.Rglru.Pay.lean ====
/- What the pieces of a step of the recurrence are, index by index. -/
module

public import proofs.«01_k».proof.Proof.Rglru.Conv
public import proofs.«01_k».proof.Proof.Rglru.Arith
public import Idealize.ShloMosaic.Lib.Pointwise

@[expose] public section

noncomputable section

namespace Cert.RglruIdeal.Value

open Cert.RglruIdeal Idealize.ShloMosaic Idealize.ShloMosaic.TcCoe Cert.RglruIdeal.Gen
open Cert.RglruSpec (Args facs sums)

/-! ## The accumulation within groups of eight rows -/

/-- Column `j` of group `g`, by the row within the group. -/
def dcol (D : S512x512.Idx → EReal) (g : Fin 64) (j : Fin 512) (p : ℕ) : EReal :=
  D (ix2 ⟨(g.val * 8 + p % 8) % 512, Nat.mod_lt _ (by decide)⟩ j)

theorem sel_ge (p s : ℕ) (hp : p < 8) (hs : s < 8) (x y : EReal) :
    Scalar.select (IntOp.cmpi .sge (BitVec.ofNat 32 p) (BitVec.ofNat 32 s)) x y = if s ≤ p then x else y := by
  have h : IntOp.cmpi .sge (BitVec.ofNat 32 p) (BitVec.ofNat 32 s) = if s ≤ p then 1#1 else 0#1 := by
    interval_cases p <;> interval_cases s <;> decide
  rw [h]
  split <;> rfl

theorem sel_slt (p s : ℕ) (hp : p < 8) (hs : s < 8) (x y : EReal) :
    Scalar.select (IntOp.cmpi .slt (BitVec.ofNat 32 p) (BitVec.ofNat 32 s)) x y = if p < s then x else y := by
  have h : IntOp.cmpi .slt (BitVec.ofNat 32 p) (BitVec.ofNat 32 s) = if p < s then 1#1 else 0#1 := by
    interval_cases p <;> interval_cases s <;> decide
  rw [h]
  split <;> rfl

theorem dcol_eq (D : S512x512.Idx → EReal) (g : Fin 64) (j : Fin 512) (p : ℕ) (hp : p < 8) (n : Fin 512) (hn : n.val = g.val * 8 + p) :
    D (ix2 n j) = dcol D g j p := by
  unfold dcol
  have : n = ⟨(g.val * 8 + p % 8) % 512, Nat.mod_lt _ (by decide)⟩ := Fin.ext (by have := n.isLt; show n.val = (g.val * 8 + p % 8) % 512; omega)
  rw [this]

theorem facs_of (s : ℕ) (A : ℕ → EReal) (p : ℕ) (x y : EReal) (hx : x = A p) (hy : s ≤ p → y = A (p - s)) :
    (if s ≤ p then x * y else x) = facs s A p := by
  unfold facs
  split
  · next h => rw [hx, hy h]
  · exact hx

theorem sums_of (s : ℕ) (A V : ℕ → EReal) (p : ℕ) (w x y : EReal) (hw : w = A p) (hx : x = V p) (hy : s ≤ p → y = V (p - s)) :
    (if s ≤ p then w * y + x else x) = sums s A V p := by
  unfold sums
  split
  · next h => rw [hw, hx, hy h]
  · exact hx

variable (D U : FVec Ideal S512x512 .f32) (g : Fin 64) (p : Fin 8) (r j : Fin 512)

theorem pay21_at : @Eq EReal (k0_pay21 (F := Ideal) D (ix3 g p j)) (dcol D g j p.val) := by
  unfold k0_pay21
  pointwise
  exact dcol_eq D g j p.val p.isLt _ rfl

theorem pay23_at : @Eq EReal (k0_pay23 (F := Ideal) D (ix3 g p j)) (facs 1 (dcol D g j) p.val) := by
  unfold k0_pay23 k0_pay22
  pointwise
  rw [sel_ge _ 1 p.isLt (by decide)]
  exact facs_of 1 _ p.val _ _ (pay21_at D g p j) fun h => (pay21_at D g _ j).trans (congrArg _ (by show (p.val + 8 - 1) % 8 = p.val - 1; omega))

theorem pay25_at : @Eq EReal (k0_pay25 (F := Ideal) D (ix3 g p j)) (facs 2 (facs 1 (dcol D g j)) p.val) := by
  unfold k0_pay25 k0_pay24
  pointwise
  rw [sel_ge _ 2 p.isLt (by decide)]
  exact facs_of 2 _ p.val _ _ (pay23_at D g p j) fun h => (pay23_at D g _ j).trans (congrArg _ (by show (p.val + 8 - 2) % 8 = p.val - 2; omega))

theorem pay27_at : @Eq EReal (k0_pay27 (F := Ideal) D (ix2 r j))
    (facs 4 (facs 2 (facs 1 (dcol D ⟨r.val / 8, by omega⟩ j))) (r.val % 8)) := by
  unfold k0_pay27 k0_pay26
  pointwise
  rw [sel_ge _ 4 (by omega) (by decide)]
  exact facs_of 4 _ (r.val % 8) _ _ (pay25_at D _ _ j) fun h => (pay25_at D _ _ j).trans (congrArg _ (by show (r.val % 8 + 8 - 4) % 8 = r.val % 8 - 4; omega))

/-- The inputs after one doubling. -/
def u1 : FVec Ideal S64x8x512 .f32 :=
  select k0_pay22 (addf (mulf (k0_pay21 D) (dynamicRotate 1 1#32 none (shapeCast S64x8x512 U shapeCasts_S512x512_S64x8x512) rotates_S64x8x512_d1))
    (shapeCast S64x8x512 U shapeCasts_S512x512_S64x8x512)) (shapeCast S64x8x512 U shapeCasts_S512x512_S64x8x512)

/-- The inputs after two. -/
def u2 : FVec Ideal S64x8x512 .f32 :=
  select k0_pay24 (addf (mulf (k0_pay23 D) (dynamicRotate 1 2#32 none (u1 D U) rotates_S64x8x512_d1)) (u1 D U)) (u1 D U)

/-- The inputs after three. -/
def u3 : FVec Ideal S64x8x512 .f32 :=
  select k0_pay26 (addf (mulf (k0_pay25 D) (dynamicRotate 1 4#32 none (u2 D U) rotates_S64x8x512_d1)) (u2 D U)) (u2 D U)

theorem pay28_eq : k0_pay28 (F := Ideal) D U = shapeCast S512x512 (shapeCast S512x512 (u3 D U) shapeCasts_S64x8x512_S512x512) shapeCasts_S512x512_S512x512 := rfl

theorem u1_at : @Eq EReal (u1 D U (ix3 g p j)) (sums 1 (dcol D g j) (dcol U g j) p.val) := by
  unfold u1 k0_pay22
  pointwise
  rw [sel_ge _ 1 p.isLt (by decide)]
  exact sums_of 1 _ _ p.val _ _ _ (pay21_at D g p j) (dcol_eq U g j _ p.isLt _ rfl)
    fun h => dcol_eq U g j _ (by omega) _ (by show g.val * 8 + (p.val + 8 - 1) % 8 = _; omega)

theorem u2_at : @Eq EReal (u2 D U (ix3 g p j)) (sums 2 (facs 1 (dcol D g j)) (sums 1 (dcol D g j) (dcol U g j)) p.val) := by
  unfold u2 k0_pay24
  pointwise
  rw [sel_ge _ 2 p.isLt (by decide)]
  exact sums_of 2 _ _ p.val _ _ _ (pay23_at D g p j) (u1_at D U g p j) fun h => (u1_at D U g _ j).trans (congrArg _ (by show (p.val + 8 - 2) % 8 = p.val - 2; omega))

theorem u3_at : @Eq EReal (u3 D U (ix3 g p j))
    (sums 4 (facs 2 (facs 1 (dcol D g j))) (sums 2 (facs 1 (dcol D g j)) (sums 1 (dcol D g j) (dcol U g j))) p.val) := by
  unfold u3 k0_pay26
  pointwise
  rw [sel_ge _ 4 p.isLt (by decide)]
  exact sums_of 4 _ _ p.val _ _ _ (pay25_at D g p j) (u2_at D U g p j) fun h => (u2_at D U g _ j).trans (congrArg _ (by show (p.val + 8 - 4) % 8 = p.val - 4; omega))

theorem pay28_at : @Eq EReal (k0_pay28 (F := Ideal) D U (ix2 r j))
    (sums 4 (facs 2 (facs 1 (dcol D ⟨r.val / 8, by omega⟩ j)))
      (sums 2 (facs 1 (dcol D ⟨r.val / 8, by omega⟩ j)) (sums 1 (dcol D ⟨r.val / 8, by omega⟩ j) (dcol U ⟨r.val / 8, by omega⟩ j))) (r.val % 8)) := by
  rw [pay28_eq]
  pointwise
  exact u3_at D U _ _ j

/-! ## The convolution -/

variable (X : FVec Ideal S520x512 .f32)

/-- A shift by up to three rows, by the group's rows and those of the group before. -/
theorem shifted (n : ℕ) (hn : n < 512) (k : ℕ) (hk : k ≤ 3) (A B : Fin 520) (hA : A.val = n / 8 * 8 + (n % 8 + 8 - k) % 8)
    (hB : B.val = (1 + n / 8) * 8 + (n % 8 + 8 - k) % 8) (x : Fin 520) (hx : x.val = n + 8 - k) :
    @Eq EReal (Scalar.select (IntOp.cmpi .slt (BitVec.ofNat 32 (n % 8)) (BitVec.ofNat 32 k)) (X (ix2 A j)) (X (ix2 B j))) (X (ix2 x j)) := by
  rw [sel_slt _ k (by omega) (by omega)]
  split
  · rw [show A = x from Fin.ext (by omega)]
  · rw [show B = x from Fin.ext (by omega)]

theorem pay11_at (q : Fin 65) : @Eq EReal (k0_pay11 (F := Ideal) X (ix3 q p j)) (X (ix2 ⟨q.val * 8 + p.val, by omega⟩ j)) := by
  unfold k0_pay11
  pointwise

theorem pay13_at (x5 w0 w1 w2 w3 : FVec Ideal S1x512 .f32) :
    @Eq EReal (k0_pay13 (F := Ideal) (k0_pay11 X) (iota .tc S64x8x512 32 [1] iota_S64x8x512_d1_w32) (k0_pay12 X x5 w0 w1) w2 w3 (ix2 r j))
      (x5 (ix2 0 j) + w0 (ix2 0 j) * X (ix2 ⟨r.val + 5, by omega⟩ j) + w1 (ix2 0 j) * X (ix2 ⟨r.val + 6, by omega⟩ j)
        + w2 (ix2 0 j) * X (ix2 ⟨r.val + 7, by omega⟩ j) + w3 (ix2 0 j) * X (ix2 ⟨r.val + 8, by omega⟩ j)) := by
  unfold k0_pay13 k0_pay11 k0_pay12
  pointwise
  refine congrArg₂ (· + ·) (congrArg₂ (· + ·) (congrArg₂ (· + ·) (congrArg₂ (· + ·) rfl (congrArg _ ?_)) (congrArg _ ?_)) (congrArg _ ?_)) (congrArg _ ?_)
  · rw [pay11_at, pay11_at]
    exact shifted j X r.val r.isLt 3 (by decide) ⟨r.val / 8 * 8 + (r.val % 8 + 8 - 3) % 8, by omega⟩ ⟨(1 + r.val / 8) * 8 + (r.val % 8 + 8 - 3) % 8, by omega⟩ rfl rfl ⟨r.val + 5, by omega⟩ (by show r.val + 5 = r.val + 8 - 3; omega)
  · rw [pay11_at, pay11_at]
    exact shifted j X r.val r.isLt 2 (by decide) ⟨r.val / 8 * 8 + (r.val % 8 + 8 - 2) % 8, by omega⟩ ⟨(1 + r.val / 8) * 8 + (r.val % 8 + 8 - 2) % 8, by omega⟩ rfl rfl ⟨r.val + 6, by omega⟩ (by show r.val + 6 = r.val + 8 - 2; omega)
  · exact shifted j X r.val r.isLt 1 (by decide) ⟨r.val / 8 * 8 + (r.val % 8 + 8 - 1) % 8, by omega⟩ ⟨(1 + r.val / 8) * 8 + (r.val % 8 + 8 - 1) % 8, by omega⟩ rfl rfl ⟨r.val + 7, by omega⟩ (by show r.val + 7 = r.val + 8 - 1; omega)
  · exact congrArg (fun n => X (ix2 n j)) (Fin.ext (by show (1 + r.val / 8) * 8 + r.val % 8 = r.val + 8; omega))

/-! ## The gates, the decay and the input -/

theorem pay15_at (Y : FVec Ideal S64x8x512 .f32) (I : IVec S64x8x512 32) (w2 w3 : FVec Ideal S1x512 .f32) (Z : FVec Ideal S65x8x512 .f32) :
    @Eq EReal (k0_pay15 (F := Ideal) Z I Y w2 w3 (ix2 r j)) (k0_pay13 (F := Ideal) Z I Y w2 w3 (ix2 r j)) := by
  unfold k0_pay15
  pointwise

theorem pay16_at (Y : FVec Ideal S64x8x512 .f32) (I : IVec S64x8x512 32) (w2 w3 : FVec Ideal S1x512 .f32) (Z : FVec Ideal S65x8x512 .f32)
    (x6 : FVec Ideal S512x512 .bf16) (x7 : FVec Ideal S1x512 .f32) :
    @Eq EReal (k0_pay16 (F := Ideal) Z I Y w2 w3 x6 x7 (ix2 r j))
     (Ideal.logistic ((∑ x, k0_pay13 (F := Ideal) Z I Y w2 w3 (ix2 r x) * x6 (ix2 x j)) + x7 (ix2 0 j))) := by
  unfold k0_pay16 k0_pay15
  pointwise
  exact Cert.RglruSpec.logistic_eq _

theorem pay19_at (G : FVec Ideal S512x512 .f32) (l : FVec Ideal S1x512 .f32) :
    @Eq EReal (k0_pay19 (F := Ideal) G l (ix2 r j)) (Ideal.exp (Ideal.ofBits FTy.f32 3238002688#32 * G (ix2 r j) *
      (max (-l (ix2 0 j)) 0 + Ideal.log1p (Ideal.exp (-(max (-l (ix2 0 j)) (- -l (ix2 0 j)))))))) := by
  unfold k0_pay19 k0_pay18
  pointwise
  simp only [zero_sub]
  rfl

theorem pay20_at (Y : FVec Ideal S512x512 .f32) (Z : FVec Ideal S512x512 .bf16) (G : FVec Ideal S512x512 .f32) (w : FVec Ideal S512x512 .bf16)
    (b l : FVec Ideal S1x512 .f32) (d : EReal) (hd : d = Ideal.ofBits FTy.f32 3238002688#32 * G (ix2 r j) *
      (max (-l (ix2 0 j)) 0 + Ideal.log1p (Ideal.exp (-(max (-l (ix2 0 j)) (- -l (ix2 0 j))))))) (hn : d ≤ 0) :
    @Eq EReal (k0_pay20 (F := Ideal) Y Z G (k0_pay17 w) b l (ix2 r j))
      (Ideal.sqrt (-(Ideal.exp (Ideal.ofBits FTy.f32 1073741824#32 * d) - 1)) *
        (Ideal.logistic ((∑ x, Z (ix2 r x) * w (ix2 x j)) + b (ix2 0 j)) * Y (ix2 r j))) := by
  unfold k0_pay20 k0_pay19 k0_pay18 k0_pay17
  pointwise
  refine congrArg₂ (· * ·) ?_ (congrArg (· * Y (ix2 r j)) (Cert.RglruSpec.logistic_eq _))
  refine Cert.RglruSpec.scale_eq d hn _ ?_
  rw [hd]
  simp only [zero_sub]
  rfl

variable (h a u : FVec Ideal S8x512 .f32)

theorem pay1_at : @Eq EReal (k0_pay1 (F := Ideal) h a u (ix2 p j)) (a (ix2 p j) * h (ix2 p j) + u (ix2 p j)) := by
  unfold k0_pay1
  pointwise

theorem pay2_at : @Eq EReal (k0_pay2 (F := Ideal) h a u (ix2 p j)) (a (ix2 p j) * h (ix2 p j) + u (ix2 p j)) := by
  unfold k0_pay2 k0_pay1
  pointwise

theorem pay3_at : @Eq EReal (k0_pay3 (F := Ideal) h a u (ix2 p j)) (a (ix2 7 j) * h (ix2 7 j) + u (ix2 7 j)) := by
  unfold k0_pay3 k0_pay1
  pointwise
  try rfl

theorem pay4_at : @Eq EReal (k0_pay4 (F := Ideal) h (ix2 p j)) (h (ix2 p j)) := by
  unfold k0_pay4
  pointwise

theorem pay5_at (S : FVec Ideal S512x512 .f32) (y : FVec Ideal S1x512x512 .f32) :
    @Eq EReal (k0_pay5 (F := Ideal) S y (ix3 0 r j)) (S (ix2 r j) * Cert.RglruSpec.gelu (y (ix3 0 r j))) := by
  unfold k0_pay5 Cert.RglruSpec.gelu
  pointwise
  simp only [mul_assoc]

theorem pay6_at : @Eq EReal (k0_pay6 (F := Ideal) h (ix3 0 0 j)) (h (ix2 0 j)) := by
  unfold k0_pay6
  pointwise

theorem pay8_at (x : FVec Ideal S1x3x512 .f32) (q : Fin 3) : @Eq EReal (k0_pay8 (F := Ideal) x (ix2 q j)) (x (ix3 0 q j)) := by
  unfold k0_pay8
  pointwise

theorem pay9_at (x : FVec Ideal S1x1x512 .f32) : @Eq EReal (k0_pay9 (F := Ideal) x (ix2 p j)) (x (ix3 0 0 j)) := by
  unfold k0_pay9
  pointwise

theorem pay10_at (x : FVec Ideal S1x512x512 .f32) : @Eq EReal (k0_pay10 (F := Ideal) x (ix2 r j)) (x (ix3 0 r j)) := by
  unfold k0_pay10
  pointwise

end Cert.RglruIdeal.Value

end
-- ==== Proof.Rglru.Step.lean ====
/- A step of the recurrence: what it makes of its block is what the recurrence makes of these tokens. -/
module

public import proofs.«01_k».proof.Proof.Rglru.Pay

@[expose] public section

noncomputable section

namespace Cert.RglruIdeal.Value

open Cert.RglruIdeal Idealize.ShloMosaic Idealize.ShloMosaic.TcCoe Cert.RglruIdeal.Gen
open Cert.RglruSpec (Args facs sums steps Real0)

/-- The blocks of a step are the arguments' from token `n` of sequence `b` on. -/
structure Reads (A : Args) (b : Fin 8) (n : ℕ) (X : FVec Ideal S520x512 .f32) (x4 : FVec Ideal S4x512 .f32) (x5 : FVec Ideal S1x512 .f32)
    (x6 : FVec Ideal S512x512 .bf16) (x7 : FVec Ideal S1x512 .f32) (x8 : FVec Ideal S512x512 .bf16) (x9 x10 : FVec Ideal S1x512 .f32) : Prop where
  /-- the tokens and the rows before them -/
  tok : ∀ (q : Fin 520) (j : Fin 512), 5 ≤ q.val → @Eq EReal (X (ix2 q j)) (RglruSpec.row A b j (n + q.val - 5))
  /-- the convolution's weights -/
  ker : ∀ (k : Fin 4) (j : Fin 512), @Eq EReal (x4 (ix2 k j)) (A.K (ix2 k j))
  /-- the convolution's bias -/
  bias : ∀ j : Fin 512, @Eq EReal (x5 (ix2 0 j)) (A.B (ix1 j))
  /-- the recurrence gate's weights, in blocks on the diagonal -/
  wa : ∀ i j : Fin 512, @Eq EReal (x6 (ix2 i j)) (A.WA (ix3 ⟨i.val / 64, by omega⟩ ⟨i.val % 64, by omega⟩ ⟨j.val % 64, by omega⟩) * if i.val / 64 = j.val / 64 then 1 else 0)
  /-- the recurrence gate's bias -/
  ba : ∀ j : Fin 512, @Eq EReal (x7 (ix2 0 j)) (A.BA (ix1 j))
  /-- the input gate's weights, in blocks on the diagonal -/
  wx : ∀ i j : Fin 512, @Eq EReal (x8 (ix2 i j)) (A.WX (ix3 ⟨i.val / 64, by omega⟩ ⟨i.val % 64, by omega⟩ ⟨j.val % 64, by omega⟩) * if i.val / 64 = j.val / 64 then 1 else 0)
  /-- the input gate's bias -/
  bx : ∀ j : Fin 512, @Eq EReal (x9 (ix2 0 j)) (A.BX (ix1 j))
  /-- the decay's parameter -/
  lam : ∀ j : Fin 512, @Eq EReal (x10 (ix2 0 j)) (A.L (ix1 j))

variable {A : Args} {b : Fin 8} {n : ℕ} {X : FVec Ideal S520x512 .f32} {x4 : FVec Ideal S4x512 .f32} {x5 : FVec Ideal S1x512 .f32}
    {x6 : FVec Ideal S512x512 .bf16} {x7 : FVec Ideal S1x512 .f32} {x8 : FVec Ideal S512x512 .bf16} {x9 x10 : FVec Ideal S1x512 .f32}
    (R : Reads A b n X x4 x5 x6 x7 x8 x9 x10)
include R

/-- A row of the convolution's weights. -/
theorem cw_at (j : Fin 512) : (@Eq EReal (cw0 (F := Ideal) x4 (ix2 0 j)) (A.K (ix2 0 j)) ∧ @Eq EReal (cw1 (F := Ideal) x4 (ix2 0 j)) (A.K (ix2 1 j))) ∧
    (@Eq EReal (cw2 (F := Ideal) x4 (ix2 0 j)) (A.K (ix2 2 j)) ∧ @Eq EReal (cw3 (F := Ideal) x4 (ix2 0 j)) (A.K (ix2 3 j))) := by
  refine ⟨⟨Eq.trans (congrArg x4 ?_) (R.ker 0 j), Eq.trans (congrArg x4 ?_) (R.ker 1 j)⟩,
    ⟨Eq.trans (congrArg x4 ?_) (R.ker 2 j), Eq.trans (congrArg x4 ?_) (R.ker 3 j)⟩⟩
  all_goals
    funext a
    apply Fin.ext
    match a with
    | ⟨0, _⟩ => rfl
    | ⟨1, _⟩ => show 0 + 1 * j.val = j.val; omega

/-- The convolved tokens. -/
theorem conv_at (r j : Fin 512) :
    @Eq EReal (k0_pay13 (F := Ideal) (k0_pay11 X) (iota .tc S64x8x512 32 [1] iota_S64x8x512_d1_w32) (k0_pay12 X x5 (cw0 x4) (cw1 x4)) (cw2 x4) (cw3 x4) (ix2 r j))
      (RglruSpec.conv A b (n + r.val) j) := by
  obtain ⟨⟨h0, h1⟩, h2, h3⟩ := cw_at R j
  refine (pay13_at r j X x5 _ _ _ _).trans ?_
  unfold RglruSpec.conv
  refine congrArg₂ (· + ·) (congrArg₂ (· + ·) (congrArg₂ (· + ·) (congrArg₂ (· + ·) (R.bias j) (congrArg₂ (· * ·) h0 ?_)) (congrArg₂ (· * ·) h1 ?_))
    (congrArg₂ (· * ·) h2 ?_)) (congrArg₂ (· * ·) h3 ?_)
  · exact (R.tok _ j (by show 5 ≤ r.val + 5; omega)).trans (congrArg _ (by show n + (r.val + 5) - 5 = n + r.val; omega))
  · exact (R.tok _ j (by show 5 ≤ r.val + 6; omega)).trans (congrArg _ (by show n + (r.val + 6) - 5 = 1 + (n + r.val); omega))
  · exact (R.tok _ j (by show 5 ≤ r.val + 7; omega)).trans (congrArg _ (by show n + (r.val + 7) - 5 = 2 + (n + r.val); omega))
  · exact (R.tok _ j (by show 5 ≤ r.val + 8; omega)).trans (congrArg _ (by show n + (r.val + 8) - 5 = 3 + (n + r.val); omega))

omit R in
/-- A product with blocks on the diagonal is the product with the column's block. -/
theorem blocks_sum (w : S8x64x64.Idx → EReal) (v : Fin 512 → EReal) (j : Fin 512) :
    (∑ i : Fin 512, v i * (w (ix3 ⟨i.val / 64, by omega⟩ ⟨i.val % 64, by omega⟩ ⟨j.val % 64, by omega⟩) * if i.val / 64 = j.val / 64 then 1 else 0))
      = ∑ i : Fin 64, w (ix3 (RglruSpec.blk j) i (RglruSpec.off j)) * v (RglruSpec.col j i) := by
  symm
  refine Fintype.sum_of_injective (RglruSpec.col j) (fun x y h => ?_) _ _ (fun i hi => ?_) (fun i => ?_)
  · have : j.val / 64 * 64 + x.val = j.val / 64 * 64 + y.val := congrArg Fin.val h
    exact Fin.ext (by omega)
  · rw [if_neg, mul_zero, mul_zero]
    intro h
    exact hi ⟨⟨i.val % 64, by omega⟩, Fin.ext (by show j.val / 64 * 64 + i.val % 64 = i.val; omega)⟩
  · have e1 : (⟨(RglruSpec.col j i).val / 64, by omega⟩ : Fin 8) = RglruSpec.blk j :=
      Fin.ext (by show (j.val / 64 * 64 + i.val) / 64 = j.val / 64; omega)
    have e2 : (⟨(RglruSpec.col j i).val % 64, by omega⟩ : Fin 64) = i :=
      Fin.ext (by show (j.val / 64 * 64 + i.val) % 64 = i.val; omega)
    rw [e1, e2, if_pos (by show (j.val / 64 * 64 + i.val) / 64 = j.val / 64; omega), mul_one, mul_comm]
    rfl

/-- The recurrence gate. -/
theorem gBlk_at (r j : Fin 512) : @Eq EReal (gBlk (F := Ideal) X x4 x5 x6 x7 (ix2 r j)) (RglruSpec.gate A b (n + r.val) j A.WA A.BA) := by
  unfold gBlk RglruSpec.gate
  refine (pay16_at r j _ _ _ _ _ x6 x7).trans (congrArg Ideal.logistic (congrArg₂ (· + ·) ?_ (R.ba j)))
  refine Eq.trans (Finset.sum_congr rfl fun i _ => congrArg₂ (· * ·) (conv_at R r i) (R.wa i j)) ?_
  exact blocks_sum A.WA (fun i => RglruSpec.conv A b (n + r.val) i) j

/-- The logarithm of the decay. -/
theorem log_at (r j : Fin 512) : RglruSpec.logDecay A b (n + r.val) j = Ideal.ofBits FTy.f32 3238002688#32 * gBlk (F := Ideal) X x4 x5 x6 x7 (ix2 r j) *
    (max (-x10 (ix2 0 j)) 0 + Ideal.log1p (Ideal.exp (-(max (-x10 (ix2 0 j)) (- -x10 (ix2 0 j)))))) := by
  rw [gBlk_at R r j, R.lam j]
  rfl

/-- The decay. -/
theorem dBlk_at (r j : Fin 512) : @Eq EReal (dBlk (F := Ideal) X x4 x5 x6 x7 x10 (ix2 r j)) (RglruSpec.decay A b (n + r.val) j) := by
  unfold dBlk RglruSpec.decay
  exact (pay19_at r j _ x10).trans (congrArg Ideal.exp (log_at R r j).symm)

/-- The input. -/
theorem uBlk_at (r j : Fin 512) : @Eq EReal (uBlk (F := Ideal) X x4 x5 x6 x7 x8 x9 x10 (ix2 r j)) (RglruSpec.input A b (n + r.val) j) := by
  unfold uBlk RglruSpec.input
  refine (pay20_at r j _ _ _ x8 x9 x10 _ (log_at R r j) (RglruSpec.logDecay_le A b (n + r.val) j)).trans ?_
  refine congrArg _ (congrArg₂ (· * ·) ?_ (conv_at R r j))
  unfold RglruSpec.gate
  refine congrArg Ideal.logistic (congrArg₂ (· + ·) ?_ (R.bx j))
  refine Eq.trans (Finset.sum_congr rfl fun i _ => congrArg₂ (· * ·) ((pay15_at r i _ _ _ _ _).trans (conv_at R r i)) (R.wx i j)) ?_
  exact blocks_sum A.WX (fun i => RglruSpec.conv A b (n + r.val) i) j

omit R in
theorem steps_congr (D U D' U' : ℕ → EReal) (k : ℕ) (hD : ∀ q, q < k → D q = D' q) (hU : ∀ q, q < k → U q = U' q) (h : EReal) :
    steps D U 0 k h = steps D' U' 0 k h := by
  induction k with
  | zero => rfl
  | succ k ih =>
    show D (0 + k) * steps D U 0 k h + U (0 + k) = D' (0 + k) * steps D' U' 0 k h + U' (0 + k)
    rw [Nat.zero_add, ih (fun q hq => hD q (by omega)) (fun q hq => hU q (by omega)), hD k (by omega), hU k (by omega)]

/-- From the state before a group of eight rows to that after one of its rows. -/
theorem group_at (r j : Fin 512) : @Eq EReal (aAcc (F := Ideal) X x4 x5 x6 x7 x10 (ix2 r j) * RglruSpec.state A b j (n + r.val / 8 * 8)
    + uAcc (F := Ideal) X x4 x5 x6 x7 x8 x9 x10 (ix2 r j)) (RglruSpec.state A b j (n + r.val + 1)) := by
  unfold aAcc uAcc
  refine (congrArg₂ (· + ·) (congrArg (· * _) (pay27_at _ r j)) (pay28_at _ _ r j)).trans ?_
  have hd : ∀ p, dcol (dBlk (F := Ideal) X x4 x5 x6 x7 x10) ⟨r.val / 8, by omega⟩ j p = RglruSpec.decay A b (n + (r.val / 8 * 8 + p % 8)) j := fun p =>
    (dBlk_at R _ j).trans (congrArg (fun q => RglruSpec.decay A b (n + q) j) (by show (r.val / 8 * 8 + p % 8) % 512 = _; omega))
  have hu : ∀ p, dcol (uBlk (F := Ideal) X x4 x5 x6 x7 x8 x9 x10) ⟨r.val / 8, by omega⟩ j p = RglruSpec.input A b (n + (r.val / 8 * 8 + p % 8)) j := fun p =>
    (uBlk_at R _ j).trans (congrArg (fun q => RglruSpec.input A b (n + q) j) (by show (r.val / 8 * 8 + p % 8) % 512 = _; omega))
  refine (RglruSpec.holds_eight _ _ (fun p => by rw [hd p]; exact RglruSpec.decay_real A b _ j) (r.val % 8) (by omega) _).trans ?_
  refine (steps_congr _ _ (fun q => RglruSpec.decay A b (n + r.val / 8 * 8 + q) j) (fun q => RglruSpec.input A b (n + r.val / 8 * 8 + q) j) _
    (fun q hq => ?_) (fun q hq => ?_) _).trans ?_
  · exact (hd q).trans (congrArg (fun q => RglruSpec.decay A b q j) (by omega))
  · exact (hu q).trans (congrArg (fun q => RglruSpec.input A b q j) (by omega))
  · rw [RglruSpec.steps_state]
    exact congrArg _ (by omega)

omit R in
theorem grp_at (B : FVec Ideal S512x512 .f32) (k : Fin k0_t1_loop.trips) (p : Fin 8) (j : Fin 512) (q : Fin 512) (hq : q.val = k.val * 8 + p.val) :
    @Eq EReal (grp (F := Ideal) B k (ix2 p j)) (B (ix2 q j)) := by
  unfold grp
  refine congrArg B ?_
  have e := k0_off1_eq k
  funext a
  apply Fin.ext
  match a with
  | ⟨0, _⟩ =>
    show k0_off1 k 0 + 1 * p.val = q.val
    rw [e]
    show 8 * k.val + 1 * p.val = q.val
    omega
  | ⟨1, _⟩ =>
    show k0_off1 k 1 + 1 * j.val = j.val
    rw [e]
    show 0 + 1 * j.val = j.val
    omega

omit R in
theorem acc_succ (B C : FVec Ideal S512x512 .f32) (H : FVec Ideal S8x512 .f32) (k : ℕ) (ht : k < k0_t1_loop.trips) :
    acc (F := Ideal) B C H (k + 1) = k0_pay3 (F := Ideal) (acc (F := Ideal) B C H k) (grp (F := Ideal) B ⟨k, ht⟩) (grp (F := Ideal) C ⟨k, ht⟩) := dif_pos ht

variable {H : FVec Ideal S8x512 .f32} (hH : ∀ (i : Fin 8) (j : Fin 512), @Eq EReal (H (ix2 i j)) (RglruSpec.state A b j n))
include hH

/-- What is carried into a group: the state before it, in every row. -/
theorem acc_at (k : ℕ) (hk : k ≤ 64) (i : Fin 8) (j : Fin 512) :
    @Eq EReal (acc (F := Ideal) (aAcc X x4 x5 x6 x7 x10) (uAcc X x4 x5 x6 x7 x8 x9 x10) H k (ix2 i j)) (RglruSpec.state A b j (n + k * 8)) := by
  induction k generalizing i with
  | zero => exact hH i j
  | succ k ih =>
    have ht : k < k0_t1_loop.trips := by rw [trips_eq]; omega
    rw [acc_succ _ _ H k ht]
    refine (pay3_at i j _ _ _).trans ?_
    refine Eq.trans (congrArg₂ (· + ·) (congrArg₂ (· * ·) (grp_at _ ⟨k, ht⟩ 7 j ⟨k * 8 + 7, by omega⟩ rfl) (ih (by omega) 7))
      (grp_at _ ⟨k, ht⟩ 7 j ⟨k * 8 + 7, by omega⟩ rfl)) ?_
    have g := group_at R ⟨k * 8 + 7, by omega⟩ j
    have e1 : n + (k * 8 + 7) / 8 * 8 = n + k * 8 := by omega
    have e2 : n + (k * 8 + 7) + 1 = n + (k + 1) * 8 := by omega
    simp only [e1, e2] at g
    exact g

/-- The states of the block's rows. -/
theorem states_at (r j : Fin 512) :
    @Eq EReal (states (F := Ideal) (aAcc X x4 x5 x6 x7 x10) (uAcc X x4 x5 x6 x7 x8 x9 x10) H (ix2 r j)) (RglruSpec.state A b j (n + r.val + 1)) := by
  unfold states
  refine (pay2_at _ j _ _ _).trans ?_
  refine Eq.trans (congrArg₂ (· + ·) (congrArg₂ (· * ·) (grp_at _ _ _ j r (by show r.val = r.val / 8 * 8 + r.val % 8; omega)) (acc_at R hH (r.val / 8) (by omega) _ j))
    (grp_at _ _ _ j r (by show r.val = r.val / 8 * 8 + r.val % 8; omega))) ?_
  exact group_at R r j

end Cert.RglruIdeal.Value

end
-- ==== Proof.Rglru.Blocks.lean ====
/- The blocks of the recurrence's call, index by index. -/
module

public import proofs.«01_k».proof.Proof.Rglru.Frame
public import proofs.«01_k».proof.Proof.Rglru.Step
public import Idealize.ShloMosaic.Lib.Pointwise
public import Idealize.ShloMosaic.Lib.Pipeline.ValueKit
public import Idealize.ShloMosaic.Lib.StableHlo
public import Idealize.ShloMosaic.Lib.ValueIdx
public import Idealize.ShloMosaic.Lib.ValueLayout

@[expose] public section

noncomputable section

namespace Cert.RglruIdeal.Value

open Cert.RglruIdeal Cert.RglruIdeal.Gen Idealize.ShloMosaic Idealize.ShloMosaic.TcCoe Idealize.SL.Sem
open Idealize.ShloMosaic.Pipeline (Dat)
open Cert.RglruSpec (Args)

variable (m : (ℓ : Loc nD τ sig) → Buf (Elt Ideal) ℓ) (ρ : Dev nD → PrngReg)

/-- The kernel's arguments. -/
def args (c : Dev nD) : Args where
  X := m ((c.tc : Thread nD τ).loc main_arg0)
  Y := m ((c.tc : Thread nD τ).loc main_arg1)
  H := m ((c.tc : Thread nD τ).loc main_arg2)
  C := m ((c.tc : Thread nD τ).loc main_arg3)
  K := m ((c.tc : Thread nD τ).loc main_arg4)
  B := m ((c.tc : Thread nD τ).loc main_arg5)
  WA := m ((c.tc : Thread nD τ).loc main_arg6)
  BA := m ((c.tc : Thread nD τ).loc main_arg7)
  WX := m ((c.tc : Thread nD τ).loc main_arg8)
  BX := m ((c.tc : Thread nD τ).loc main_arg9)
  L := m ((c.tc : Thread nD τ).loc main_arg10)

/-- The sequence that step `t` works on. -/
def seq (t : Fin cfg0.N) : Fin 8 := ⟨t.val / 8, by have := t.isLt; have : cfg0.N = 64 := N_0; omega⟩

/-- Row `r` of step `t`, as a position of its sequence. -/
def pos (t : Fin cfg0.N) (r : Fin 512) : Fin 4096 := ⟨t.val % 8 * 512 + r.val, by omega⟩

/-! ## The arrays the launch finds -/

theorem eye_at (i j : ℕ) (hi : i < 8) (hj : j < 8) :
    @Eq EReal (FloatOps.uitofp (F := Ideal) FTy.f32 (IntOp.cmpi .eq (IntOp.addi (BitVec.ofNat 32 i) 0#32) (BitVec.ofNat 32 j))) (if i = j then 1 else 0) := by
  have h : IntOp.cmpi .eq (IntOp.addi (BitVec.ofNat 32 i) 0#32) (BitVec.ofNat 32 j) = if i = j then 1#1 else 0#1 := by
    interval_cases i <;> interval_cases j <;> decide
  rw [h]
  split
  · show (((1#1 : BitVec 1).toNat : ℝ) : EReal) = 1
    simp
  · show (((0#1 : BitVec 1).toNat : ℝ) : EReal) = 0
    simp

theorem V6 (c : Dev nD) (b : Fin 8) (j : Fin 512) :
    @Eq EReal ((V (F := Ideal) m c main_v6 : S8x1x512.Idx → EReal) (ix3 b 0 j)) ((args m c).H (ix2 b j)) := by
  show (StableHlo.after hostOps0 (fun b => m (c, b)) (Proc.devRef .tc main_v6) : S8x1x512.Idx → EReal) (ix3 b 0 j) = _
  simp only [hostOps0]
  after_results_simp
  pointwise
  rfl

theorem V14 (c : Dev nD) (i j : Fin 512) :
    @Eq EReal ((V (F := Ideal) m c main_v14 : S512x512.Idx → EReal) (ix2 i j)) ((args m c).WA (ix3 ⟨i.val / 64, by omega⟩ ⟨i.val % 64, by omega⟩ ⟨j.val % 64, by omega⟩) * if i.val / 64 = j.val / 64 then 1 else 0) := by
  show (StableHlo.after hostOps0 (fun b => m (c, b)) (Proc.devRef .tc main_v14) : S512x512.Idx → EReal) (ix2 i j) = _
  simp only [hostOps0]
  after_results_simp
  pointwise
  exact congrArg _ (eye_at (i.val / 64) (j.val / 64) (by omega) (by omega))

theorem V22 (c : Dev nD) (i j : Fin 512) :
    @Eq EReal ((V (F := Ideal) m c main_v22 : S512x512.Idx → EReal) (ix2 i j)) ((args m c).WX (ix3 ⟨i.val / 64, by omega⟩ ⟨i.val % 64, by omega⟩ ⟨j.val % 64, by omega⟩) * if i.val / 64 = j.val / 64 then 1 else 0) := by
  show (StableHlo.after hostOps0 (fun b => m (c, b)) (Proc.devRef .tc main_v22) : S512x512.Idx → EReal) (ix2 i j) = _
  simp only [hostOps0]
  after_results_simp
  pointwise
  exact congrArg _ (eye_at (i.val / 64) (j.val / 64) (by omega) (by omega))

theorem V7 (c : Dev nD) (j : Fin 512) :
    @Eq EReal ((V (F := Ideal) m c main_v7 : S1x512.Idx → EReal) (ix2 0 j)) ((args m c).B (ix1 j)) := by
  show (StableHlo.after hostOps0 (fun b => m (c, b)) (Proc.devRef .tc main_v7) : S1x512.Idx → EReal) (ix2 0 j) = _
  simp only [hostOps0]
  after_results_simp
  pointwise
  rfl

theorem V15 (c : Dev nD) (j : Fin 512) :
    @Eq EReal ((V (F := Ideal) m c main_v15 : S1x512.Idx → EReal) (ix2 0 j)) ((args m c).BA (ix1 j)) := by
  show (StableHlo.after hostOps0 (fun b => m (c, b)) (Proc.devRef .tc main_v15) : S1x512.Idx → EReal) (ix2 0 j) = _
  simp only [hostOps0]
  after_results_simp
  pointwise
  rfl

theorem V23 (c : Dev nD) (j : Fin 512) :
    @Eq EReal ((V (F := Ideal) m c main_v23 : S1x512.Idx → EReal) (ix2 0 j)) ((args m c).BX (ix1 j)) := by
  show (StableHlo.after hostOps0 (fun b => m (c, b)) (Proc.devRef .tc main_v23) : S1x512.Idx → EReal) (ix2 0 j) = _
  simp only [hostOps0]
  after_results_simp
  pointwise
  rfl

theorem V24 (c : Dev nD) (j : Fin 512) :
    @Eq EReal ((V (F := Ideal) m c main_v24 : S1x512.Idx → EReal) (ix2 0 j)) ((args m c).L (ix1 j)) := by
  show (StableHlo.after hostOps0 (fun b => m (c, b)) (Proc.devRef .tc main_v24) : S1x512.Idx → EReal) (ix2 0 j) = _
  simp only [hostOps0]
  after_results_simp
  pointwise
  rfl

/-! ## The blocks -/

/-- Where the blocks of window 0 start. -/
theorem idx0 : ∀ t : Fin cfg0.N, win0_0.index t (0 : Fin 3) = t.val / 8 ∧ win0_0.index t (1 : Fin 3) = t.val % 8 ∧ win0_0.index t (2 : Fin 3) = 0 := (by decide +kernel : ∀ t : Fin grid0.N, _)

/-- Where the blocks of window 1 start. -/
theorem idx1 : ∀ t : Fin cfg0.N, win0_1.index t (0 : Fin 3) = t.val / 8 ∧ win0_1.index t (1 : Fin 3) = t.val % 8 ∧ win0_1.index t (2 : Fin 3) = 0 := (by decide +kernel : ∀ t : Fin grid0.N, _)

/-- Where the blocks of window 11 start. -/
theorem idx11 : ∀ t : Fin cfg0.N, win0_11.index t (0 : Fin 3) = t.val / 8 ∧ win0_11.index t (1 : Fin 3) = t.val % 8 ∧ win0_11.index t (2 : Fin 3) = 0 := (by decide +kernel : ∀ t : Fin grid0.N, _)

/-- Where the blocks of window 2 start. -/
theorem idx2 : ∀ t : Fin cfg0.N, win0_2.index t (0 : Fin 3) = t.val / 8 ∧ win0_2.index t (1 : Fin 3) = 0 ∧ win0_2.index t (2 : Fin 3) = 0 := (by decide +kernel : ∀ t : Fin grid0.N, _)

/-- Where the blocks of window 3 start. -/
theorem idx3 : ∀ t : Fin cfg0.N, win0_3.index t (0 : Fin 3) = t.val / 8 ∧ win0_3.index t (1 : Fin 3) = 0 ∧ win0_3.index t (2 : Fin 3) = 0 := (by decide +kernel : ∀ t : Fin grid0.N, _)

/-- Where the blocks of window 12 start. -/
theorem idx12 : ∀ t : Fin cfg0.N, win0_12.index t (0 : Fin 3) = t.val / 8 ∧ win0_12.index t (1 : Fin 3) = 0 ∧ win0_12.index t (2 : Fin 3) = 0 := (by decide +kernel : ∀ t : Fin grid0.N, _)

/-- Where the blocks of window 4 start. -/
theorem idx4 : ∀ t : Fin cfg0.N, win0_4.index t (0 : Fin 2) = 0 ∧ win0_4.index t (1 : Fin 2) = 0 := (by decide +kernel : ∀ t : Fin grid0.N, _)

/-- Where the blocks of window 5 start. -/
theorem idx5 : ∀ t : Fin cfg0.N, win0_5.index t (0 : Fin 2) = 0 ∧ win0_5.index t (1 : Fin 2) = 0 := (by decide +kernel : ∀ t : Fin grid0.N, _)

/-- Where the blocks of window 6 start. -/
theorem idx6 : ∀ t : Fin cfg0.N, win0_6.index t (0 : Fin 2) = 0 ∧ win0_6.index t (1 : Fin 2) = 0 := (by decide +kernel : ∀ t : Fin grid0.N, _)

/-- Where the blocks of window 7 start. -/
theorem idx7 : ∀ t : Fin cfg0.N, win0_7.index t (0 : Fin 2) = 0 ∧ win0_7.index t (1 : Fin 2) = 0 := (by decide +kernel : ∀ t : Fin grid0.N, _)

/-- Where the blocks of window 8 start. -/
theorem idx8 : ∀ t : Fin cfg0.N, win0_8.index t (0 : Fin 2) = 0 ∧ win0_8.index t (1 : Fin 2) = 0 := (by decide +kernel : ∀ t : Fin grid0.N, _)

/-- Where the blocks of window 9 start. -/
theorem idx9 : ∀ t : Fin cfg0.N, win0_9.index t (0 : Fin 2) = 0 ∧ win0_9.index t (1 : Fin 2) = 0 := (by decide +kernel : ∀ t : Fin grid0.N, _)

/-- Where the blocks of window 10 start. -/
theorem idx10 : ∀ t : Fin cfg0.N, win0_10.index t (0 : Fin 2) = 0 ∧ win0_10.index t (1 : Fin 2) = 0 := (by decide +kernel : ∀ t : Fin grid0.N, _)

theorem blk0 (c : Dev nD) (t : Fin cfg0.N) (r : Fin 512) (k : Fin 512) :
    @Eq EReal ((iblk (F := Ideal) m c 0 t : S1x512x512.Idx → EReal) (ix3 0 r k)) ((args m c).X (ix3 (seq t) (pos t r) k)) := by
  refine Eq.trans ?_ (congrFun (V_main_arg0 (F := Ideal) m c) (ix3 (seq t) (pos t r) k))
  show V m c main_arg0 (((cfg0.win 0).blk t).view.emb (ix3 0 r k)) = _
  refine congrArg (V m c main_arg0) ?_
  obtain ⟨e0, e1, e2⟩ := idx0 t
  funext a; apply Fin.ext
  match a with
  | ⟨0, _⟩ => show win0_0.index t (0 : Fin 3) * 1 + 1 * 0 = t.val / 8; omega
  | ⟨1, _⟩ => show win0_0.index t (1 : Fin 3) * 512 + 1 * r.val = t.val % 8 * 512 + r.val; omega
  | ⟨2, _⟩ => show win0_0.index t (2 : Fin 3) * 512 + 1 * k.val = k.val; omega

theorem blk1 (c : Dev nD) (t : Fin cfg0.N) (r : Fin 512) (k : Fin 512) :
    @Eq EReal ((iblk (F := Ideal) m c 1 t : S1x512x512.Idx → EReal) (ix3 0 r k)) ((args m c).Y (ix3 (seq t) (pos t r) k)) := by
  refine Eq.trans ?_ (congrFun (V_main_arg1 (F := Ideal) m c) (ix3 (seq t) (pos t r) k))
  show V m c main_arg1 (((cfg0.win 1).blk t).view.emb (ix3 0 r k)) = _
  refine congrArg (V m c main_arg1) ?_
  obtain ⟨e0, e1, e2⟩ := idx1 t
  funext a; apply Fin.ext
  match a with
  | ⟨0, _⟩ => show win0_1.index t (0 : Fin 3) * 1 + 1 * 0 = t.val / 8; omega
  | ⟨1, _⟩ => show win0_1.index t (1 : Fin 3) * 512 + 1 * r.val = t.val % 8 * 512 + r.val; omega
  | ⟨2, _⟩ => show win0_1.index t (2 : Fin 3) * 512 + 1 * k.val = k.val; omega

theorem blk3 (c : Dev nD) (t : Fin cfg0.N) (r : Fin 3) (k : Fin 512) :
    @Eq EReal ((iblk (F := Ideal) m c 3 t : S1x3x512.Idx → EReal) (ix3 0 r k)) ((args m c).C (ix3 (seq t) r k)) := by
  refine Eq.trans ?_ (congrFun (V_main_arg3 (F := Ideal) m c) (ix3 (seq t) r k))
  show V m c main_arg3 (((cfg0.win 3).blk t).view.emb (ix3 0 r k)) = _
  refine congrArg (V m c main_arg3) ?_
  obtain ⟨e0, e1, e2⟩ := idx3 t
  funext a; apply Fin.ext
  match a with
  | ⟨0, _⟩ => show win0_3.index t (0 : Fin 3) * 1 + 1 * 0 = t.val / 8; omega
  | ⟨1, _⟩ => show win0_3.index t (1 : Fin 3) * 3 + 1 * r.val = r.val; omega
  | ⟨2, _⟩ => show win0_3.index t (2 : Fin 3) * 512 + 1 * k.val = k.val; omega

theorem blk2 (c : Dev nD) (t : Fin cfg0.N) (k : Fin 512) :
    @Eq EReal ((iblk (F := Ideal) m c 2 t : S1x1x512.Idx → EReal) (ix3 0 0 k)) ((args m c).H (ix2 (seq t) k)) := by
  refine Eq.trans ?_ (V6 m c (seq t) k)
  show V m c main_v6 (((cfg0.win 2).blk t).view.emb (ix3 0 0 k)) = _
  refine congrArg (V m c main_v6) ?_
  obtain ⟨e0, e1, e2⟩ := idx2 t
  funext a; apply Fin.ext
  match a with
  | ⟨0, _⟩ => show win0_2.index t (0 : Fin 3) * 1 + 1 * 0 = t.val / 8; omega
  | ⟨1, _⟩ => show win0_2.index t (1 : Fin 3) * 1 + 1 * 0 = 0; omega
  | ⟨2, _⟩ => show win0_2.index t (2 : Fin 3) * 512 + 1 * k.val = k.val; omega

theorem blk4 (c : Dev nD) (t : Fin cfg0.N) (i : Fin 4) (j : Fin 512) :
    @Eq EReal ((iblk (F := Ideal) m c 4 t : S4x512.Idx → EReal) (ix2 i j)) ((args m c).K (ix2 i j)) := by
  refine Eq.trans ?_ (congrFun (V_main_arg4 (F := Ideal) m c) (ix2 i j))
  show V m c main_arg4 (((cfg0.win 4).blk t).view.emb (ix2 i j)) = _
  refine congrArg (V m c main_arg4) ?_
  obtain ⟨e0, e1⟩ := idx4 t
  funext a; apply Fin.ext
  match a with
  | ⟨0, _⟩ => show win0_4.index t (0 : Fin 2) * 4 + 1 * i.val = i.val; omega
  | ⟨1, _⟩ => show win0_4.index t (1 : Fin 2) * 512 + 1 * j.val = j.val; omega

theorem blk5 (c : Dev nD) (t : Fin cfg0.N) (j : Fin 512) :
    @Eq EReal ((iblk (F := Ideal) m c 5 t : S1x512.Idx → EReal) (ix2 0 j)) ((args m c).B (ix1 j)) := by
  refine Eq.trans ?_ (V7 m c j)
  show V m c main_v7 (((cfg0.win 5).blk t).view.emb (ix2 0 j)) = _
  refine congrArg (V m c main_v7) ?_
  obtain ⟨e0, e1⟩ := idx5 t
  funext a; apply Fin.ext
  match a with
  | ⟨0, _⟩ => show win0_5.index t (0 : Fin 2) * 1 + 1 * 0 = 0; omega
  | ⟨1, _⟩ => show win0_5.index t (1 : Fin 2) * 512 + 1 * j.val = j.val; omega

theorem blk6 (c : Dev nD) (t : Fin cfg0.N) (i : Fin 512) (j : Fin 512) :
    @Eq EReal ((iblk (F := Ideal) m c 6 t : S512x512.Idx → EReal) (ix2 i j)) ((args m c).WA (ix3 ⟨i.val / 64, by omega⟩ ⟨i.val % 64, by omega⟩ ⟨j.val % 64, by omega⟩) * if i.val / 64 = j.val / 64 then 1 else 0) := by
  refine Eq.trans ?_ (V14 m c i j)
  show V m c main_v14 (((cfg0.win 6).blk t).view.emb (ix2 i j)) = _
  refine congrArg (V m c main_v14) ?_
  obtain ⟨e0, e1⟩ := idx6 t
  funext a; apply Fin.ext
  match a with
  | ⟨0, _⟩ => show win0_6.index t (0 : Fin 2) * 512 + 1 * i.val = i.val; omega
  | ⟨1, _⟩ => show win0_6.index t (1 : Fin 2) * 512 + 1 * j.val = j.val; omega

theorem blk7 (c : Dev nD) (t : Fin cfg0.N) (j : Fin 512) :
    @Eq EReal ((iblk (F := Ideal) m c 7 t : S1x512.Idx → EReal) (ix2 0 j)) ((args m c).BA (ix1 j)) := by
  refine Eq.trans ?_ (V15 m c j)
  show V m c main_v15 (((cfg0.win 7).blk t).view.emb (ix2 0 j)) = _
  refine congrArg (V m c main_v15) ?_
  obtain ⟨e0, e1⟩ := idx7 t
  funext a; apply Fin.ext
  match a with
  | ⟨0, _⟩ => show win0_7.index t (0 : Fin 2) * 1 + 1 * 0 = 0; omega
  | ⟨1, _⟩ => show win0_7.index t (1 : Fin 2) * 512 + 1 * j.val = j.val; omega

theorem blk8 (c : Dev nD) (t : Fin cfg0.N) (i : Fin 512) (j : Fin 512) :
    @Eq EReal ((iblk (F := Ideal) m c 8 t : S512x512.Idx → EReal) (ix2 i j)) ((args m c).WX (ix3 ⟨i.val / 64, by omega⟩ ⟨i.val % 64, by omega⟩ ⟨j.val % 64, by omega⟩) * if i.val / 64 = j.val / 64 then 1 else 0) := by
  refine Eq.trans ?_ (V22 m c i j)
  show V m c main_v22 (((cfg0.win 8).blk t).view.emb (ix2 i j)) = _
  refine congrArg (V m c main_v22) ?_
  obtain ⟨e0, e1⟩ := idx8 t
  funext a; apply Fin.ext
  match a with
  | ⟨0, _⟩ => show win0_8.index t (0 : Fin 2) * 512 + 1 * i.val = i.val; omega
  | ⟨1, _⟩ => show win0_8.index t (1 : Fin 2) * 512 + 1 * j.val = j.val; omega

theorem blk9 (c : Dev nD) (t : Fin cfg0.N) (j : Fin 512) :
    @Eq EReal ((iblk (F := Ideal) m c 9 t : S1x512.Idx → EReal) (ix2 0 j)) ((args m c).BX (ix1 j)) := by
  refine Eq.trans ?_ (V23 m c j)
  show V m c main_v23 (((cfg0.win 9).blk t).view.emb (ix2 0 j)) = _
  refine congrArg (V m c main_v23) ?_
  obtain ⟨e0, e1⟩ := idx9 t
  funext a; apply Fin.ext
  match a with
  | ⟨0, _⟩ => show win0_9.index t (0 : Fin 2) * 1 + 1 * 0 = 0; omega
  | ⟨1, _⟩ => show win0_9.index t (1 : Fin 2) * 512 + 1 * j.val = j.val; omega

theorem blk10 (c : Dev nD) (t : Fin cfg0.N) (j : Fin 512) :
    @Eq EReal ((iblk (F := Ideal) m c 10 t : S1x512.Idx → EReal) (ix2 0 j)) ((args m c).L (ix1 j)) := by
  refine Eq.trans ?_ (V24 m c j)
  show V m c main_v24 (((cfg0.win 10).blk t).view.emb (ix2 0 j)) = _
  refine congrArg (V m c main_v24) ?_
  obtain ⟨e0, e1⟩ := idx10 t
  funext a; apply Fin.ext
  match a with
  | ⟨0, _⟩ => show win0_10.index t (0 : Fin 2) * 1 + 1 * 0 = 0; omega
  | ⟨1, _⟩ => show win0_10.index t (1 : Fin 2) * 512 + 1 * j.val = j.val; omega

end Cert.RglruIdeal.Value

end
-- ==== Proof.Rglru.Out.lean ====
/- The recurrence's outputs: every step's tokens start from the state that the step before ends with, so the two arrays are
   the recurrence's. -/
module

public import proofs.«01_k».proof.Proof.Rglru.Blocks

@[expose] public section

noncomputable section

namespace Cert.RglruIdeal.Value

open Cert.RglruIdeal Cert.RglruIdeal.Gen Idealize.ShloMosaic Idealize.ShloMosaic.TcCoe Idealize.SL.Sem
open Idealize.ShloMosaic.Pipeline (Dat)
open Cert.RglruSpec (Args)

variable (m : (ℓ : Loc nD τ sig) → Buf (Elt Ideal) ℓ) (ρ : Dev nD → PrngReg)

/-- The carried rows followed by the tokens, by what each of the two holds. -/
theorem row_carry (a : Args) (b : Fin 8) (j : Fin 512) (n : ℕ) (h : n < 3) : RglruSpec.row a b j n = a.C (ix3 b ⟨n, h⟩ j) := dif_pos h

theorem row_tok (a : Args) (b : Fin 8) (j : Fin 512) (n : ℕ) (s : Fin 4096) (h : n = s.val + 3) : RglruSpec.row a b j n = a.X (ix3 b s j) := by
  unfold RglruSpec.row
  rw [dif_neg (by omega), dif_pos (by omega)]
  exact congrArg (fun s => a.X (ix3 b s j)) (Fin.ext (by show n - 3 = s.val; omega))

/-- The rows before a step's block. -/
theorem tail_at (c : Dev nD) (t : Fin cfg0.N) (q : Fin 8) (j : Fin 512) (hq : 5 ≤ q.val) :
    @Eq EReal ((tailAt (F := Ideal) m c t : S8x512.Idx → EReal) (ix2 q j)) (RglruSpec.row (args m c) (seq t) j (t.val % 8 * 512 + q.val - 5)) := by
  unfold tailAt
  by_cases h0 : t.val % 8 = 0
  · rw [if_pos h0]
    unfold headRows
    refine (dif_pos hq).trans ?_
    refine (pay8_at j (iblk (F := Ideal) m c 3 t) ⟨q.val - 5, by omega⟩).trans ?_
    refine (blk3 m c t _ j).trans ?_
    refine Eq.trans ?_ (row_carry _ _ _ _ (by omega)).symm
    exact congrArg (fun s => (args m c).C (ix3 (seq t) s j)) (Fin.ext (by show q.val - 5 = t.val % 8 * 512 + q.val - 5; omega))
  · rw [if_neg h0]
    unfold last8
    refine (pay10_at ⟨q.val + 504, by omega⟩ j (iblk (F := Ideal) m c 0 ⟨t.val - 1, lt_of_le_of_lt (Nat.sub_le _ _) t.isLt⟩)).trans ?_
    refine (blk0 m c _ _ j).trans ?_
    have e : seq ⟨t.val - 1, lt_of_le_of_lt (Nat.sub_le _ _) t.isLt⟩ = seq t := Fin.ext (by show (t.val - 1) / 8 = t.val / 8; omega)
    rw [e]
    exact (row_tok _ _ _ _ _ (by show t.val % 8 * 512 + q.val - 5 = (t.val - 1) % 8 * 512 + (q.val + 504) + 3; omega)).symm

/-- A step's block behind those rows. -/
theorem strip_at (c : Dev nD) (t : Fin cfg0.N) (q : Fin 520) (j : Fin 512) (hq : 5 ≤ q.val) :
    @Eq EReal ((strip (F := Ideal) (tailAt m c t) (k0_pay10 (iblk m c 0 t)) : S520x512.Idx → EReal) (ix2 q j))
      (RglruSpec.row (args m c) (seq t) j (t.val % 8 * 512 + q.val - 5)) := by
  unfold strip
  by_cases h : q.val < 8
  · exact (dif_pos h).trans (tail_at m c t ⟨q.val, h⟩ j hq)
  · refine (dif_neg h).trans ?_
    refine (pay10_at ⟨q.val - 8, by omega⟩ j (iblk (F := Ideal) m c 0 t)).trans ((blk0 m c t _ j).trans ?_)
    exact (row_tok _ _ _ _ _ (by show t.val % 8 * 512 + q.val - 5 = t.val % 8 * 512 + (q.val - 8) + 3; omega)).symm

/-- Every step reads the arguments at its tokens. -/
theorem reads (c : Dev nD) (t : Fin cfg0.N) : Reads (args m c) (seq t) (t.val % 8 * 512) (strip (F := Ideal) (tailAt m c t) (k0_pay10 (iblk m c 0 t)))
    (iblk (F := Ideal) m c 4 t) (iblk (F := Ideal) m c 5 t) (iblk (F := Ideal) m c 6 t) (iblk (F := Ideal) m c 7 t) (iblk (F := Ideal) m c 8 t)
    (iblk (F := Ideal) m c 9 t) (iblk (F := Ideal) m c 10 t) where
  tok := strip_at m c t
  ker := blk4 m c t
  bias := blk5 m c t
  wa := blk6 m c t
  ba := blk7 m c t
  wx := blk8 m c t
  bx := blk9 m c t
  lam := blk10 m c t

/-- The state a step ends with, if it starts from the recurrence's. -/
theorem end_of (c : Dev nD) (t : Fin cfg0.N)
    (hs : ∀ (i : Fin 8) (j : Fin 512), @Eq EReal ((startAt (F := Ideal) m c t.val t.isLt : S8x512.Idx → EReal) (ix2 i j)) (RglruSpec.state (args m c) (seq t) j (t.val % 8 * 512)))
    (i : Fin 8) (j : Fin 512) :
    @Eq EReal ((endAt (F := Ideal) m c t : S8x512.Idx → EReal) (ix2 i j)) (RglruSpec.state (args m c) (seq t) j (t.val % 8 * 512 + 512)) := by
  unfold endAt hEnd
  rw [trips_eq]
  exact acc_at (reads m c t) hs 64 le_rfl i j

/-- Every step starts from the recurrence's state. -/
theorem start_at (c : Dev nD) (t : Fin cfg0.N) (i : Fin 8) (j : Fin 512) :
    @Eq EReal ((startAt (F := Ideal) m c t.val t.isLt : S8x512.Idx → EReal) (ix2 i j)) (RglruSpec.state (args m c) (seq t) j (t.val % 8 * 512)) := by
  obtain ⟨n, hn⟩ := t
  induction n generalizing i j with
  | zero =>
    rw [startAt_first m c ⟨0, hn⟩ rfl]
    exact (pay9_at i j (iblk (F := Ideal) m c 2 ⟨0, hn⟩)).trans (blk2 m c _ j)
  | succ n ih =>
    by_cases h : (n + 1) % 8 = 0
    · rw [startAt_first m c ⟨n + 1, hn⟩ h]
      refine (pay9_at i j (iblk (F := Ideal) m c 2 ⟨n + 1, hn⟩)).trans ((blk2 m c _ j).trans ?_)
      have e : (⟨n + 1, hn⟩ : Fin cfg0.N).val % 8 * 512 = 0 := by show (n + 1) % 8 * 512 = 0; omega
      rw [e]
      rfl
    · rw [startAt_next m c ⟨n + 1, hn⟩ h]
      refine (pay4_at i j _).trans ?_
      refine (end_of m c ⟨n, Nat.lt_of_succ_lt hn⟩ (fun i j => ih i j (Nat.lt_of_succ_lt hn)) i j).trans ?_
      have e : seq ⟨n, Nat.lt_of_succ_lt hn⟩ = seq ⟨n + 1, hn⟩ := Fin.ext (by show n / 8 = (n + 1) / 8; omega)
      rw [e]
      exact congrArg _ (by show n % 8 * 512 + 512 = (n + 1) % 8 * 512; omega)

/-- A step's rows of results. -/
theorem r_blk (c : Dev nD) (t : Fin cfg0.N) (r j : Fin 512) :
    @Eq EReal ((rAt (F := Ideal) m c t : S1x512x512.Idx → EReal) (ix3 0 r j)) (RglruSpec.out (args m c) (seq t) j (pos t r)) := by
  unfold rAt rBlk RglruSpec.out
  refine (pay5_at r j _ (iblk (F := Ideal) m c 1 t)).trans ?_
  exact congrArg₂ (· * ·) (states_at (reads m c t) (start_at m c t) r j) (congrArg RglruSpec.gelu (blk1 m c t r j))

/-- The gated output after the last step. -/
theorem final11 (c : Dev nD) : @Eq (S8x4096x512.Idx → EReal) ((dats (F := Ideal) m 0 c).arrAt 11 cfg0.N) (RglruSpec.outArr (args m c)) := by
  refine (dats m 0 c).arrAt_eq_of_covers 11 _ (by decide +kernel) fun t hf y => ?_
  blk_simp
  rw [after0_11]
  idx_vars y
  obtain ⟨e0, e1, e2⟩ := idx11 t
  obtain rfl : y0 = 0 := Fin.ext (by omega)
  refine (r_blk m c t y1 y2).trans ?_
  have h0 : seq t = (⟨win0_11.index t (0 : Fin 3) * 1 + 1 * 0, by show _ < 8; have := (seq t).isLt; have : (seq t).val = t.val / 8 := rfl; omega⟩ : Fin 8) :=
    Fin.ext (show t.val / 8 = win0_11.index t (0 : Fin 3) * 1 + 1 * 0 by omega)
  have h1 : pos t y1 = (⟨win0_11.index t (1 : Fin 3) * 512 + 1 * y1.val, by show _ < 4096; omega⟩ : Fin 4096) :=
    Fin.ext (show t.val % 8 * 512 + y1.val = win0_11.index t (1 : Fin 3) * 512 + 1 * y1.val by omega)
  have h2 : y2 = (⟨win0_11.index t (2 : Fin 3) * 512 + 1 * y2.val, by show _ < 512; omega⟩ : Fin 512) :=
    Fin.ext (show y2.val = win0_11.index t (2 : Fin 3) * 512 + 1 * y2.val by omega)
  exact (congrFun (congrFun (congrArg (RglruSpec.out (args m c)) h0) _) _).trans
    ((congrArg (RglruSpec.out (args m c) _ _) h1).trans (congrFun (congrArg (RglruSpec.out (args m c) _) h2) _))

/-- The last state, after the last step of a sequence. -/
theorem last_blk (c : Dev nD) (t : Fin cfg0.N) (h7 : t.val % 8 = 7) (j : Fin 512) :
    @Eq EReal ((k0_pay6 (endAt (F := Ideal) m c t) : S1x1x512.Idx → EReal) (ix3 0 0 j)) (RglruSpec.state (args m c) (seq t) j 4096) := by
  refine (pay6_at j _).trans ((end_of m c t (start_at m c t) 0 j).trans (congrArg _ ?_))
  omega

/-- The array of last states after the last step. -/
theorem final12 (c : Dev nD) : @Eq (S8x1x512.Idx → EReal) ((dats (F := Ideal) m 0 c).arrAt 12 cfg0.N)
    (fun i => RglruSpec.state (args m c) (i 0) (i 2) 4096) := by
  refine (dats m 0 c).arrAt_eq_of_covers 12 _ (by decide +kernel) fun t hf y => ?_
  have h7 := (flush0_12 t).mp hf
  blk_simp
  rw [after0_12]
  idx_vars y
  obtain ⟨e0, e1, e2⟩ := idx12 t
  obtain rfl : y0 = 0 := Fin.ext (by omega)
  obtain rfl : y1 = 0 := Fin.ext (by omega)
  refine (last_blk m c t h7 y2).trans ?_
  have h0 : seq t = (⟨win0_12.index t (0 : Fin 3) * 1 + 1 * 0, by show _ < 8; have := (seq t).isLt; have : (seq t).val = t.val / 8 := rfl; omega⟩ : Fin 8) :=
    Fin.ext (show t.val / 8 = win0_12.index t (0 : Fin 3) * 1 + 1 * 0 by omega)
  have h2 : y2 = (⟨win0_12.index t (2 : Fin 3) * 512 + 1 * y2.val, by show _ < 512; omega⟩ : Fin 512) :=
    Fin.ext (show y2.val = win0_12.index t (2 : Fin 3) * 512 + 1 * y2.val by omega)
  exact (congrFun (congrFun (congrArg (RglruSpec.state (args m c)) h0) _) _).trans (congrFun (congrArg (RglruSpec.state (args m c) _) h2) _)

/-- The run, both results entry by entry and the arguments kept. -/
theorem run_spec (ρ : Dev nD → PrngReg) : θ_run defs (onTc (τ := τ) (main (F := Ideal))) ⟨m, fun _ => 0, ρ⟩ fun r => ∀ c : Dev nD,
      @Eq (S8x4096x512.Idx → EReal) (r.2.mem ((c.tc : Thread nD τ).loc main_v25_0)) (RglruSpec.outArr (args m c))
      ∧ @Eq (S8x1x512.Idx → EReal) (r.2.mem ((c.tc : Thread nD τ).loc main_v25_1)) (fun i => RglruSpec.state (args m c) (i 0) (i 2) 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h.2 c).1 11).trans (final11 m c), ((h.2 c).1 12).trans (final12 m c), h.1 c⟩)
    (θ_run_and (frame_of m ρ (dats m) (A_eq m) (run_main m ρ)) (run_main m ρ))

end Cert.RglruIdeal.Value

end
-- ==== Proof.Rglru.RefEntry.lean ====
/- What the reference has computed before its loop over the tokens: the decays and the inputs, index by index. -/
module

public import proofs.«01_k».proof.Proof.Rglru.Spec
public import proofs.«01_k».proof.Proof.Gen.RglruRefIdeal.Run
public import Idealize.ShloMosaic.Lib.Pointwise
public import Idealize.ShloMosaic.Lib.StableHlo

@[expose] public section

set_option maxRecDepth 100000

noncomputable section

namespace Cert.RglruRefIdeal.Value

open Cert.RglruRefIdeal Cert.RglruRefIdeal.Gen Idealize.ShloMosaic Idealize.ShloMosaic.TcCoe Idealize.SL.Sem Idealize.ShloMosaic.StableHlo Cert.RglruSpec

/-- The reference's arguments, among a device's buffers. -/
def argsOf (V : Valuation τ sig (Elt Ideal)) : Args where
  X := V (Proc.devRef .tc main_arg0)
  Y := V (Proc.devRef .tc main_arg1)
  H := V (Proc.devRef .tc main_arg2)
  C := V (Proc.devRef .tc main_arg3)
  K := V (Proc.devRef .tc main_arg4)
  B := V (Proc.devRef .tc main_arg5)
  WA := V (Proc.devRef .tc main_arg6)
  BA := V (Proc.devRef .tc main_arg7)
  WX := V (Proc.devRef .tc main_arg8)
  BX := V (Proc.devRef .tc main_arg9)
  L := V (Proc.devRef .tc main_arg10)

/-- The operations up to the convolution. -/
def convOps : List (HloOp τ sig (Elt Ideal)) := hostOps0.take 31

/-- The operations after the convolution, up to the scaled gate. -/
def gateOps : List (HloOp τ sig (Elt Ideal)) := hostOps0.drop 31

theorem hostOps0_split : (hostOps0 : List (HloOp τ sig (Elt Ideal))) = convOps ++ gateOps := rfl

/-- A row of the carried rows followed by the tokens, chosen by its number. -/
theorem row_dite (a : Args) (b : Fin 8) (j : Fin 512) (n : ℕ) (hn : n < 4099) :
    (if h : n < 3 then a.C (ix3 b ⟨n, h⟩ j) else a.X (ix3 b ⟨n - 3, by omega⟩ j)) = row a b j n := by
  unfold row
  by_cases h : n < 3
  · rw [dif_pos h, dif_pos h]
  · rw [dif_neg h, dif_neg h, dif_pos (by omega : n - 3 < 4096)]

/-- A row past the carried ones is a token. -/
theorem row_token (a : Args) (b : Fin 8) (j : Fin 512) (s : Fin 4096) : a.X (ix3 b s j) = row a b j (3 + s.val) := by
  refine Eq.trans ?_ (row_dite a b j (3 + s.val) (by omega))
  rw [dif_neg (by omega : ¬ 3 + s.val < 3)]
  exact congrArg (fun z : Fin 4096 => a.X (ix3 b z j)) (Fin.ext (by simp))

set_option maxHeartbeats 1000000 in
theorem conv_eq (V : Valuation τ sig (Elt Ideal)) (b : Fin 8) (s : Fin 4096) (j : Fin 512) :
    @Eq EReal ((after convOps V (Proc.devRef .tc main_v30) : S8x4096x512.Idx → EReal) (ix3 b s j)) (conv (argsOf V) b s.val j) := by
  unfold convOps
  simp only [hostOps0, List.take_succ_cons, List.take_zero]
  after_results
  pointwise
  exact congrArg₂ (· + ·) (congrArg₂ (· + ·) (congrArg₂ (· + ·) (congrArg₂ (· + ·) rfl
    (congrArg _ (row_dite (argsOf V) b j s.val (by omega)))) (congrArg _ (row_dite (argsOf V) b j (1 + s.val) (by omega))))
    (congrArg _ (row_dite (argsOf V) b j (2 + s.val) (by omega)))) (congrArg _ (row_token (argsOf V) b j s))

theorem keep30 (V : Valuation τ sig (Elt Ideal)) : after gateOps V (Proc.devRef .tc main_v30) = V (Proc.devRef .tc main_v30) := by
  unfold gateOps
  simp only [hostOps0, List.drop_succ_cons, List.drop_zero]
  after_results

/-- The negated parameter. -/
theorem neg_eq (V : Valuation τ sig (Elt Ideal)) (j : Fin 512) :
    @Eq EReal ((after gateOps V (Proc.devRef .tc main_v58) : S512.Idx → EReal) (ix1 j)) (-(argsOf V).L (ix1 j)) := by
  unfold gateOps
  simp only [hostOps0, List.drop_succ_cons, List.drop_zero]
  after_results
  pointwise
  rfl

set_option maxHeartbeats 1000000 in
/-- The scaled recurrence gate, from the convolved tokens. -/
theorem gateA_eq (V : Valuation τ sig (Elt Ideal)) (a : Args) (hw : a.WA = V (Proc.devRef .tc main_arg6)) (hb : a.BA = V (Proc.devRef .tc main_arg7))
    (hc : ∀ (b : Fin 8) (s : Fin 4096) (j : Fin 512), @Eq EReal ((V (Proc.devRef .tc main_v30) : S8x4096x512.Idx → EReal) (ix3 b s j)) (conv a b s.val j))
    (b : Fin 8) (s : Fin 4096) (j : Fin 512) :
    @Eq EReal ((after gateOps V (Proc.devRef .tc main_v57) : S8x4096x512.Idx → EReal) (ix3 b s j))
      (Ideal.ofBits FTy.f32 3238002688#32 * gate a b s.val j a.WA a.BA) := by
  unfold gateOps
  simp only [hostOps0, List.drop_succ_cons, List.drop_zero]
  after_results
  pointwise
  simp only [hc, hw, hb]
  rfl

set_option maxHeartbeats 1000000 in
/-- The input gate, from the convolved tokens. -/
theorem gateX_eq (V : Valuation τ sig (Elt Ideal)) (a : Args) (hw : a.WX = V (Proc.devRef .tc main_arg8)) (hb : a.BX = V (Proc.devRef .tc main_arg9))
    (hc : ∀ (b : Fin 8) (s : Fin 4096) (j : Fin 512), @Eq EReal ((V (Proc.devRef .tc main_v30) : S8x4096x512.Idx → EReal) (ix3 b s j)) (conv a b s.val j))
    (b : Fin 8) (s : Fin 4096) (j : Fin 512) :
    @Eq EReal ((after gateOps V (Proc.devRef .tc main_v55) : S8x4096x512.Idx → EReal) (ix3 b s j))
      (gate a b s.val j a.WX a.BX) := by
  unfold gateOps
  simp only [hostOps0, List.drop_succ_cons, List.drop_zero]
  after_results
  pointwise
  simp only [hc, hw, hb]
  rfl

/-- A column of zeros. -/
def zeros : FVec Ideal S512 .f32 := broadcastInDim S512 ![] bcast_S_S512 (constant S_ .f32 0x00000000#32)

/-- The smooth positive part of a column. -/
def soft (x : FVec Ideal S512 .f32) : FVec Ideal S512 .f32 :=
  select (cmpf .une (subf x zeros) (subf x zeros)) (addf x zeros)
    (addf (maximumf x zeros) (Host.log1p (Host.exp (Host.negf (Host.absf (subf x zeros))))))

theorem soft_eq (V : Valuation τ sig (Elt Ideal)) :
    after hostOps0_1 V (Proc.devRef .tc main_v59) = soft (V (Proc.devRef .tc main_v58)) := by
  after_results
  simp only [TRef.ofBuf_toBuf]
  rfl

/-- The smooth positive part of the negated parameter. -/
theorem rate_eq (x : FVec Ideal S512 .f32) (a : Args)
    (hl : ∀ (j : Fin 512), @Eq EReal ((x : S512.Idx → EReal) (ix1 j)) (-a.L (ix1 j))) (j : Fin 512) :
    @Eq EReal ((soft x : S512.Idx → EReal) (ix1 j)) (rate a j) := by
  unfold soft zeros
  pointwise
  simp only [hl]
  rw [if_neg (fun h => h rfl)]
  rfl

/-- What the operations before the loop find. -/
structure Before (V : Valuation τ sig (Elt Ideal)) (a : Args) : Prop where
  conv : ∀ (b : Fin 8) (s : Fin 4096) (j : Fin 512), @Eq EReal ((V (Proc.devRef .tc main_v30) : S8x4096x512.Idx → EReal) (ix3 b s j)) (conv a b s.val j)
  gateA : ∀ (b : Fin 8) (s : Fin 4096) (j : Fin 512), @Eq EReal ((V (Proc.devRef .tc main_v57) : S8x4096x512.Idx → EReal) (ix3 b s j)) (Ideal.ofBits FTy.f32 3238002688#32 * gate a b s.val j a.WA a.BA)
  gateX : ∀ (b : Fin 8) (s : Fin 4096) (j : Fin 512), @Eq EReal ((V (Proc.devRef .tc main_v55) : S8x4096x512.Idx → EReal) (ix3 b s j)) (gate a b s.val j a.WX a.BX)
  rate : ∀ (j : Fin 512), @Eq EReal ((V (Proc.devRef .tc main_v59) : S512.Idx → EReal) (ix1 j)) (rate a j)

variable {V : Valuation τ sig (Elt Ideal)} {a : Args} (h : Before V a)

include h in
/-- The decays the loop reads. -/
theorem decay_eq (b : Fin 8) (s : Fin 4096) (j : Fin 512) :
    @Eq EReal ((after hostOps0_2 V (Proc.devRef .tc main_v73_0) : S8x4096x512.Idx → EReal) (ix3 b s j)) (decay a b s.val j) := by
  after_results
  simp only [id_eq]
  pointwise
  simp only [h.gateA, h.rate]
  rfl

include h in
/-- The inputs the loop reads. -/
theorem input_eq (b : Fin 8) (s : Fin 4096) (j : Fin 512) :
    @Eq EReal ((after hostOps0_2 V (Proc.devRef .tc main_v73_1) : S8x4096x512.Idx → EReal) (ix3 b s j)) (input a b s.val j) := by
  after_results
  simp only [id_eq]
  pointwise
  simp only [h.gateA, h.rate, h.gateX, h.conv]
  rfl

/-- The state the loop starts from. -/
theorem first_eq (V : Valuation τ sig (Elt Ideal)) (b : Fin 8) (z : Fin 1) (j : Fin 512) :
    @Eq EReal ((after hostOps0_2 V (Proc.devRef .tc main_v73_4) : S8x1x512.Idx → EReal) (ix3 b z j)) ((V (Proc.devRef .tc main_arg2) : S8x512.Idx → EReal) (ix2 b j)) := by
  after_results
  simp only [id_eq]
  pointwise

/-- The counter the loop starts from. -/
theorem count_eq (V : Valuation τ sig (Elt Ideal)) :
    (after hostOps0_2 V (Proc.devRef .tc main_v73_3) : S_.Idx → BitVec 32) = fun _ => 0#32 := by
  after_results
  rfl

end Cert.RglruRefIdeal.Value

end
-- ==== Proof.Rglru.RefLoop.lean ====
/- The reference's loop over the tokens: after `k` trips it carries the state after `k` tokens and the first `k` states,
   and what the reference returns follows. -/
module

public import proofs.«01_k».proof.Proof.Rglru.RefEntry
public import Idealize.ShloMosaic.Lib.DynamicIndex
public import Idealize.ShloMosaic.Lib.Pipeline.Value

@[expose] public section

set_option maxRecDepth 100000

noncomputable section

namespace Cert.RglruRefIdeal.Value

open Cert.RglruRefIdeal Cert.RglruRefIdeal.Gen Idealize.ShloMosaic Idealize.ShloMosaic.TcCoe Idealize.SL.Sem Idealize.ShloMosaic.StableHlo Cert.RglruSpec

/-- Where a trip reads and writes. -/
def startAt (i : IVec S_ 32) : Fin 3 → Int := fun a =>
  (((![constantI S_ 32 0#32, select (cmpi .slt i (constantI S_ 32 0#32)) (addi (id i) (constantI S_ 32 4096#32)) i,
    constantI S_ 32 0#32] : Fin 3 → (⟨S_, .i32⟩ : BufTy).Contents (Elt Ideal))) a (Shape.Idx.first h_S_)).toInt

/-- The row of one token fits. -/
theorem fits (k : ℕ) (hk : k < 4096) : S8x4096x512.Slices ![0, k, 0] S8x1x512 :=
  ⟨rfl, fun a => by
    fin_cases a
    · show 0 + 8 ≤ 8; omega
    · show k + 1 ≤ 4096; omega
    · show 0 + 512 ≤ 512; omega⟩

theorem startAt_eq (k : ℕ) (hk : k < 4096) (a : Fin 3) : startAt (constantI S_ 32 (BitVec.ofNat 32 k)) a = ((![0, k, 0] : Fin 3 → ℕ) a : Int) := by
  unfold startAt
  fin_cases a
  · rfl
  · exact toInt_wrap_ofNat k (by omega)
  · rfl

/-- A trip reads the row of its own token. -/
theorem slice_eq (x : FVec Ideal S8x4096x512 .f32) (k : ℕ) (hk : k < 4096) (b : Fin 8) (z : Fin 1) (j : Fin 512) :
    @Eq EReal ((Host.dynamicSlice S8x1x512 x (startAt (constantI S_ 32 (BitVec.ofNat 32 k))) sliceFits_S8x4096x512_S8x1x512 : S8x1x512.Idx → EReal) (ix3 b z j))
      (x (ix3 b ⟨k, hk⟩ j)) := by
  rw [Host.dynamicSlice_eq_extractStridedSlice S8x1x512 x _ ![0, k, 0] _ (fits k hk) (startAt_eq k hk)]
  pointwise

/-- A trip writes the row of its own token. -/
theorem update_eq (x : FVec Ideal S8x4096x512 .f32) (u : FVec Ideal S8x1x512 .f32) (k : ℕ) (hk : k < 4096) (b : Fin 8) (s : Fin 4096) (j : Fin 512) :
    @Eq EReal ((Host.dynamicUpdateSlice x u (startAt (constantI S_ 32 (BitVec.ofNat 32 k))) updateFits_S8x4096x512_S8x1x512 : S8x4096x512.Idx → EReal) (ix3 b s j))
      (if s.val = k then u (ix3 b 0 j) else x (ix3 b s j)) := by
  rw [Host.dynamicUpdateSlice_eq_updateSlice x u _ _ ![0, k, 0] (fun a => by
    rw [startAt_eq k hk a]
    fin_cases a
    · rfl
    · show (min (max (k : Int) 0) (4095 : Int)).toNat = k
      omega
    · rfl) (fits k hk)]
  pointwise
  by_cases h : s.val = k
  · rw [if_pos h, dif_pos (by omega : k ≤ s.val ∧ s.val < k + 1)]
    exact congrArg (fun z : Fin 1 => u (ix3 b z j)) (Fin.ext (by show s.val - k = 0; omega))
  · rw [if_neg h, dif_neg (by omega : ¬ (k ≤ s.val ∧ s.val < k + 1))]

/-- What the loop carries after `k` trips. -/
structure Carried (a : Args) (k : ℕ) (V : Valuation τ sig (Elt Ideal)) : Prop where
  count : (V (Proc.devRef .tc main_v73_3) : IVec S_ 32) = constantI S_ 32 (BitVec.ofNat 32 k)
  decay : ∀ (b : Fin 8) (s : Fin 4096) (j : Fin 512), @Eq EReal ((V (Proc.devRef .tc main_v73_0) : S8x4096x512.Idx → EReal) (ix3 b s j)) (decay a b s.val j)
  input : ∀ (b : Fin 8) (s : Fin 4096) (j : Fin 512), @Eq EReal ((V (Proc.devRef .tc main_v73_1) : S8x4096x512.Idx → EReal) (ix3 b s j)) (input a b s.val j)
  state : ∀ (b : Fin 8) (z : Fin 1) (j : Fin 512), @Eq EReal ((V (Proc.devRef .tc main_v73_4) : S8x1x512.Idx → EReal) (ix3 b z j)) (RglruSpec.state a b j k)
  states : ∀ (b : Fin 8) (s : Fin 4096) (j : Fin 512), s.val < k → @Eq EReal ((V (Proc.devRef .tc main_v73_5) : S8x4096x512.Idx → EReal) (ix3 b s j)) (RglruSpec.state a b j (s.val + 1))

/-- The new state of a trip. -/
theorem new_eq {a : Args} {k : ℕ} (hk : k < 4096) {V : Valuation τ sig (Elt Ideal)} (h : Carried a k V) (b : Fin 8) (z : Fin 1) (j : Fin 512) :
    @Eq EReal ((res_main_while0b_v101 V : S8x1x512.Idx → EReal) (ix3 b z j)) (RglruSpec.state a b j (k + 1)) := by
  have e : (res_main_while0b_v101 V : FVec Ideal S8x1x512 .f32) =
      addf (F := Ideal) (φ := .f32) (mulf (F := Ideal) (φ := .f32) (Host.dynamicSlice S8x1x512 (V (Proc.devRef .tc main_v73_0) : FVec Ideal S8x4096x512 .f32) (startAt (V (Proc.devRef .tc main_v73_3))) sliceFits_S8x4096x512_S8x1x512)
        (V (Proc.devRef .tc main_v73_4) : FVec Ideal S8x1x512 .f32))
        (Host.dynamicSlice S8x1x512 (V (Proc.devRef .tc main_v73_1) : FVec Ideal S8x4096x512 .f32) (startAt (V (Proc.devRef .tc main_v73_3))) sliceFits_S8x4096x512_S8x1x512) := rfl
  rw [e, h.count]
  exact congrArg₂ (α := EReal) (β := EReal) (γ := EReal) (· + ·) (congrArg₂ (α := EReal) (β := EReal) (γ := EReal) (· * ·) ((slice_eq _ k hk b z j).trans (h.decay b ⟨k, hk⟩ j)) (h.state b z j))
    ((slice_eq _ k hk b z j).trans (h.input b ⟨k, hk⟩ j))

/-- A trip carries on. -/
theorem step {a : Args} {k : ℕ} (hk : k < 4096) {V : Valuation τ sig (Elt Ideal)} (h : Carried a k V) : Carried a (k + 1) (STEP V) where
  count := by
    rw [STEP_main_v73_3]
    unfold step_main_v73_3
    rw [h.count]
    funext i
    show BitVec.ofNat 32 k + 1#32 = BitVec.ofNat 32 (k + 1)
    exact (BitVec.ofNat_add k 1).symm
  decay b s j := by rw [STEP_main_v73_0]; exact h.decay b s j
  input b s j := by rw [STEP_main_v73_1]; exact h.input b s j
  state b z j := by rw [STEP_main_v73_4]; exact new_eq hk h b z j
  states b s j hs := by
    rw [STEP_main_v73_5]
    have e : (step_main_v73_5 V : FVec Ideal S8x4096x512 .f32) = Host.dynamicUpdateSlice (V (Proc.devRef .tc main_v73_5))
        (res_main_while0b_v101 V) (startAt (V (Proc.devRef .tc main_v73_3))) updateFits_S8x4096x512_S8x1x512 := rfl
    rw [e, h.count]
    refine (update_eq _ _ k hk b s j).trans ?_
    by_cases hsk : s.val = k
    · rw [if_pos hsk, hsk]; exact new_eq hk h b 0 j
    · rw [if_neg hsk]; exact h.states b s j (by omega)

/-- Every trip carries on. -/
theorem steps {a : Args} {V : Valuation τ sig (Elt Ideal)} (h : Carried a 0 V) : ∀ k, k ≤ 4096 → Carried a k (STEP^[k] V)
  | 0, _ => h
  | k + 1, hk => by
    rw [Function.iterate_succ_apply']
    exact step (by omega) (steps h k (by omega))

variable (m : (ℓ : Loc nD τ sig) → Buf (Elt Ideal) ℓ) (ρ : Dev nD → PrngReg)

/-- The reference's arguments. -/
def args (c : Dev nD) : Args := argsOf (launchContents m c)

/-- What the loop starts from. -/
theorem entry (c : Dev nD) : Carried (args m c) 0 (entryContents preI m c) := by
  have e : entryContents (F := Ideal) preI m c = after hostOps0_2 (after hostOps0_1 (after gateOps (after convOps (launchContents m c)))) := by
    simp only [entryContents, preI, afterL_cons, afterL_nil, hostOps0_split, after_append]
  have kc (r : Ref sig .tc) (hr : r ∉ hostOps0_W) (V : Valuation τ sig (Elt Ideal)) : after convOps V (Proc.devRef .tc r) = V (Proc.devRef .tc r) :=
    after_of_writes_sub convOps V (List.forall_iff_forall_mem.mpr fun op h => List.forall_iff_forall_mem.mp hostOps0_writes op (List.mem_of_mem_take h)) hr
  have kg (r : Ref sig .tc) (hr : r ∉ hostOps0_W) (V : Valuation τ sig (Elt Ideal)) : after gateOps V (Proc.devRef .tc r) = V (Proc.devRef .tc r) :=
    after_of_writes_sub gateOps V (List.forall_iff_forall_mem.mpr fun op h => List.forall_iff_forall_mem.mp hostOps0_writes op (List.mem_of_mem_drop h)) hr
  have ks (r : Ref sig .tc) (hr : r ∉ hostOps0_1_W) (V : Valuation τ sig (Elt Ideal)) : after hostOps0_1 V (Proc.devRef .tc r) = V (Proc.devRef .tc r) :=
    after_of_writes_sub hostOps0_1 V hostOps0_1_writes hr
  have hB : Before (after hostOps0_1 (after gateOps (after convOps (launchContents m c)))) (args m c) := by
    refine ⟨fun b s j => ?_, fun b s j => ?_, fun b s j => ?_, fun j => ?_⟩
    · rw [ks main_v30 (by decide), keep30]; exact conv_eq _ b s j
    · rw [ks main_v57 (by decide)]
      exact gateA_eq _ (args m c) (kc main_arg6 (by decide) (launchContents m c)).symm (kc main_arg7 (by decide) (launchContents m c)).symm (fun b s j => conv_eq _ b s j) b s j
    · rw [ks main_v55 (by decide)]
      exact gateX_eq _ (args m c) (kc main_arg8 (by decide) (launchContents m c)).symm (kc main_arg9 (by decide) (launchContents m c)).symm (fun b s j => conv_eq _ b s j) b s j
    · rw [soft_eq]
      refine rate_eq _ (args m c) (fun j => (neg_eq _ j).trans ?_) j
      exact congrArg (fun v : S512.Idx → EReal => -(v (ix1 j))) (kc main_arg10 (by decide) (launchContents m c))
  rw [e]
  refine ⟨count_eq _, decay_eq hB, input_eq hB, fun b z j => (first_eq _ b z j).trans ?_, fun b s j hs => absurd hs (by omega)⟩
  rw [ks main_arg2 (by decide), kg main_arg2 (by decide), kc main_arg2 (by decide)]
  rfl

/-- What the loop leaves. -/
theorem last (c : Dev nD) : Carried (args m c) 4096 (STEP^[4096] (entryContents preI m c)) :=
  steps (entry m c) 4096 (le_refl _)

/-- The loop leaves the gate's tokens as they were. -/
theorem gate_kept (c : Dev nD) : (STEP^[4096] (entryContents (F := Ideal) preI m c)) (Proc.devRef .tc main_arg1) = m ((c.tc : Thread nD τ).loc main_arg1) :=
  iter_main_arg1 m c 4096

/-- The gated outputs. -/
theorem out_eq (c : Dev nD) : @Eq (S8x4096x512.Idx → EReal) (out_main_v88 (F := Ideal) (STEP^[4096] (entryContents preI m c))) (outArr (args m c)) := by
  funext i
  idx_vars i
  unfold out_main_v88
  pointwise
  rw [gate_kept]
  simp only [(last m c).states _ _ _ (Fin.isLt _)]
  rfl

/-- The last state. -/
theorem last_eq (c : Dev nD) : @Eq (S8x1x512.Idx → EReal) ((STEP^[4096] (entryContents (F := Ideal) preI m c)) (Proc.devRef .tc main_v73_4)) (fun i => RglruSpec.state (args m c) (i 0) (i 2) 4096) := by
  funext i
  idx_vars i
  exact (last m c).state _ _ _

set_option maxHeartbeats 1000000 in
/-- What the reference returns. -/
theorem run_spec : θ_run (defs (F := Ideal)) (onTc (τ := τ) (main (F := Ideal))) ⟨m, fun _ => 0, ρ⟩ fun r => ∀ c : Dev nD,
      r.2.mem ((c.tc : Thread nD τ).loc main_v88) = outArr (args m c)
      ∧ r.2.mem ((c.tc : Thread nD τ).loc main_v73_4) = (fun i => RglruSpec.state (args m c) (i 0) (i 2) 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (out_eq m c), (h c).2.1.trans (last_eq m c), (h c).2.2⟩) (run m ρ)

end Cert.RglruRefIdeal.Value

end
-- ==== Proof.Rglru.Claims.lean ====
/- The recurrence's claims: the kernel's and the reference's frames, and that they compute the same arrays. -/
module

public import proofs.«01_k».proof.Defs
public import proofs.«01_k».proof.Proof.Rglru.Out
public import proofs.«01_k».proof.Proof.Rglru.RefLoop
public import Idealize.ShloMosaic.Lib.Quiescent

@[expose] public section

noncomputable section

namespace Cert.RglruSpec

open Idealize.ShloMosaic Idealize.SL.Sem

/-- The kernel keeps its arguments and leaves every semaphore at zero. -/
theorem frame_ideal : Cert.quiescent_RglruIdeal := fun m ρ _ => Cert.RglruIdeal.Value.frame m ρ

/-- The reference declares no semaphore, and its run keeps its arguments. -/
theorem frame_ref : Cert.quiescent_RglruRefIdeal := fun m ρ _ =>
  (θ_run _ _ _).mono (fun _ h => ⟨fun c => (h c).2.2, sem_eq_zero_of_no_sems rfl _⟩) (Cert.RglruRefIdeal.Value.run_spec m ρ)

/-- Both programs end with the same two arrays. -/
theorem algebraic : Cert.algebraic_RglruIdeal_RglruRefIdeal := by
  intro m g m' g' _ hagree
  have hr := Cert.RglruRefIdeal.Value.run_spec m' g'
  have e0 : ∀ c : Dev Cert.RglruIdeal.nD, m' ((c.tc : Thread Cert.RglruRefIdeal.nD Cert.RglruRefIdeal.τ).loc Cert.RglruRefIdeal.main_arg0) = m ((c.tc : Thread Cert.RglruIdeal.nD Cert.RglruIdeal.τ).loc Cert.RglruIdeal.main_arg0) := fun c => (hagree c).1
  have e1 : ∀ c : Dev Cert.RglruIdeal.nD, m' ((c.tc : Thread Cert.RglruRefIdeal.nD Cert.RglruRefIdeal.τ).loc Cert.RglruRefIdeal.main_arg1) = m ((c.tc : Thread Cert.RglruIdeal.nD Cert.RglruIdeal.τ).loc Cert.RglruIdeal.main_arg1) := fun c => (hagree c).2.1
  have e2 : ∀ c : Dev Cert.RglruIdeal.nD, m' ((c.tc : Thread Cert.RglruRefIdeal.nD Cert.RglruRefIdeal.τ).loc Cert.RglruRefIdeal.main_arg2) = m ((c.tc : Thread Cert.RglruIdeal.nD Cert.RglruIdeal.τ).loc Cert.RglruIdeal.main_arg2) := fun c => (hagree c).2.2.1
  have e3 : ∀ c : Dev Cert.RglruIdeal.nD, m' ((c.tc : Thread Cert.RglruRefIdeal.nD Cert.RglruRefIdeal.τ).loc Cert.RglruRefIdeal.main_arg3) = m ((c.tc : Thread Cert.RglruIdeal.nD Cert.RglruIdeal.τ).loc Cert.RglruIdeal.main_arg3) := fun c => (hagree c).2.2.2.1
  have e4 : ∀ c : Dev Cert.RglruIdeal.nD, m' ((c.tc : Thread Cert.RglruRefIdeal.nD Cert.RglruRefIdeal.τ).loc Cert.RglruRefIdeal.main_arg4) = m ((c.tc : Thread Cert.RglruIdeal.nD Cert.RglruIdeal.τ).loc Cert.RglruIdeal.main_arg4) := fun c => (hagree c).2.2.2.2.1
  have e5 : ∀ c : Dev Cert.RglruIdeal.nD, m' ((c.tc : Thread Cert.RglruRefIdeal.nD Cert.RglruRefIdeal.τ).loc Cert.RglruRefIdeal.main_arg5) = m ((c.tc : Thread Cert.RglruIdeal.nD Cert.RglruIdeal.τ).loc Cert.RglruIdeal.main_arg5) := fun c => (hagree c).2.2.2.2.2.1
  have e6 : ∀ c : Dev Cert.RglruIdeal.nD, m' ((c.tc : Thread Cert.RglruRefIdeal.nD Cert.RglruRefIdeal.τ).loc Cert.RglruRefIdeal.main_arg6) = m ((c.tc : Thread Cert.RglruIdeal.nD Cert.RglruIdeal.τ).loc Cert.RglruIdeal.main_arg6) := fun c => (hagree c).2.2.2.2.2.2.1
  have e7 : ∀ c : Dev Cert.RglruIdeal.nD, m' ((c.tc : Thread Cert.RglruRefIdeal.nD Cert.RglruRefIdeal.τ).loc Cert.RglruRefIdeal.main_arg7) = m ((c.tc : Thread Cert.RglruIdeal.nD Cert.RglruIdeal.τ).loc Cert.RglruIdeal.main_arg7) := fun c => (hagree c).2.2.2.2.2.2.2.1
  have e8 : ∀ c : Dev Cert.RglruIdeal.nD, m' ((c.tc : Thread Cert.RglruRefIdeal.nD Cert.RglruRefIdeal.τ).loc Cert.RglruRefIdeal.main_arg8) = m ((c.tc : Thread Cert.RglruIdeal.nD Cert.RglruIdeal.τ).loc Cert.RglruIdeal.main_arg8) := fun c => (hagree c).2.2.2.2.2.2.2.2.1
  have e9 : ∀ c : Dev Cert.RglruIdeal.nD, m' ((c.tc : Thread Cert.RglruRefIdeal.nD Cert.RglruRefIdeal.τ).loc Cert.RglruRefIdeal.main_arg9) = m ((c.tc : Thread Cert.RglruIdeal.nD Cert.RglruIdeal.τ).loc Cert.RglruIdeal.main_arg9) := fun c => (hagree c).2.2.2.2.2.2.2.2.2.1
  have e10 : ∀ c : Dev Cert.RglruIdeal.nD, m' ((c.tc : Thread Cert.RglruRefIdeal.nD Cert.RglruRefIdeal.τ).loc Cert.RglruRefIdeal.main_arg10) = m ((c.tc : Thread Cert.RglruIdeal.nD Cert.RglruIdeal.τ).loc Cert.RglruIdeal.main_arg10) := fun c => (hagree c).2.2.2.2.2.2.2.2.2.2
  have ea : ∀ c : Dev Cert.RglruIdeal.nD, Cert.RglruRefIdeal.Value.args m' c = Cert.RglruIdeal.Value.args m c := fun c => by
    show (⟨m' ((c.tc : Thread Cert.RglruRefIdeal.nD Cert.RglruRefIdeal.τ).loc Cert.RglruRefIdeal.main_arg0), m' ((c.tc : Thread Cert.RglruRefIdeal.nD Cert.RglruRefIdeal.τ).loc Cert.RglruRefIdeal.main_arg1), m' ((c.tc : Thread Cert.RglruRefIdeal.nD Cert.RglruRefIdeal.τ).loc Cert.RglruRefIdeal.main_arg2), m' ((c.tc : Thread Cert.RglruRefIdeal.nD Cert.RglruRefIdeal.τ).loc Cert.RglruRefIdeal.main_arg3), m' ((c.tc : Thread Cert.RglruRefIdeal.nD Cert.RglruRefIdeal.τ).loc Cert.RglruRefIdeal.main_arg4), m' ((c.tc : Thread Cert.RglruRefIdeal.nD Cert.RglruRefIdeal.τ).loc Cert.RglruRefIdeal.main_arg5), m' ((c.tc : Thread Cert.RglruRefIdeal.nD Cert.RglruRefIdeal.τ).loc Cert.RglruRefIdeal.main_arg6), m' ((c.tc : Thread Cert.RglruRefIdeal.nD Cert.RglruRefIdeal.τ).loc Cert.RglruRefIdeal.main_arg7), m' ((c.tc : Thread Cert.RglruRefIdeal.nD Cert.RglruRefIdeal.τ).loc Cert.RglruRefIdeal.main_arg8), m' ((c.tc : Thread Cert.RglruRefIdeal.nD Cert.RglruRefIdeal.τ).loc Cert.RglruRefIdeal.main_arg9), m' ((c.tc : Thread Cert.RglruRefIdeal.nD Cert.RglruRefIdeal.τ).loc Cert.RglruRefIdeal.main_arg10)⟩ : Args) = ⟨m ((c.tc : Thread Cert.RglruIdeal.nD Cert.RglruIdeal.τ).loc Cert.RglruIdeal.main_arg0), m ((c.tc : Thread Cert.RglruIdeal.nD Cert.RglruIdeal.τ).loc Cert.RglruIdeal.main_arg1), m ((c.tc : Thread Cert.RglruIdeal.nD Cert.RglruIdeal.τ).loc Cert.RglruIdeal.main_arg2), m ((c.tc : Thread Cert.RglruIdeal.nD Cert.RglruIdeal.τ).loc Cert.RglruIdeal.main_arg3), m ((c.tc : Thread Cert.RglruIdeal.nD Cert.RglruIdeal.τ).loc Cert.RglruIdeal.main_arg4), m ((c.tc : Thread Cert.RglruIdeal.nD Cert.RglruIdeal.τ).loc Cert.RglruIdeal.main_arg5), m ((c.tc : Thread Cert.RglruIdeal.nD Cert.RglruIdeal.τ).loc Cert.RglruIdeal.main_arg6), m ((c.tc : Thread Cert.RglruIdeal.nD Cert.RglruIdeal.τ).loc Cert.RglruIdeal.main_arg7), m ((c.tc : Thread Cert.RglruIdeal.nD Cert.RglruIdeal.τ).loc Cert.RglruIdeal.main_arg8), m ((c.tc : Thread Cert.RglruIdeal.nD Cert.RglruIdeal.τ).loc Cert.RglruIdeal.main_arg9), m ((c.tc : Thread Cert.RglruIdeal.nD Cert.RglruIdeal.τ).loc Cert.RglruIdeal.main_arg10)⟩
    rw [e0 c, e1 c, e2 c, e3 c, e4 c, e5 c, e6 c, e7 c, e8 c, e9 c, e10 c]
  refine ⟨_, _, Cert.RglruIdeal.Value.run_spec m g, (θ_run _ _ _).mono (fun r h c => ?_) hr⟩
  have hc := h c
  rw [ea c, e0 c, e1 c, e2 c, e3 c, e4 c, e5 c, e6 c, e7 c, e8 c, e9 c, e10 c] at hc
  rw [e0 c, e1 c, e2 c, e3 c, e4 c, e5 c, e6 c, e7 c, e8 c, e9 c, e10 c]
  exact hc

end Cert.RglruSpec
end
-- ==== Proof.Ffn.Setup.lean ====
/- The launch of the feed-forward call: when the two conditionals of the body are taken, and the
   memrefs the pipeline hands the body at a grid point. -/
module

public import proofs.«01_k».proof.Proof.Gen.FfnIdeal.Frame
public import proofs.«01_k».proof.Proof.Gen.FfnIdeal.Skeleton

@[expose] public section

set_option maxRecDepth 16384

noncomputable section

namespace Cert.FfnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x2816 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2816 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x2816 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x2816 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2816 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2816x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2x2816 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S520x2816 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.FfnIdeal.Value

end
-- ==== Proof.Ffn.Conv.lean ====
module

public import proofs.«01_k».proof.Proof.Ffn.Setup
public import Idealize.ShloMosaic.Lib.Pointwise
public import Idealize.ShloMosaic.Lib.VecWindow
public import Idealize.ShloMosaic.Lib.WritesUnit

@[expose] public section

set_option maxRecDepth 16384

noncomputable section

namespace Cert.FfnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the scratch block holds for the convolution: above the 512 rows of this step's up-projection stand, in rows 6 and
7, the last two rows of the step before (or the rows the call was given to start from). -/

/-- The 512 rows starting `o` rows into `T` followed by `blk`: what the convolution's tap `o` reads. -/
def strip (T : Vec F S2x2816 .f32) (blk : Vec F S512x2816 .f32) (o : Fin 3) : Vec F S512x2816 .f32 := fun i =>
  if h : (i 0).val + o.val < 2 then T (ix2 ⟨(i 0).val + o.val, h⟩ (i 1))
  else blk (ix2 ⟨(i 0).val + o.val - 2, by have := o.isLt; have := (i 0).isLt; have : S512x2816.size 0 = 512 := rfl; omega⟩ (i 1))

/-- The last two rows of a block. -/
def last2 (blk : Vec F S512x2816 .f32) : Vec F S2x2816 .f32 := fun j =>
  blk (ix2 ⟨(j 0).val + 510, by have := (j 0).isLt; have : S2x2816.size 0 = 2 := rfl; omega⟩ (j 1))

/-- The scratch block `X` holds `T` in its rows 6 and 7. -/
def Carries (X : Vec F S520x2816 .f32) (T : Vec F S2x2816 .f32) : Prop :=
  ∀ (y : S520x2816.Idx) (j : S2x2816.Idx), (y 0).val = 6 + (j 0).val → (y 1).val = (j 1).val → X y = T j

/-- A load of 512 rows from row `6 + o` on, once rows 8 to 519 are stored and rows 6 and 7 hold `T`. -/
theorem readAt_strip (v : View sig .tc .vmem S520x2816 .f32) (f : v.ty.Contents (Elt F)) (L : List (View.Piece (Elt F) S520x2816 .f32))
    (T : Vec F S2x2816 .f32) (blk : Vec F S512x2816 .f32) (hT : Carries (v.read (Elt F) (v.writes (Elt F) f L)) T)
    (o : Fin 3) {off : Fin 2 → ℕ} (inb : ∀ a, off a + S512x2816.size a ≤ S520x2816.size a)
    (inb8 : ∀ a, (![8, 0] : Fin 2 → ℕ) a + S512x2816.size a ≤ S520x2816.size a) (heq : off = ![6 + o.val, 0]) :
    v.readAt (Elt F) (Rect.unit (s := S520x2816) off S512x2816.size inb).toLoadRect
      (v.writes (Elt F) f (⟨Rect.unit (s := S520x2816) ![8, 0] S512x2816.size inb8, blk⟩ :: L)) = strip T blk o := by
  subst heq
  have ho := o.isLt
  funext i
  show v.read (Elt F) _ ((Rect.unit (s := S520x2816) ![6 + o.val, 0] S512x2816.size inb).idx i) = _
  have h0 : ((Rect.unit (s := S520x2816) ![6 + o.val, 0] S512x2816.size inb).idx i 0).val = 6 + o.val + (i 0).val := by
    show 6 + o.val + 1 * (i 0).val = _; omega
  have h1 : ((Rect.unit (s := S520x2816) ![6 + o.val, 0] S512x2816.size inb).idx i 1).val = (i 1).val := by
    show 0 + 1 * (i 1).val = _; omega
  by_cases h : (i 0).val + o.val < 2
  · refine Eq.trans ?_ (dif_pos h).symm
    rw [View.read_writes_cons_rows_of_not_mem (W := 512) v f inb8 blk L _ rfl rfl (Or.inl (by rw [h0]; omega))]
    exact hT _ _ (by rw [h0]; show _ = 6 + ((i 0).val + o.val); omega) h1
  · refine Eq.trans ?_ (dif_neg h).symm
    exact View.read_writes_cons_rows_of_mem v f inb8 blk L _ _ rfl
      (by rw [h0]; show _ = 8 + ((i 0).val + o.val - 2); omega) h1

/-- Read at the block itself the strip does not look at the two rows before. -/
theorem readAt_strip_two (v : View sig .tc .vmem S520x2816 .f32) (f : v.ty.Contents (Elt F)) (L : List (View.Piece (Elt F) S520x2816 .f32))
    (T : Vec F S2x2816 .f32) (blk : Vec F S512x2816 .f32)
    (inb8 : ∀ a, (![8, 0] : Fin 2 → ℕ) a + S512x2816.size a ≤ S520x2816.size a) :
    v.readAt (Elt F) (Rect.unit (s := S520x2816) ![8, 0] S512x2816.size inb8).toLoadRect
      (v.writes (Elt F) f (⟨Rect.unit (s := S520x2816) ![8, 0] S512x2816.size inb8, blk⟩ :: L)) = strip T blk 2 := by
  refine (readAt_strip v f L (fun j => v.read (Elt F) (v.writes (Elt F) f L) (ix2 ⟨6 + (j 0).val, by have := (j 0).isLt; have : S2x2816.size 0 = 2 := rfl; omega⟩ (j 1))) blk
    (fun y j h0 h1 => congrArg (v.read (Elt F) (v.writes (Elt F) f L)) ?_) 2 inb8 inb8 rfl).trans ?_
  · funext a
    match a with
    | ⟨0, _⟩ => exact Fin.ext h0
    | ⟨1, _⟩ => exact Fin.ext h1
  · funext i
    have h : ¬ ((i 0).val + (2 : Fin 3).val < 2) := by show ¬ ((i 0).val + 2 < 2); omega
    unfold strip
    refine Eq.trans (dif_neg h) (Eq.symm ?_)
    exact dif_neg h

/-- A load of the last two of the stored rows. -/
theorem readAt_last2 (v : View sig .tc .vmem S520x2816 .f32) (f : v.ty.Contents (Elt F)) (L : List (View.Piece (Elt F) S520x2816 .f32))
    (blk : Vec F S512x2816 .f32) (inb : ∀ a, (![518, 0] : Fin 2 → ℕ) a + S2x2816.size a ≤ S520x2816.size a)
    (inb8 : ∀ a, (![8, 0] : Fin 2 → ℕ) a + S512x2816.size a ≤ S520x2816.size a) :
    v.readAt (Elt F) (Rect.unit (s := S520x2816) ![518, 0] S2x2816.size inb).toLoadRect
      (v.writes (Elt F) f (⟨Rect.unit (s := S520x2816) ![8, 0] S512x2816.size inb8, blk⟩ :: L)) = last2 blk := by
  funext i
  show v.read (Elt F) _ ((Rect.unit (s := S520x2816) ![518, 0] S2x2816.size inb).idx i) = _
  have h0 : ((Rect.unit (s := S520x2816) ![518, 0] S2x2816.size inb).idx i 0).val = 518 + (i 0).val := by
    show 518 + 1 * (i 0).val = _; omega
  have h1 : ((Rect.unit (s := S520x2816) ![518, 0] S2x2816.size inb).idx i 1).val = (i 1).val := by
    show 0 + 1 * (i 1).val = _; omega
  exact View.read_writes_cons_rows_of_mem v f inb8 blk L _ _ rfl
    (by rw [h0]; show _ = 8 + ((i 0).val + 510); omega) h1

/-- After a store of `T` to rows 6 and 7 the block carries `T`. -/
theorem carries_cons (v : View sig .tc .vmem S520x2816 .f32) (f : v.ty.Contents (Elt F)) (L : List (View.Piece (Elt F) S520x2816 .f32))
    (T : Vec F S2x2816 .f32) (inb : ∀ a, (![6, 0] : Fin 2 → ℕ) a + S2x2816.size a ≤ S520x2816.size a) :
    Carries (v.read (Elt F) (v.writes (Elt F) f (⟨Rect.unit (s := S520x2816) ![6, 0] S2x2816.size inb, T⟩ :: L))) T :=
  fun y j h0 h1 => View.read_writes_cons_rows_of_mem v f inb T L y j rfl h0 h1

/-- The store that keeps the last two rows keeps them as they are. -/
theorem pay8_eq (w : Vec F S2x2816 .f32) : k0_pay8 w = w := by
  funext j
  unfold k0_pay8
  exact shapeCast_apply _ _ _ _ rfl

/-- This step's up-projection. -/
def upBlk (x0 : Vec F S1x512x1024 .f32) (x1 : Vec F S1x512x512 .bf16) (x2 : Vec F S1x512x512 .bf16) (x4 : Vec F S512x1024 .bf16) (x5 : Vec F S512x1024 .bf16) (x6 : Vec F S1x1024 .f32) (x7 : Vec F S1024x2816 .bf16) : Vec F S512x2816 .f32 :=
  k0_pay6 (k0_pay5 x0 x1 x4 x2 x5 x6) x7

/-- The block of results a step computes from its blocks and the two rows `T` before them. -/
def yBlk (T : Vec F S2x2816 .f32) (x0 : Vec F S1x512x1024 .f32) (x1 : Vec F S1x512x512 .bf16) (x2 : Vec F S1x512x512 .bf16) (x4 : Vec F S512x1024 .bf16) (x5 : Vec F S512x1024 .bf16) (x6 : Vec F S1x1024 .f32) (x7 : Vec F S1024x2816 .bf16) (x8 : Vec F S1024x2816 .bf16) (x9 : Vec F S3x2816 .f32) (x10 : Vec F S1x2816 .f32) (x11 : Vec F S2816x1024 .bf16) (x12 : Vec F S1x1024 .f32) : Vec F S1x512x1024 .f32 :=
  k0_pay1 (k0_pay4 x0 x1 x4 x2 x5)
    (k0_pay7 x10 (View.ld x9 (Rect.unit (s := S3x2816) ![0, 0] S1x2816.size inb_S3x2816_S1x2816_0_0)) (strip T (upBlk x0 x1 x2 x4 x5 x6 x7) 0)
      (View.ld x9 (Rect.unit (s := S3x2816) ![1, 0] S1x2816.size inb_S3x2816_S1x2816_1_0)) (strip T (upBlk x0 x1 x2 x4 x5 x6 x7) 1)
      (View.ld x9 (Rect.unit (s := S3x2816) ![2, 0] S1x2816.size inb_S3x2816_S1x2816_2_0)) (strip T (upBlk x0 x1 x2 x4 x5 x6 x7) 2))
    (k0_pay9 (k0_pay5 x0 x1 x4 x2 x5 x6) x8)
    (k0_pay10 x10 (View.ld x9 (Rect.unit (s := S3x2816) ![0, 0] S1x2816.size inb_S3x2816_S1x2816_0_0)) (strip T (upBlk x0 x1 x2 x4 x5 x6 x7) 0)
      (View.ld x9 (Rect.unit (s := S3x2816) ![1, 0] S1x2816.size inb_S3x2816_S1x2816_1_0)) (strip T (upBlk x0 x1 x2 x4 x5 x6 x7) 1)
      (View.ld x9 (Rect.unit (s := S3x2816) ![2, 0] S1x2816.size inb_S3x2816_S1x2816_2_0)) (strip T (upBlk x0 x1 x2 x4 x5 x6 x7) 2))
    k0_pay11 x11 x12

end Cert.FfnIdeal.Value

end
-- ==== Proof.Ffn.RunA.lean ====
module

public import proofs.«01_k».proof.Proof.Ffn.Conv

@[expose] public section

set_option maxRecDepth 16384

noncomputable section

namespace Cert.FfnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the first step of a sequence: the two rows before come from the call's own input. -/
theorem run_A (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x2x2816 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S3x2816 .f32) (harg11 : arg11.IsWhole) (arg12 : Memref sig .tc .vmem S1x2816 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x512x1024 .f32) (harg15 : arg15.IsWhole) (arg16 : Memref sig .tc .vmem S1x2x2816 .f32) (harg16 : arg16.IsWhole) (arg17 : Memref sig .tc .vmem S520x2816 .f32) (harg17 : arg17.IsWhole) (hc0 : cond0_0 i) (hc1 : ¬cond0_1 i)
    (x0 : Vec F S1x512x1024 .f32) (x1 : Vec F S1x512x512 .bf16) (x2 : Vec F S1x512x512 .bf16) (x3 : Vec F S1x2x2816 .f32) (x4 : Vec F S512x1024 .bf16) (x5 : Vec F S512x1024 .bf16) (x6 : Vec F S1x1024 .f32) (x7 : Vec F S1024x2816 .bf16) (x8 : Vec F S1024x2816 .bf16) (x9 : Vec F S3x2816 .f32) (x10 : Vec F S1x2816 .f32) (x11 : Vec F S2816x1024 .bf16) (x12 : Vec F S1x1024 .f32) (d14 : Vec F S1x2x2816 .f32) (xs : Vec F S520x2816 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare d14 ∗ owns (c : Thread nD τ) arg17 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (yBlk (k0_pay3 x3) x0 x1 x2 x4 x5 x6 x7 x8 x9 x10 x11 x12) ∗ owns (c : Thread nD τ) arg16 fullShare d14 ∗ (∃ X, iprop(⌜Carries X (last2 (upBlk x0 x1 x2 x4 x5 x6 x7))⌝ ∗ owns (c : Thread nD τ) arg17 fullShare X))) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_ffn_eq_skeleton]; unfold cc0_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    obtain rfl := harg16.eq_unread hf14; obtain rfl := harg17.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro
      sl_unfold_words
      refine (View.read_writes_full _ _ _ _ _).trans ?_
      have e0 : View.readAt (Elt F) arg2.view (Rect.unit (s := S1x512x1024) ![0, 0, 0] S1x512x1024.size inb_S1x512x1024_S1x512x1024_0_0_0).toLoadRect (harg2.unread x0) = x0 := (View.readAt_full _ _ _).trans (harg2.read_unread _)
      have e1 : View.readAt (Elt F) arg3.view (Rect.unit (s := S1x512x512) ![0, 0, 0] S1x512x512.size inb_S1x512x512_S1x512x512_0_0_0).toLoadRect (harg3.unread x1) = x1 := (View.readAt_full _ _ _).trans (harg3.read_unread _)
      have e2 : View.readAt (Elt F) arg4.view (Rect.unit (s := S1x512x512) ![0, 0, 0] S1x512x512.size inb_S1x512x512_S1x512x512_0_0_0).toLoadRect (harg4.unread x2) = x2 := (View.readAt_full _ _ _).trans (harg4.read_unread _)
      have e3 : View.readAt (Elt F) arg5.view (Rect.unit (s := S1x2x2816) ![0, 0, 0] S1x2x2816.size inb_S1x2x2816_S1x2x2816_0_0_0).toLoadRect (harg5.unread x3) = x3 := (View.readAt_full _ _ _).trans (harg5.read_unread _)
      have e4 : View.readAt (Elt F) arg6.view (Rect.unit (s := S512x1024) ![0, 0] S512x1024.size inb_S512x1024_S512x1024_0_0).toLoadRect (harg6.unread x4) = x4 := (View.readAt_full _ _ _).trans (harg6.read_unread _)
      have e5 : View.readAt (Elt F) arg7.view (Rect.unit (s := S512x1024) ![0, 0] S512x1024.size inb_S512x1024_S512x1024_0_0).toLoadRect (harg7.unread x5) = x5 := (View.readAt_full _ _ _).trans (harg7.read_unread _)
      have e6 : View.readAt (Elt F) arg8.view (Rect.unit (s := S1x1024) ![0, 0] S1x1024.size inb_S1x1024_S1x1024_0_0).toLoadRect (harg8.unread x6) = x6 := (View.readAt_full _ _ _).trans (harg8.read_unread _)
      have e7 : View.readAt (Elt F) arg9.view (Rect.unit (s := S1024x2816) ![0, 0] S1024x2816.size inb_S1024x2816_S1024x2816_0_0).toLoadRect (harg9.unread x7) = x7 := (View.readAt_full _ _ _).trans (harg9.read_unread _)
      have e8 : View.readAt (Elt F) arg10.view (Rect.unit (s := S1024x2816) ![0, 0] S1024x2816.size inb_S1024x2816_S1024x2816_0_0).toLoadRect (harg10.unread x8) = x8 := (View.readAt_full _ _ _).trans (harg10.read_unread _)
      have e10 : View.readAt (Elt F) arg12.view (Rect.unit (s := S1x2816) ![0, 0] S1x2816.size inb_S1x2816_S1x2816_0_0).toLoadRect (harg12.unread x10) = x10 := (View.readAt_full _ _ _).trans (harg12.read_unread _)
      have e11 : View.readAt (Elt F) arg13.view (Rect.unit (s := S2816x1024) ![0, 0] S2816x1024.size inb_S2816x1024_S2816x1024_0_0).toLoadRect (harg13.unread x11) = x11 := (View.readAt_full _ _ _).trans (harg13.read_unread _)
      have e12 : View.readAt (Elt F) arg14.view (Rect.unit (s := S1x1024) ![0, 0] S1x1024.size inb_S1x1024_S1x1024_0_0).toLoadRect (harg14.unread x12) = x12 := (View.readAt_full _ _ _).trans (harg14.read_unread _)
      have e90 : View.readAt (Elt F) arg11.view (Rect.unit (s := S3x2816) ![0, 0] S1x2816.size inb_S3x2816_S1x2816_0_0).toLoadRect (harg11.unread x9) = View.ld x9 (Rect.unit (s := S3x2816) ![0, 0] S1x2816.size inb_S3x2816_S1x2816_0_0) := by
        rw [View.readAt_eq_ld, harg11.read_unread]
      have e91 : View.readAt (Elt F) arg11.view (Rect.unit (s := S3x2816) ![1, 0] S1x2816.size inb_S3x2816_S1x2816_1_0).toLoadRect (harg11.unread x9) = View.ld x9 (Rect.unit (s := S3x2816) ![1, 0] S1x2816.size inb_S3x2816_S1x2816_1_0) := by
        rw [View.readAt_eq_ld, harg11.read_unread]
      have e92 : View.readAt (Elt F) arg11.view (Rect.unit (s := S3x2816) ![2, 0] S1x2816.size inb_S3x2816_S1x2816_2_0).toLoadRect (harg11.unread x9) = View.ld x9 (Rect.unit (s := S3x2816) ![2, 0] S1x2816.size inb_S3x2816_S1x2816_2_0) := by
        rw [View.readAt_eq_ld, harg11.read_unread]
      have l0 : arg17.view.readCov [⟨Rect.unit (s := S520x2816) ![8, 0] S512x2816.size inb_S520x2816_S512x2816_8_0, k0_pay6 (k0_pay5 x0 x1 x4 x2 x5 x6) x7⟩, ⟨Rect.unit (s := S520x2816) ![6, 0] S2x2816.size inb_S520x2816_S2x2816_6_0, k0_pay3 x3⟩] (Rect.unit (s := S520x2816) ![6, 0] S512x2816.size inb_S520x2816_S512x2816_6_0).toLoadRect = strip (k0_pay3 x3) (k0_pay6 (k0_pay5 x0 x1 x4 x2 x5 x6) x7) 0 :=
        readAt_strip arg17.view arg17.view.junk [⟨Rect.unit (s := S520x2816) ![6, 0] S2x2816.size inb_S520x2816_S2x2816_6_0, k0_pay3 x3⟩] (k0_pay3 x3) (k0_pay6 (k0_pay5 x0 x1 x4 x2 x5 x6) x7) (carries_cons _ _ _ _ _) 0 inb_S520x2816_S512x2816_6_0 inb_S520x2816_S512x2816_8_0 rfl
      have l1 : arg17.view.readCov [⟨Rect.unit (s := S520x2816) ![8, 0] S512x2816.size inb_S520x2816_S512x2816_8_0, k0_pay6 (k0_pay5 x0 x1 x4 x2 x5 x6) x7⟩, ⟨Rect.unit (s := S520x2816) ![6, 0] S2x2816.size inb_S520x2816_S2x2816_6_0, k0_pay3 x3⟩] (Rect.unit (s := S520x2816) ![7, 0] S512x2816.size inb_S520x2816_S512x2816_7_0).toLoadRect = strip (k0_pay3 x3) (k0_pay6 (k0_pay5 x0 x1 x4 x2 x5 x6) x7) 1 :=
        readAt_strip arg17.view arg17.view.junk [⟨Rect.unit (s := S520x2816) ![6, 0] S2x2816.size inb_S520x2816_S2x2816_6_0, k0_pay3 x3⟩] (k0_pay3 x3) (k0_pay6 (k0_pay5 x0 x1 x4 x2 x5 x6) x7) (carries_cons _ _ _ _ _) 1 inb_S520x2816_S512x2816_7_0 inb_S520x2816_S512x2816_8_0 rfl
      have l2 : arg17.view.readCov [⟨Rect.unit (s := S520x2816) ![8, 0] S512x2816.size inb_S520x2816_S512x2816_8_0, k0_pay6 (k0_pay5 x0 x1 x4 x2 x5 x6) x7⟩, ⟨Rect.unit (s := S520x2816) ![6, 0] S2x2816.size inb_S520x2816_S2x2816_6_0, k0_pay3 x3⟩] (Rect.unit (s := S520x2816) ![8, 0] S512x2816.size inb_S520x2816_S512x2816_8_0).toLoadRect = strip (k0_pay3 x3) (k0_pay6 (k0_pay5 x0 x1 x4 x2 x5 x6) x7) 2 :=
        readAt_strip arg17.view arg17.view.junk [⟨Rect.unit (s := S520x2816) ![6, 0] S2x2816.size inb_S520x2816_S2x2816_6_0, k0_pay3 x3⟩] (k0_pay3 x3) (k0_pay6 (k0_pay5 x0 x1 x4 x2 x5 x6) x7) (carries_cons _ _ _ _ _) 2 inb_S520x2816_S512x2816_8_0 inb_S520x2816_S512x2816_8_0 rfl
      simp only [e0, e1, e2, e3, e4, e5, e6, e7, e8, e10, e11, e12, e90, e91, e92]
      rw [l0, l1, l2]
      rfl
    isplitl [H14]
    · iexists _; isplitr; swap; · iexact H14
      ipureintro
      exact harg16.read_unread _
    iexists _
    isplitr
    swap
    · iexists _; isplitr; swap; · iexact HS
      ipureintro
      rfl
    ipureintro
    sl_unfold_words
    have e0 : View.readAt (Elt F) arg2.view (Rect.unit (s := S1x512x1024) ![0, 0, 0] S1x512x1024.size inb_S1x512x1024_S1x512x1024_0_0_0).toLoadRect (harg2.unread x0) = x0 := (View.readAt_full _ _ _).trans (harg2.read_unread _)
    have e1 : View.readAt (Elt F) arg3.view (Rect.unit (s := S1x512x512) ![0, 0, 0] S1x512x512.size inb_S1x512x512_S1x512x512_0_0_0).toLoadRect (harg3.unread x1) = x1 := (View.readAt_full _ _ _).trans (harg3.read_unread _)
    have e2 : View.readAt (Elt F) arg4.view (Rect.unit (s := S1x512x512) ![0, 0, 0] S1x512x512.size inb_S1x512x512_S1x512x512_0_0_0).toLoadRect (harg4.unread x2) = x2 := (View.readAt_full _ _ _).trans (harg4.read_unread _)
    have e3 : View.readAt (Elt F) arg5.view (Rect.unit (s := S1x2x2816) ![0, 0, 0] S1x2x2816.size inb_S1x2x2816_S1x2x2816_0_0_0).toLoadRect (harg5.unread x3) = x3 := (View.readAt_full _ _ _).trans (harg5.read_unread _)
    have e4 : View.readAt (Elt F) arg6.view (Rect.unit (s := S512x1024) ![0, 0] S512x1024.size inb_S512x1024_S512x1024_0_0).toLoadRect (harg6.unread x4) = x4 := (View.readAt_full _ _ _).trans (harg6.read_unread _)
    have e5 : View.readAt (Elt F) arg7.view (Rect.unit (s := S512x1024) ![0, 0] S512x1024.size inb_S512x1024_S512x1024_0_0).toLoadRect (harg7.unread x5) = x5 := (View.readAt_full _ _ _).trans (harg7.read_unread _)
    have e6 : View.readAt (Elt F) arg8.view (Rect.unit (s := S1x1024) ![0, 0] S1x1024.size inb_S1x1024_S1x1024_0_0).toLoadRect (harg8.unread x6) = x6 := (View.readAt_full _ _ _).trans (harg8.read_unread _)
    have e7 : View.readAt (Elt F) arg9.view (Rect.unit (s := S1024x2816) ![0, 0] S1024x2816.size inb_S1024x2816_S1024x2816_0_0).toLoadRect (harg9.unread x7) = x7 := (View.readAt_full _ _ _).trans (harg9.read_unread _)
    have ll : arg17.view.readCov [⟨Rect.unit (s := S520x2816) ![8, 0] S512x2816.size inb_S520x2816_S512x2816_8_0, k0_pay6 (k0_pay5 x0 x1 x4 x2 x5 x6) x7⟩, ⟨Rect.unit (s := S520x2816) ![6, 0] S2x2816.size inb_S520x2816_S2x2816_6_0, k0_pay3 x3⟩] (Rect.unit (s := S520x2816) ![518, 0] S2x2816.size inb_S520x2816_S2x2816_518_0).toLoadRect = last2 (k0_pay6 (k0_pay5 x0 x1 x4 x2 x5 x6) x7) :=
        readAt_last2 arg17.view arg17.view.junk [⟨Rect.unit (s := S520x2816) ![6, 0] S2x2816.size inb_S520x2816_S2x2816_6_0, k0_pay3 x3⟩] (k0_pay6 (k0_pay5 x0 x1 x4 x2 x5 x6) x7) inb_S520x2816_S2x2816_518_0 inb_S520x2816_S512x2816_8_0
    simp only [e0, e1, e2, e3, e4, e5, e6, e7]
    rw [ll, pay8_eq]
    exact carries_cons _ _ _ _ _

end Cert.FfnIdeal.Value

end
-- ==== Proof.Ffn.RunB.lean ====
module

public import proofs.«01_k».proof.Proof.Ffn.Conv

@[expose] public section

set_option maxRecDepth 16384

noncomputable section

namespace Cert.FfnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a middle step: the two rows before are the ones the step before left. -/
theorem run_B (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x2x2816 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S3x2816 .f32) (harg11 : arg11.IsWhole) (arg12 : Memref sig .tc .vmem S1x2816 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x512x1024 .f32) (harg15 : arg15.IsWhole) (arg16 : Memref sig .tc .vmem S1x2x2816 .f32) (harg16 : arg16.IsWhole) (arg17 : Memref sig .tc .vmem S520x2816 .f32) (harg17 : arg17.IsWhole) (hc0 : ¬cond0_0 i) (hc1 : ¬cond0_1 i)
    (x0 : Vec F S1x512x1024 .f32) (x1 : Vec F S1x512x512 .bf16) (x2 : Vec F S1x512x512 .bf16) (x3 : Vec F S1x2x2816 .f32) (x4 : Vec F S512x1024 .bf16) (x5 : Vec F S512x1024 .bf16) (x6 : Vec F S1x1024 .f32) (x7 : Vec F S1024x2816 .bf16) (x8 : Vec F S1024x2816 .bf16) (x9 : Vec F S3x2816 .f32) (x10 : Vec F S1x2816 .f32) (x11 : Vec F S2816x1024 .bf16) (x12 : Vec F S1x1024 .f32) (d14 : Vec F S1x2x2816 .f32) (xs : Vec F S520x2816 .f32) (T : Vec F S2x2816 .f32) (hT : Carries xs T) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare d14 ∗ owns (c : Thread nD τ) arg17 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (yBlk T x0 x1 x2 x4 x5 x6 x7 x8 x9 x10 x11 x12) ∗ owns (c : Thread nD τ) arg16 fullShare d14 ∗ (∃ X, iprop(⌜Carries X (last2 (upBlk x0 x1 x2 x4 x5 x6 x7))⌝ ∗ owns (c : Thread nD τ) arg17 fullShare X))) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_ffn_eq_skeleton]; unfold cc0_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    obtain rfl := harg16.eq_unread hf14; obtain rfl := harg17.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro
      sl_unfold_words
      refine (View.read_writes_full _ _ _ _ _).trans ?_
      have e0 : View.readAt (Elt F) arg2.view (Rect.unit (s := S1x512x1024) ![0, 0, 0] S1x512x1024.size inb_S1x512x1024_S1x512x1024_0_0_0).toLoadRect (harg2.unread x0) = x0 := (View.readAt_full _ _ _).trans (harg2.read_unread _)
      have e1 : View.readAt (Elt F) arg3.view (Rect.unit (s := S1x512x512) ![0, 0, 0] S1x512x512.size inb_S1x512x512_S1x512x512_0_0_0).toLoadRect (harg3.unread x1) = x1 := (View.readAt_full _ _ _).trans (harg3.read_unread _)
      have e2 : View.readAt (Elt F) arg4.view (Rect.unit (s := S1x512x512) ![0, 0, 0] S1x512x512.size inb_S1x512x512_S1x512x512_0_0_0).toLoadRect (harg4.unread x2) = x2 := (View.readAt_full _ _ _).trans (harg4.read_unread _)
      have e4 : View.readAt (Elt F) arg6.view (Rect.unit (s := S512x1024) ![0, 0] S512x1024.size inb_S512x1024_S512x1024_0_0).toLoadRect (harg6.unread x4) = x4 := (View.readAt_full _ _ _).trans (harg6.read_unread _)
      have e5 : View.readAt (Elt F) arg7.view (Rect.unit (s := S512x1024) ![0, 0] S512x1024.size inb_S512x1024_S512x1024_0_0).toLoadRect (harg7.unread x5) = x5 := (View.readAt_full _ _ _).trans (harg7.read_unread _)
      have e6 : View.readAt (Elt F) arg8.view (Rect.unit (s := S1x1024) ![0, 0] S1x1024.size inb_S1x1024_S1x1024_0_0).toLoadRect (harg8.unread x6) = x6 := (View.readAt_full _ _ _).trans (harg8.read_unread _)
      have e7 : View.readAt (Elt F) arg9.view (Rect.unit (s := S1024x2816) ![0, 0] S1024x2816.size inb_S1024x2816_S1024x2816_0_0).toLoadRect (harg9.unread x7) = x7 := (View.readAt_full _ _ _).trans (harg9.read_unread _)
      have e8 : View.readAt (Elt F) arg10.view (Rect.unit (s := S1024x2816) ![0, 0] S1024x2816.size inb_S1024x2816_S1024x2816_0_0).toLoadRect (harg10.unread x8) = x8 := (View.readAt_full _ _ _).trans (harg10.read_unread _)
      have e10 : View.readAt (Elt F) arg12.view (Rect.unit (s := S1x2816) ![0, 0] S1x2816.size inb_S1x2816_S1x2816_0_0).toLoadRect (harg12.unread x10) = x10 := (View.readAt_full _ _ _).trans (harg12.read_unread _)
      have e11 : View.readAt (Elt F) arg13.view (Rect.unit (s := S2816x1024) ![0, 0] S2816x1024.size inb_S2816x1024_S2816x1024_0_0).toLoadRect (harg13.unread x11) = x11 := (View.readAt_full _ _ _).trans (harg13.read_unread _)
      have e12 : View.readAt (Elt F) arg14.view (Rect.unit (s := S1x1024) ![0, 0] S1x1024.size inb_S1x1024_S1x1024_0_0).toLoadRect (harg14.unread x12) = x12 := (View.readAt_full _ _ _).trans (harg14.read_unread _)
      have e90 : View.readAt (Elt F) arg11.view (Rect.unit (s := S3x2816) ![0, 0] S1x2816.size inb_S3x2816_S1x2816_0_0).toLoadRect (harg11.unread x9) = View.ld x9 (Rect.unit (s := S3x2816) ![0, 0] S1x2816.size inb_S3x2816_S1x2816_0_0) := by
        rw [View.readAt_eq_ld, harg11.read_unread]
      have e91 : View.readAt (Elt F) arg11.view (Rect.unit (s := S3x2816) ![1, 0] S1x2816.size inb_S3x2816_S1x2816_1_0).toLoadRect (harg11.unread x9) = View.ld x9 (Rect.unit (s := S3x2816) ![1, 0] S1x2816.size inb_S3x2816_S1x2816_1_0) := by
        rw [View.readAt_eq_ld, harg11.read_unread]
      have e92 : View.readAt (Elt F) arg11.view (Rect.unit (s := S3x2816) ![2, 0] S1x2816.size inb_S3x2816_S1x2816_2_0).toLoadRect (harg11.unread x9) = View.ld x9 (Rect.unit (s := S3x2816) ![2, 0] S1x2816.size inb_S3x2816_S1x2816_2_0) := by
        rw [View.readAt_eq_ld, harg11.read_unread]
      have l0 : View.readAt (Elt F) arg17.view (Rect.unit (s := S520x2816) ![6, 0] S512x2816.size inb_S520x2816_S512x2816_6_0).toLoadRect (arg17.view.writes (Elt F) (harg17.unread xs) [⟨Rect.unit (s := S520x2816) ![8, 0] S512x2816.size inb_S520x2816_S512x2816_8_0, k0_pay6 (k0_pay5 x0 x1 x4 x2 x5 x6) x7⟩]) = strip T (k0_pay6 (k0_pay5 x0 x1 x4 x2 x5 x6) x7) 0 :=
        readAt_strip arg17.view (harg17.unread xs) [] T (k0_pay6 (k0_pay5 x0 x1 x4 x2 x5 x6) x7) (by rw [View.writes_nil, harg17.read_unread]; exact hT) 0 inb_S520x2816_S512x2816_6_0 inb_S520x2816_S512x2816_8_0 rfl
      have l1 : View.readAt (Elt F) arg17.view (Rect.unit (s := S520x2816) ![7, 0] S512x2816.size inb_S520x2816_S512x2816_7_0).toLoadRect (arg17.view.writes (Elt F) (harg17.unread xs) [⟨Rect.unit (s := S520x2816) ![8, 0] S512x2816.size inb_S520x2816_S512x2816_8_0, k0_pay6 (k0_pay5 x0 x1 x4 x2 x5 x6) x7⟩]) = strip T (k0_pay6 (k0_pay5 x0 x1 x4 x2 x5 x6) x7) 1 :=
        readAt_strip arg17.view (harg17.unread xs) [] T (k0_pay6 (k0_pay5 x0 x1 x4 x2 x5 x6) x7) (by rw [View.writes_nil, harg17.read_unread]; exact hT) 1 inb_S520x2816_S512x2816_7_0 inb_S520x2816_S512x2816_8_0 rfl
      have l2 : arg17.view.readCov [⟨Rect.unit (s := S520x2816) ![8, 0] S512x2816.size inb_S520x2816_S512x2816_8_0, k0_pay6 (k0_pay5 x0 x1 x4 x2 x5 x6) x7⟩] (Rect.unit (s := S520x2816) ![8, 0] S512x2816.size inb_S520x2816_S512x2816_8_0).toLoadRect = strip T (k0_pay6 (k0_pay5 x0 x1 x4 x2 x5 x6) x7) 2 :=
        readAt_strip_two arg17.view arg17.view.junk [] T (k0_pay6 (k0_pay5 x0 x1 x4 x2 x5 x6) x7) inb_S520x2816_S512x2816_8_0
      simp only [e0, e1, e2, e4, e5, e6, e7, e8, e10, e11, e12, e90, e91, e92]
      rw [l0, l1, l2]
      rfl
    isplitl [H14]
    · iexists _; isplitr; swap; · iexact H14
      ipureintro
      exact harg16.read_unread _
    iexists _
    isplitr
    swap
    · iexists _; isplitr; swap; · iexact HS
      ipureintro
      rfl
    ipureintro
    sl_unfold_words
    have e0 : View.readAt (Elt F) arg2.view (Rect.unit (s := S1x512x1024) ![0, 0, 0] S1x512x1024.size inb_S1x512x1024_S1x512x1024_0_0_0).toLoadRect (harg2.unread x0) = x0 := (View.readAt_full _ _ _).trans (harg2.read_unread _)
    have e1 : View.readAt (Elt F) arg3.view (Rect.unit (s := S1x512x512) ![0, 0, 0] S1x512x512.size inb_S1x512x512_S1x512x512_0_0_0).toLoadRect (harg3.unread x1) = x1 := (View.readAt_full _ _ _).trans (harg3.read_unread _)
    have e2 : View.readAt (Elt F) arg4.view (Rect.unit (s := S1x512x512) ![0, 0, 0] S1x512x512.size inb_S1x512x512_S1x512x512_0_0_0).toLoadRect (harg4.unread x2) = x2 := (View.readAt_full _ _ _).trans (harg4.read_unread _)
    have e4 : View.readAt (Elt F) arg6.view (Rect.unit (s := S512x1024) ![0, 0] S512x1024.size inb_S512x1024_S512x1024_0_0).toLoadRect (harg6.unread x4) = x4 := (View.readAt_full _ _ _).trans (harg6.read_unread _)
    have e5 : View.readAt (Elt F) arg7.view (Rect.unit (s := S512x1024) ![0, 0] S512x1024.size inb_S512x1024_S512x1024_0_0).toLoadRect (harg7.unread x5) = x5 := (View.readAt_full _ _ _).trans (harg7.read_unread _)
    have e6 : View.readAt (Elt F) arg8.view (Rect.unit (s := S1x1024) ![0, 0] S1x1024.size inb_S1x1024_S1x1024_0_0).toLoadRect (harg8.unread x6) = x6 := (View.readAt_full _ _ _).trans (harg8.read_unread _)
    have e7 : View.readAt (Elt F) arg9.view (Rect.unit (s := S1024x2816) ![0, 0] S1024x2816.size inb_S1024x2816_S1024x2816_0_0).toLoadRect (harg9.unread x7) = x7 := (View.readAt_full _ _ _).trans (harg9.read_unread _)
    have ll : arg17.view.readCov [⟨Rect.unit (s := S520x2816) ![8, 0] S512x2816.size inb_S520x2816_S512x2816_8_0, k0_pay6 (k0_pay5 x0 x1 x4 x2 x5 x6) x7⟩] (Rect.unit (s := S520x2816) ![518, 0] S2x2816.size inb_S520x2816_S2x2816_518_0).toLoadRect = last2 (k0_pay6 (k0_pay5 x0 x1 x4 x2 x5 x6) x7) :=
        readAt_last2 arg17.view arg17.view.junk [] (k0_pay6 (k0_pay5 x0 x1 x4 x2 x5 x6) x7) inb_S520x2816_S2x2816_518_0 inb_S520x2816_S512x2816_8_0
    simp only [e0, e1, e2, e4, e5, e6, e7]
    rw [ll, pay8_eq]
    exact carries_cons _ _ _ _ _

end Cert.FfnIdeal.Value

end
-- ==== Proof.Ffn.RunC.lean ====
module

public import proofs.«01_k».proof.Proof.Ffn.Conv

@[expose] public section

set_option maxRecDepth 16384

noncomputable section

namespace Cert.FfnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the last step of a sequence, which also writes the last two rows out. -/
theorem run_C (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x2x2816 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S3x2816 .f32) (harg11 : arg11.IsWhole) (arg12 : Memref sig .tc .vmem S1x2816 .f32) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S1x512x1024 .f32) (harg15 : arg15.IsWhole) (arg16 : Memref sig .tc .vmem S1x2x2816 .f32) (harg16 : arg16.IsWhole) (arg17 : Memref sig .tc .vmem S520x2816 .f32) (harg17 : arg17.IsWhole) (hc0 : ¬cond0_0 i) (hc1 : cond0_1 i)
    (x0 : Vec F S1x512x1024 .f32) (x1 : Vec F S1x512x512 .bf16) (x2 : Vec F S1x512x512 .bf16) (x3 : Vec F S1x2x2816 .f32) (x4 : Vec F S512x1024 .bf16) (x5 : Vec F S512x1024 .bf16) (x6 : Vec F S1x1024 .f32) (x7 : Vec F S1024x2816 .bf16) (x8 : Vec F S1024x2816 .bf16) (x9 : Vec F S3x2816 .f32) (x10 : Vec F S1x2816 .f32) (x11 : Vec F S2816x1024 .bf16) (x12 : Vec F S1x1024 .f32) (d14 : Vec F S1x2x2816 .f32) (xs : Vec F S520x2816 .f32) (T : Vec F S2x2816 .f32) (hT : Carries xs T) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare d14 ∗ owns (c : Thread nD τ) arg17 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (yBlk T x0 x1 x2 x4 x5 x6 x7 x8 x9 x10 x11 x12) ∗ owns (c : Thread nD τ) arg16 fullShare (k0_pay2 (last2 (upBlk x0 x1 x2 x4 x5 x6 x7))) ∗ (∃ X, iprop(⌜Carries X (last2 (upBlk x0 x1 x2 x4 x5 x6 x7))⌝ ∗ owns (c : Thread nD τ) arg17 fullShare X))) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_ffn_eq_skeleton]; unfold cc0_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    obtain rfl := harg16.eq_unread hf14; obtain rfl := harg17.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro
      sl_unfold_words
      refine (View.read_writes_full _ _ _ _ _).trans ?_
      have e0 : View.readAt (Elt F) arg2.view (Rect.unit (s := S1x512x1024) ![0, 0, 0] S1x512x1024.size inb_S1x512x1024_S1x512x1024_0_0_0).toLoadRect (harg2.unread x0) = x0 := (View.readAt_full _ _ _).trans (harg2.read_unread _)
      have e1 : View.readAt (Elt F) arg3.view (Rect.unit (s := S1x512x512) ![0, 0, 0] S1x512x512.size inb_S1x512x512_S1x512x512_0_0_0).toLoadRect (harg3.unread x1) = x1 := (View.readAt_full _ _ _).trans (harg3.read_unread _)
      have e2 : View.readAt (Elt F) arg4.view (Rect.unit (s := S1x512x512) ![0, 0, 0] S1x512x512.size inb_S1x512x512_S1x512x512_0_0_0).toLoadRect (harg4.unread x2) = x2 := (View.readAt_full _ _ _).trans (harg4.read_unread _)
      have e4 : View.readAt (Elt F) arg6.view (Rect.unit (s := S512x1024) ![0, 0] S512x1024.size inb_S512x1024_S512x1024_0_0).toLoadRect (harg6.unread x4) = x4 := (View.readAt_full _ _ _).trans (harg6.read_unread _)
      have e5 : View.readAt (Elt F) arg7.view (Rect.unit (s := S512x1024) ![0, 0] S512x1024.size inb_S512x1024_S512x1024_0_0).toLoadRect (harg7.unread x5) = x5 := (View.readAt_full _ _ _).trans (harg7.read_unread _)
      have e6 : View.readAt (Elt F) arg8.view (Rect.unit (s := S1x1024) ![0, 0] S1x1024.size inb_S1x1024_S1x1024_0_0).toLoadRect (harg8.unread x6) = x6 := (View.readAt_full _ _ _).trans (harg8.read_unread _)
      have e7 : View.readAt (Elt F) arg9.view (Rect.unit (s := S1024x2816) ![0, 0] S1024x2816.size inb_S1024x2816_S1024x2816_0_0).toLoadRect (harg9.unread x7) = x7 := (View.readAt_full _ _ _).trans (harg9.read_unread _)
      have e8 : View.readAt (Elt F) arg10.view (Rect.unit (s := S1024x2816) ![0, 0] S1024x2816.size inb_S1024x2816_S1024x2816_0_0).toLoadRect (harg10.unread x8) = x8 := (View.readAt_full _ _ _).trans (harg10.read_unread _)
      have e10 : View.readAt (Elt F) arg12.view (Rect.unit (s := S1x2816) ![0, 0] S1x2816.size inb_S1x2816_S1x2816_0_0).toLoadRect (harg12.unread x10) = x10 := (View.readAt_full _ _ _).trans (harg12.read_unread _)
      have e11 : View.readAt (Elt F) arg13.view (Rect.unit (s := S2816x1024) ![0, 0] S2816x1024.size inb_S2816x1024_S2816x1024_0_0).toLoadRect (harg13.unread x11) = x11 := (View.readAt_full _ _ _).trans (harg13.read_unread _)
      have e12 : View.readAt (Elt F) arg14.view (Rect.unit (s := S1x1024) ![0, 0] S1x1024.size inb_S1x1024_S1x1024_0_0).toLoadRect (harg14.unread x12) = x12 := (View.readAt_full _ _ _).trans (harg14.read_unread _)
      have e90 : View.readAt (Elt F) arg11.view (Rect.unit (s := S3x2816) ![0, 0] S1x2816.size inb_S3x2816_S1x2816_0_0).toLoadRect (harg11.unread x9) = View.ld x9 (Rect.unit (s := S3x2816) ![0, 0] S1x2816.size inb_S3x2816_S1x2816_0_0) := by
        rw [View.readAt_eq_ld, harg11.read_unread]
      have e91 : View.readAt (Elt F) arg11.view (Rect.unit (s := S3x2816) ![1, 0] S1x2816.size inb_S3x2816_S1x2816_1_0).toLoadRect (harg11.unread x9) = View.ld x9 (Rect.unit (s := S3x2816) ![1, 0] S1x2816.size inb_S3x2816_S1x2816_1_0) := by
        rw [View.readAt_eq_ld, harg11.read_unread]
      have e92 : View.readAt (Elt F) arg11.view (Rect.unit (s := S3x2816) ![2, 0] S1x2816.size inb_S3x2816_S1x2816_2_0).toLoadRect (harg11.unread x9) = View.ld x9 (Rect.unit (s := S3x2816) ![2, 0] S1x2816.size inb_S3x2816_S1x2816_2_0) := by
        rw [View.readAt_eq_ld, harg11.read_unread]
      have l0 : View.readAt (Elt F) arg17.view (Rect.unit (s := S520x2816) ![6, 0] S512x2816.size inb_S520x2816_S512x2816_6_0).toLoadRect (arg17.view.writes (Elt F) (harg17.unread xs) [⟨Rect.unit (s := S520x2816) ![8, 0] S512x2816.size inb_S520x2816_S512x2816_8_0, k0_pay6 (k0_pay5 x0 x1 x4 x2 x5 x6) x7⟩]) = strip T (k0_pay6 (k0_pay5 x0 x1 x4 x2 x5 x6) x7) 0 :=
        readAt_strip arg17.view (harg17.unread xs) [] T (k0_pay6 (k0_pay5 x0 x1 x4 x2 x5 x6) x7) (by rw [View.writes_nil, harg17.read_unread]; exact hT) 0 inb_S520x2816_S512x2816_6_0 inb_S520x2816_S512x2816_8_0 rfl
      have l1 : View.readAt (Elt F) arg17.view (Rect.unit (s := S520x2816) ![7, 0] S512x2816.size inb_S520x2816_S512x2816_7_0).toLoadRect (arg17.view.writes (Elt F) (harg17.unread xs) [⟨Rect.unit (s := S520x2816) ![8, 0] S512x2816.size inb_S520x2816_S512x2816_8_0, k0_pay6 (k0_pay5 x0 x1 x4 x2 x5 x6) x7⟩]) = strip T (k0_pay6 (k0_pay5 x0 x1 x4 x2 x5 x6) x7) 1 :=
        readAt_strip arg17.view (harg17.unread xs) [] T (k0_pay6 (k0_pay5 x0 x1 x4 x2 x5 x6) x7) (by rw [View.writes_nil, harg17.read_unread]; exact hT) 1 inb_S520x2816_S512x2816_7_0 inb_S520x2816_S512x2816_8_0 rfl
      have l2 : arg17.view.readCov [⟨Rect.unit (s := S520x2816) ![8, 0] S512x2816.size inb_S520x2816_S512x2816_8_0, k0_pay6 (k0_pay5 x0 x1 x4 x2 x5 x6) x7⟩] (Rect.unit (s := S520x2816) ![8, 0] S512x2816.size inb_S520x2816_S512x2816_8_0).toLoadRect = strip T (k0_pay6 (k0_pay5 x0 x1 x4 x2 x5 x6) x7) 2 :=
        readAt_strip_two arg17.view arg17.view.junk [] T (k0_pay6 (k0_pay5 x0 x1 x4 x2 x5 x6) x7) inb_S520x2816_S512x2816_8_0
      simp only [e0, e1, e2, e4, e5, e6, e7, e8, e10, e11, e12, e90, e91, e92]
      rw [l0, l1, l2]
      rfl
    isplitl [H14]
    · iexists _; isplitr; swap; · iexact H14
      ipureintro
      sl_unfold_words
      refine (View.read_writes_full _ _ _ _ _).trans ?_
      have e0 : View.readAt (Elt F) arg2.view (Rect.unit (s := S1x512x1024) ![0, 0, 0] S1x512x1024.size inb_S1x512x1024_S1x512x1024_0_0_0).toLoadRect (harg2.unread x0) = x0 := (View.readAt_full _ _ _).trans (harg2.read_unread _)
      have e1 : View.readAt (Elt F) arg3.view (Rect.unit (s := S1x512x512) ![0, 0, 0] S1x512x512.size inb_S1x512x512_S1x512x512_0_0_0).toLoadRect (harg3.unread x1) = x1 := (View.readAt_full _ _ _).trans (harg3.read_unread _)
      have e2 : View.readAt (Elt F) arg4.view (Rect.unit (s := S1x512x512) ![0, 0, 0] S1x512x512.size inb_S1x512x512_S1x512x512_0_0_0).toLoadRect (harg4.unread x2) = x2 := (View.readAt_full _ _ _).trans (harg4.read_unread _)
      have e4 : View.readAt (Elt F) arg6.view (Rect.unit (s := S512x1024) ![0, 0] S512x1024.size inb_S512x1024_S512x1024_0_0).toLoadRect (harg6.unread x4) = x4 := (View.readAt_full _ _ _).trans (harg6.read_unread _)
      have e5 : View.readAt (Elt F) arg7.view (Rect.unit (s := S512x1024) ![0, 0] S512x1024.size inb_S512x1024_S512x1024_0_0).toLoadRect (harg7.unread x5) = x5 := (View.readAt_full _ _ _).trans (harg7.read_unread _)
      have e6 : View.readAt (Elt F) arg8.view (Rect.unit (s := S1x1024) ![0, 0] S1x1024.size inb_S1x1024_S1x1024_0_0).toLoadRect (harg8.unread x6) = x6 := (View.readAt_full _ _ _).trans (harg8.read_unread _)
      have e7 : View.readAt (Elt F) arg9.view (Rect.unit (s := S1024x2816) ![0, 0] S1024x2816.size inb_S1024x2816_S1024x2816_0_0).toLoadRect (harg9.unread x7) = x7 := (View.readAt_full _ _ _).trans (harg9.read_unread _)
      have ll : arg17.view.readCov [⟨Rect.unit (s := S520x2816) ![8, 0] S512x2816.size inb_S520x2816_S512x2816_8_0, k0_pay6 (k0_pay5 x0 x1 x4 x2 x5 x6) x7⟩] (Rect.unit (s := S520x2816) ![518, 0] S2x2816.size inb_S520x2816_S2x2816_518_0).toLoadRect = last2 (k0_pay6 (k0_pay5 x0 x1 x4 x2 x5 x6) x7) :=
        readAt_last2 arg17.view arg17.view.junk [] (k0_pay6 (k0_pay5 x0 x1 x4 x2 x5 x6) x7) inb_S520x2816_S2x2816_518_0 inb_S520x2816_S512x2816_8_0
      simp only [e0, e1, e2, e4, e5, e6, e7]
      rw [ll]
      rfl
    iexists _
    isplitr
    swap
    · iexists _; isplitr; swap; · iexact HS
      ipureintro
      rfl
    ipureintro
    sl_unfold_words
    have e0 : View.readAt (Elt F) arg2.view (Rect.unit (s := S1x512x1024) ![0, 0, 0] S1x512x1024.size inb_S1x512x1024_S1x512x1024_0_0_0).toLoadRect (harg2.unread x0) = x0 := (View.readAt_full _ _ _).trans (harg2.read_unread _)
    have e1 : View.readAt (Elt F) arg3.view (Rect.unit (s := S1x512x512) ![0, 0, 0] S1x512x512.size inb_S1x512x512_S1x512x512_0_0_0).toLoadRect (harg3.unread x1) = x1 := (View.readAt_full _ _ _).trans (harg3.read_unread _)
    have e2 : View.readAt (Elt F) arg4.view (Rect.unit (s := S1x512x512) ![0, 0, 0] S1x512x512.size inb_S1x512x512_S1x512x512_0_0_0).toLoadRect (harg4.unread x2) = x2 := (View.readAt_full _ _ _).trans (harg4.read_unread _)
    have e4 : View.readAt (Elt F) arg6.view (Rect.unit (s := S512x1024) ![0, 0] S512x1024.size inb_S512x1024_S512x1024_0_0).toLoadRect (harg6.unread x4) = x4 := (View.readAt_full _ _ _).trans (harg6.read_unread _)
    have e5 : View.readAt (Elt F) arg7.view (Rect.unit (s := S512x1024) ![0, 0] S512x1024.size inb_S512x1024_S512x1024_0_0).toLoadRect (harg7.unread x5) = x5 := (View.readAt_full _ _ _).trans (harg7.read_unread _)
    have e6 : View.readAt (Elt F) arg8.view (Rect.unit (s := S1x1024) ![0, 0] S1x1024.size inb_S1x1024_S1x1024_0_0).toLoadRect (harg8.unread x6) = x6 := (View.readAt_full _ _ _).trans (harg8.read_unread _)
    have e7 : View.readAt (Elt F) arg9.view (Rect.unit (s := S1024x2816) ![0, 0] S1024x2816.size inb_S1024x2816_S1024x2816_0_0).toLoadRect (harg9.unread x7) = x7 := (View.readAt_full _ _ _).trans (harg9.read_unread _)
    have ll : arg17.view.readCov [⟨Rect.unit (s := S520x2816) ![8, 0] S512x2816.size inb_S520x2816_S512x2816_8_0, k0_pay6 (k0_pay5 x0 x1 x4 x2 x5 x6) x7⟩] (Rect.unit (s := S520x2816) ![518, 0] S2x2816.size inb_S520x2816_S2x2816_518_0).toLoadRect = last2 (k0_pay6 (k0_pay5 x0 x1 x4 x2 x5 x6) x7) :=
        readAt_last2 arg17.view arg17.view.junk [] (k0_pay6 (k0_pay5 x0 x1 x4 x2 x5 x6) x7) inb_S520x2816_S2x2816_518_0 inb_S520x2816_S512x2816_8_0
    simp only [e0, e1, e2, e4, e5, e6, e7]
    rw [ll, pay8_eq]
    exact carries_cons _ _ _ _ _

end Cert.FfnIdeal.Value

end
-- ==== Proof.Ffn.Frame.lean ====
/- The launch of the feed-forward call: what each step leaves in its blocks and in the scratch it carries, the body
   obligation at every step, and the run of the whole launch. -/
module

public import proofs.«01_k».proof.Proof.Ffn.RunA
public import proofs.«01_k».proof.Proof.Ffn.RunB
public import proofs.«01_k».proof.Proof.Ffn.RunC

@[expose] public section

set_option maxRecDepth 16384

noncomputable section

namespace Cert.FfnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The up-projected rows of step `t`. -/
def upAt (c : Dev nD) (t : Fin cfg0.N) : Vec F S512x2816 .f32 :=
  upBlk (iblk m c 0 t) (iblk m c 1 t) (iblk m c 2 t) (iblk m c 4 t) (iblk m c 5 t) (iblk m c 6 t) (iblk m c 7 t)

/-- The two rows before step `t`: the call's own at the start of a sequence, else the last two of the step before. -/
def tailAt (c : Dev nD) (t : Fin cfg0.N) : Vec F S2x2816 .f32 :=
  if t.val % 8 = 0 then k0_pay3 (iblk m c 3 t) else last2 (upAt m c ⟨t.val - 1, lt_of_le_of_lt (Nat.sub_le _ _) t.isLt⟩)

/-- The rows of results of step `t`. -/
def yAt (c : Dev nD) (t : Fin cfg0.N) : Vec F S1x512x1024 .f32 :=
  yBlk (tailAt m c t) (iblk m c 0 t) (iblk m c 1 t) (iblk m c 2 t) (iblk m c 4 t) (iblk m c 5 t) (iblk m c 6 t) (iblk m c 7 t) (iblk m c 8 t) (iblk m c 9 t) (iblk m c 10 t) (iblk m c 11 t) (iblk m c 12 t)

/-- What the scratch holds after `k` steps: in its two rows the last up-projected rows of step `k - 1`. -/
def carried (c : Dev nD) (k : ℕ) (X : Vec F S520x2816 .f32) : Prop :=
  ∀ s : Fin cfg0.N, s.val + 1 = k → Carries X (last2 (upAt m c s))

/-- The proof data of the launch. -/
def dats (_ : Fin 1) (c : Dev nD) : Dat τ (Elt F) Unit ℕ (UR sig nD τ) ℕ cfg0 c where
  A w := V m c (Pipeline.arrRef spec0 w)
  after
    | ⟨0, _⟩ => fun t => iblk m c 0 t
    | ⟨1, _⟩ => fun t => iblk m c 1 t
    | ⟨2, _⟩ => fun t => iblk m c 2 t
    | ⟨3, _⟩ => fun t => iblk m c 3 t
    | ⟨4, _⟩ => fun t => iblk m c 4 t
    | ⟨5, _⟩ => fun t => iblk m c 5 t
    | ⟨6, _⟩ => fun t => iblk m c 6 t
    | ⟨7, _⟩ => fun t => iblk m c 7 t
    | ⟨8, _⟩ => fun t => iblk m c 8 t
    | ⟨9, _⟩ => fun t => iblk m c 9 t
    | ⟨10, _⟩ => fun t => iblk m c 10 t
    | ⟨11, _⟩ => fun t => iblk m c 11 t
    | ⟨12, _⟩ => fun t => iblk m c 12 t
    | ⟨13, _⟩ => fun t => yAt m c t
    | ⟨14, _⟩ => fun t => k0_pay2 (last2 (upAt m c t))
  Φ k := iprop((∃ X, iprop(⌜carried m c k.val X⌝ ∗ owns (c : Thread nD τ) scM0_0 fullShare X)) ∗ (∃ r, prngReg c r))
  q _ := fullShare
  owed _ := 0

/-- The arrays are those the launch finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
/-- Every step leaves its rows of results in the first output's block. -/
theorem after0_13 (c : Dev nD) (t : Fin cfg0.N) : (dats m 0 c).after 13 t = yAt m c t := by dsimp only [dats]
/-- A sequence's last step leaves its last two up-projected rows in the second output's block. -/
theorem after0_14 (c : Dev nD) (t : Fin cfg0.N) : (dats m 0 c).after 14 t = k0_pay2 (last2 (upAt m c t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- The invariant, spelled out. -/
theorem Phi_eq (c : Dev nD) (k : Fin (cfg0.N + 1)) : (dats m 0 c).Φ k
    = iprop((∃ X, iprop(⌜carried m c k.val X⌝ ∗ owns (c : Thread nD τ) scM0_0 fullShare X)) ∗ (∃ r, prngReg c r)) := by
  dsimp only [dats]

/-- The first output is stored at every step. -/
theorem liveAt0_13 : ∀ t : Fin cfg0.N, cfg0.idle 13 (grid0.coords t) = false := fun _ => rfl

/-- The second output is stored at a sequence's last step, -/
theorem liveAt0_14 (t : Fin cfg0.N) (h : t.val % 8 = 7) : cfg0.idle 14 (grid0.coords t) = false := by
  show (!(k0_cond2 (grid0.coords t) == 1#1)) = false
  rw [(hcond0_1 t).mpr h]; rfl

/-- and at no other. -/
theorem idleAt0_14 (t : Fin cfg0.N) (h : ¬t.val % 8 = 7) : cfg0.idle 14 (grid0.coords t) = true := by
  show (!(k0_cond2 (grid0.coords t) == 1#1)) = true
  have := mt (hcond0_1 t).mp h
  simpa [cond0_1] using this

/-- Elsewhere its block isn't written back. -/
theorem noflush0_14 (t : Fin cfg0.N) (h : ¬t.val % 8 = 7) : (cfg0.win 14).flush t = false :=
  Bool.eq_false_iff.mpr (mt (flush0_14 t).mp h)

/-- What the scratch holds after step `t`. -/
theorem carried_succ (c : Dev nD) (t : Fin cfg0.N) (X : Vec F S520x2816 .f32) (h : Carries X (last2 (upAt m c t))) :
    carried m c t.succ.val X := by
  intro s hs
  have e : s = t := Fin.ext (by simpa using hs)
  subst e; exact h

/-- What the scratch holds before a step inside a sequence. -/
theorem carried_tail (c : Dev nD) (t : Fin cfg0.N) (X : Vec F S520x2816 .f32) (h : carried m c t.castSucc.val X)
    (h0 : ¬t.val % 8 = 0) : Carries X (tailAt m c t) := by
  unfold tailAt
  rw [if_neg h0]
  exact h ⟨t.val - 1, lt_of_le_of_lt (Nat.sub_le _ _) t.isLt⟩ (show t.val - 1 + 1 = t.val by omega)

/-! ## The body obligation -/

/-- What the body is called with at step `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 4800000 in
/-- The body at any step: at the start of a sequence the carried rows come from the call's input, inside it from the
    scratch; at the end of a sequence the last two rows are also stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [Phi_eq, Phi_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  by_cases h0 : t.val % 8 = 0
  · have h1 : ¬t.val % 8 = 7 := by omega
    rw [(dats m 0 c).leavesExact_idle 14 t (idleAt0_14 t h1) (noflush0_14 t h1)]
    rw [show yAt m c t = yBlk (k0_pay3 (iblk m c 3 t)) (iblk m c 0 t) (iblk m c 1 t) (iblk m c 2 t) (iblk m c 4 t) (iblk m c 5 t) (iblk m c 6 t) (iblk m c 7 t) (iblk m c 8 t) (iblk m c 9 t) (iblk m c 10 t) (iblk m c 11 t) (iblk m c 12 t) from by
      unfold yAt tailAt; rw [if_pos h0]]
    iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((run_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 14 t d14) X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [HS0]; · iexact HS0
    iintro ⟨H0, H1, H2, H3, H4, H5, H6, H7, H8, H9, H10, H11, H12, H13, H14, ⟨%Y, %hY, HS0⟩⟩
    isplitl [HS0 Hg]
    · isplitl [HS0]
      · iexists Y; isplitr
        · ipureintro; exact carried_succ m c t Y hY
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14
  by_cases h1 : t.val % 8 = 7
  · rw [show (dats m 0 c).leavesExact 14 t = owns (c : Thread nD τ) (ms0_14 t) fullShare ((dats m 0 c).after 14 t) from by
      unfold Dat.leavesExact; rw [liveAt0_14 t h1], after0_14]
    iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((run_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 14 t d14) X (tailAt m c t) (carried_tail m c t X hX h0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [HS0]; · iexact HS0
    iintro ⟨H0, H1, H2, H3, H4, H5, H6, H7, H8, H9, H10, H11, H12, H13, H14, ⟨%Y, %hY, HS0⟩⟩
    isplitl [HS0 Hg]
    · isplitl [HS0]
      · iexists Y; isplitr
        · ipureintro; exact carried_succ m c t Y hY
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [(dats m 0 c).leavesExact_idle 14 t (idleAt0_14 t h1) (noflush0_14 t h1)]
    iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((run_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 14 t d14) X (tailAt m c t) (carried_tail m c t X hX h0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [HS0]; · iexact HS0
    iintro ⟨H0, H1, H2, H3, H4, H5, H6, H7, H8, H9, H10, H11, H12, H13, H14, ⟨%Y, %hY, HS0⟩⟩
    isplitl [HS0 Hg]
    · isplitl [HS0]
      · iexists Y; isplitr
        · ipureintro; exact carried_succ m c t Y hY
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14

/-- The body table's row at step `t`. -/
theorem row0 (t : Fin cfg0.N) :
    defs₀ (F := F) .tc cfg0.body (cfg0.bodyArgs t (cfg0.slots t)) = bodyAt0 t := by
  unfold defs₀; rw [Defs.onTc_tc]

/-- The body obligation at every step. -/
theorem body_obligation (c : Dev nD) : BodyObligation (dats (F := F) m 0 c) (defs₀ (F := F)) Variants.none () Set.univ := fun t => by
  rw [bigSep_W0, bigSep_W0, row0]
  exact triple_restated (sound_body m c t) rfl .rfl fun _ => .rfl

/-! ## The run -/

/-- The launch starts with the scratch at anything. -/
theorem enters (c : Dev nD) : (Pipeline.ΦA spec0 c : sProp 𝕄) ⊢ (dats m 0 c).Φ 0 := by
  rw [Phi_eq, PhiA0_eq]
  iintro ⟨⟨%d, H⟩, Hg⟩
  isplitl [H]
  · iexists d; isplitr
    · ipureintro; intro s hs; exact absurd hs (Nat.succ_ne_zero _)
    iexact H
  iexact Hg

/-- The launch ends with the scratch at something. -/
theorem leaves (c : Dev nD) : (dats m 0 c).Φ (Fin.last cfg0.N) ⊢ (Pipeline.ΦA spec0 c : sProp 𝕄) := by
  rw [Phi_eq, PhiA0_eq]
  iintro ⟨⟨%X, %hX, H⟩, Hg⟩
  isplitl [H]
  · iexists X; iexact H
  iexact Hg

set_option backward.isDefEq.respectTransparency.types false in
/-- The launch runs to the end, each array at what the steps make of it, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := leaves m)

/-- The same without the semaphores. -/
theorem run_main : θ_run defs (onTc (τ := τ) (main (F := F))) (s₀ m ρ) (Pipeline.FramePost cfgs (dats m) 0 (V m)) :=
  (θ_run defs _ _).mono (fun _ h => h.1) (run_quiescent m ρ)

end Cert.FfnIdeal.Value

end
-- ==== Proof.Ffn.Spec.lean ====
/- What the feed-forward half of the layer computes, index by index: the attention's and the recurrence's outputs are
   projected and added to the token, the sum is normalised, projected up, convolved over time, gated and projected down,
   added again and normalised. -/
module

public import proofs.«01_k».proof.Proof.Gen.FfnIdeal
public import Idealize.ShloMosaic.Lib.Pointwise

@[expose] public section

noncomputable section

namespace Cert.FfnSpec

open Cert.FfnIdeal Idealize.ShloMosaic

/-- The arguments: tokens, attention, recurrence, the convolution's carried rows, and the weights. -/
structure Args where
  /-- the tokens -/
  X : S8x4096x1024.Idx → EReal
  /-- the attention's output, its heads in the key-grouped order -/
  A : S8x4096x512.Idx → EReal
  /-- the recurrence's output -/
  R : S8x4096x512.Idx → EReal
  /-- the two up-projected rows before the first token -/
  C : S8x2x2816.Idx → EReal
  /-- the output projection -/
  W : S1024x1024.Idx → EReal
  /-- the scale of the first norm -/
  G : S1024.Idx → EReal
  /-- the up projection -/
  U : S1024x2816.Idx → EReal
  /-- the gate's projection -/
  H : S1024x2816.Idx → EReal
  /-- the convolution's weights -/
  K : S3x2816.Idx → EReal
  /-- the convolution's bias -/
  B : S2816.Idx → EReal
  /-- the down projection -/
  D : S2816x1024.Idx → EReal
  /-- the scale of the last norm -/
  L : S1024.Idx → EReal

/-- Where the key-grouped order of heads takes head `h` from: head `h / 2` of key group `h % 2`. -/
def src (h : ℕ) : ℕ := h % 2 * 4 + h / 2

/-- The row of the output projection that meets column `j` of the attention's output. -/
def meets (j : Fin 512) : Fin 1024 := ⟨src (j.val / 64) * 64 + j.val % 64, by unfold src; omega⟩

/-- The row of the output projection that meets column `j` of the recurrence's output. -/
def below (j : Fin 512) : Fin 1024 := ⟨512 + j.val, by omega⟩

variable (a : Args) (b : Fin 8) (s : Fin 4096)

/-- The token after the mixers' outputs are projected and added. -/
def mix (k : Fin 1024) : EReal :=
  a.X (ix3 b s k) + ∑ j, a.A (ix3 b s j) * a.W (ix2 (meets j) k) + ∑ j, a.R (ix3 b s j) * a.W (ix2 (below j) k)

/-- A row divided by its root mean square and scaled. -/
def norm (v : Fin 1024 → EReal) (g : S1024.Idx → EReal) (k : Fin 1024) : EReal :=
  v k * Ideal.rsqrt (Ideal.div (∑ x, v x * v x) (Ideal.ofBits FTy.f32 1149239296#32) + Ideal.ofBits FTy.f32 897988541#32) * g (ix1 k)

/-- The normalised token. -/
def hid (k : Fin 1024) : EReal := norm (mix a b s) a.G k

/-- The token projected up. -/
def up (j : Fin 2816) : EReal := ∑ k, hid a b s k * a.U (ix2 k j)

/-- The up-projected rows with the two carried rows before them. -/
def strip (n : ℕ) (hn : n < 4098) (j : Fin 2816) : EReal :=
  if h : n < 2 then a.C (ix3 b ⟨n, h⟩ j) else up a b ⟨n - 2, by omega⟩ j

/-- The causal convolution of width three over time. -/
def conv (j : Fin 2816) : EReal :=
  a.B (ix1 j) + a.K (ix2 0 j) * strip a b s.val (by omega) j + a.K (ix2 1 j) * strip a b (1 + s.val) (by omega) j
    + a.K (ix2 2 j) * strip a b (2 + s.val) (by omega) j

/-- The smooth rectifier, by its hyperbolic tangent. -/
def gelu (v : EReal) : EReal :=
  v * (Ideal.ofBits FTy.f32 1056964608#32 * (1 +
    Ideal.tanh (Ideal.ofBits FTy.f32 1061962282#32 * (v + Ideal.ofBits FTy.f32 1027024659#32 * (v * v * v)))))

/-- The gated row. -/
def act (j : Fin 2816) : EReal := gelu (conv a b s j) * ∑ k, hid a b s k * a.H (ix2 k j)

/-- The token after the feed-forward block. -/
def out (k : Fin 1024) : EReal := mix a b s k + ∑ j, act a b s j * a.D (ix2 j k)

/-- The layer's result. -/
def y (k : Fin 1024) : EReal := norm (out a b s) a.L k

/-- The up-projected rows carried on: the last two. -/
def tail (n : Fin 2) (j : Fin 2816) : EReal := strip a b (4096 + n.val) (by omega) j

end Cert.FfnSpec
end
-- ==== Proof.Ffn.Blocks.lean ====
/- The blocks of the feed-forward call, and what each payload of a step is, index by index. -/
module

public import proofs.«01_k».proof.Proof.Ffn.Frame
public import proofs.«01_k».proof.Proof.Ffn.Spec
public import Idealize.ShloMosaic.Lib.Pointwise
public import Idealize.ShloMosaic.Lib.Pipeline.ValueKit
public import Idealize.ShloMosaic.Lib.StableHlo
public import Idealize.ShloMosaic.Lib.ValueIdx
public import Idealize.ShloMosaic.Lib.ValueLayout

@[expose] public section

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnSpec (Args)

variable (m : (ℓ : Loc nD τ sig) → Buf (Elt Ideal) ℓ) (ρ : Dev nD → PrngReg)

/-- The kernel's arguments. -/
def args (c : Dev nD) : Args where
  X := m ((c.tc : Thread nD τ).loc main_arg0)
  A := m ((c.tc : Thread nD τ).loc main_arg1)
  R := m ((c.tc : Thread nD τ).loc main_arg2)
  C := m ((c.tc : Thread nD τ).loc main_arg3)
  W := m ((c.tc : Thread nD τ).loc main_arg4)
  G := m ((c.tc : Thread nD τ).loc main_arg5)
  U := m ((c.tc : Thread nD τ).loc main_arg6)
  H := m ((c.tc : Thread nD τ).loc main_arg7)
  K := m ((c.tc : Thread nD τ).loc main_arg8)
  B := m ((c.tc : Thread nD τ).loc main_arg9)
  D := m ((c.tc : Thread nD τ).loc main_arg10)
  L := m ((c.tc : Thread nD τ).loc main_arg11)

/-- The sequence that step `t` works on. -/
def seq (t : Fin cfg0.N) : Fin 8 := ⟨t.val / 8, by have := t.isLt; have : cfg0.N = 64 := N_0; omega⟩

/-- Row `r` of step `t`, as a position of its sequence. -/
def pos (t : Fin cfg0.N) (r : Fin 512) : Fin 4096 := ⟨t.val % 8 * 512 + r.val, by omega⟩

/-- Reading heads through a table of head numbers. -/
theorem gather_rows (x : S8x64x1024.Idx → EReal) (w : IVec S8x1 32) (h : Fin 8) (e : Fin 64) (k : Fin 1024) (n : Fin 8)
    (hn : min (w (ix2 h 0)).toInt.toNat 7 = n.val) :
    Host.gather gather_S8x64x1024_S8x1_S8x64x1024_12_0_n_n_0_1_1641024 x w (ix3 h e k) = x (ix3 n e k) := by
  unfold Host.gather
  congr 1
  funext d
  refine Fin.ext ?_
  match d with
  | ⟨0, _⟩ =>
    refine Eq.trans ?_ hn
    show _ + _ + _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ (gather_S8x64x1024_S8x1_S8x64x1024_12_0_n_n_0_1_1641024).startIndexMap from List.mem_singleton.mpr rfl)]
    have hsi : (gather_S8x64x1024_S8x1_S8x64x1024_12_0_n_n_0_1_1641024).siIdx (ix3 h e k) ⟨List.idxOf (0 : Fin 3) (gather_S8x64x1024_S8x1_S8x64x1024_12_0_n_n_0_1_1641024).startIndexMap,
        List.idxOf_lt_length_iff.2 (List.mem_singleton.mpr rfl)⟩ = ix2 h 0 := by
      funext b; refine Fin.ext ?_
      match b with
      | ⟨0, _⟩ => rfl
      | ⟨1, _⟩ => rfl
    exact congrArg (fun z => min (w z).toInt.toNat 7) hsi
  | ⟨1, _⟩ => exact Nat.zero_add _
  | ⟨2, _⟩ => exact Nat.zero_add _

/-- The table holds the key-grouped order. -/
theorem lit_src (h : Fin 8) : min ((lit0 (S8.rowMajor (ix1 h))).toInt.toNat) 7 = Cert.FfnSpec.src h.val := by
  revert h; decide +kernel

/-! ## The arrays the launch finds -/

theorem V9 (c : Dev nD) (j : Fin 512) (k : Fin 1024) :
    @Eq EReal ((V (F := Ideal) m c main_v9 : S512x1024.Idx → EReal) (ix2 j k)) ((args m c).W (ix2 (Cert.FfnSpec.meets j) k)) := by
  show (StableHlo.after hostOps0 (fun b => m (c, b)) (Proc.devRef .tc main_v9) : S512x1024.Idx → EReal) (ix2 j k) = _
  simp only [hostOps0]
  after_results_simp
  pointwise
  rw [gather_rows _ _ _ _ _ ⟨Cert.FfnSpec.src (j.val / 64), by unfold Cert.FfnSpec.src; omega⟩ (by
    pointwise
    exact lit_src ⟨j.val / 64, by omega⟩)]
  pointwise
  rfl

theorem V10 (c : Dev nD) (j : Fin 512) (k : Fin 1024) :
    @Eq EReal ((V (F := Ideal) m c main_v10 : S512x1024.Idx → EReal) (ix2 j k)) ((args m c).W (ix2 (Cert.FfnSpec.below j) k)) := by
  show (StableHlo.after hostOps0 (fun b => m (c, b)) (Proc.devRef .tc main_v10) : S512x1024.Idx → EReal) (ix2 j k) = _
  simp only [hostOps0]
  after_results_simp
  pointwise
  rfl

theorem V11 (c : Dev nD) (k : Fin 1024) :
    @Eq EReal ((V (F := Ideal) m c main_v11 : S1x1024.Idx → EReal) (ix2 0 k)) ((args m c).G (ix1 k)) := by
  show (StableHlo.after hostOps0 (fun b => m (c, b)) (Proc.devRef .tc main_v11) : S1x1024.Idx → EReal) (ix2 0 k) = _
  simp only [hostOps0]
  after_results_simp
  pointwise
  rfl

theorem V12 (c : Dev nD) (k : Fin 1024) (j : Fin 2816) :
    @Eq EReal ((V (F := Ideal) m c main_v12 : S1024x2816.Idx → EReal) (ix2 k j)) ((args m c).U (ix2 k j)) := by
  show (StableHlo.after hostOps0 (fun b => m (c, b)) (Proc.devRef .tc main_v12) : S1024x2816.Idx → EReal) (ix2 k j) = _
  simp only [hostOps0]
  after_results_simp
  pointwise
  rfl

theorem V13 (c : Dev nD) (k : Fin 1024) (j : Fin 2816) :
    @Eq EReal ((V (F := Ideal) m c main_v13 : S1024x2816.Idx → EReal) (ix2 k j)) ((args m c).H (ix2 k j)) := by
  show (StableHlo.after hostOps0 (fun b => m (c, b)) (Proc.devRef .tc main_v13) : S1024x2816.Idx → EReal) (ix2 k j) = _
  simp only [hostOps0]
  after_results_simp
  pointwise
  rfl

theorem V14 (c : Dev nD) (j : Fin 2816) :
    @Eq EReal ((V (F := Ideal) m c main_v14 : S1x2816.Idx → EReal) (ix2 0 j)) ((args m c).B (ix1 j)) := by
  show (StableHlo.after hostOps0 (fun b => m (c, b)) (Proc.devRef .tc main_v14) : S1x2816.Idx → EReal) (ix2 0 j) = _
  simp only [hostOps0]
  after_results_simp
  pointwise
  rfl

theorem V15 (c : Dev nD) (j : Fin 2816) (k : Fin 1024) :
    @Eq EReal ((V (F := Ideal) m c main_v15 : S2816x1024.Idx → EReal) (ix2 j k)) ((args m c).D (ix2 j k)) := by
  show (StableHlo.after hostOps0 (fun b => m (c, b)) (Proc.devRef .tc main_v15) : S2816x1024.Idx → EReal) (ix2 j k) = _
  simp only [hostOps0]
  after_results_simp
  pointwise
  rfl

theorem V16 (c : Dev nD) (k : Fin 1024) :
    @Eq EReal ((V (F := Ideal) m c main_v16 : S1x1024.Idx → EReal) (ix2 0 k)) ((args m c).L (ix1 k)) := by
  show (StableHlo.after hostOps0 (fun b => m (c, b)) (Proc.devRef .tc main_v16) : S1x1024.Idx → EReal) (ix2 0 k) = _
  simp only [hostOps0]
  after_results_simp
  pointwise
  rfl

/-! ## The blocks -/

/-- Where the blocks of window 0 start. -/
theorem idx0 : ∀ t : Fin cfg0.N, win0_0.index t (0 : Fin 3) = t.val / 8 ∧ win0_0.index t (1 : Fin 3) = t.val % 8 ∧ win0_0.index t (2 : Fin 3) = 0 := (by decide +kernel : ∀ t : Fin grid0.N, _)
/-- Where the blocks of window 1 start. -/
theorem idx1 : ∀ t : Fin cfg0.N, win0_1.index t (0 : Fin 3) = t.val / 8 ∧ win0_1.index t (1 : Fin 3) = t.val % 8 ∧ win0_1.index t (2 : Fin 3) = 0 := (by decide +kernel : ∀ t : Fin grid0.N, _)
/-- Where the blocks of window 2 start. -/
theorem idx2 : ∀ t : Fin cfg0.N, win0_2.index t (0 : Fin 3) = t.val / 8 ∧ win0_2.index t (1 : Fin 3) = t.val % 8 ∧ win0_2.index t (2 : Fin 3) = 0 := (by decide +kernel : ∀ t : Fin grid0.N, _)
/-- Where the blocks of window 13 start. -/
theorem idx13 : ∀ t : Fin cfg0.N, win0_13.index t (0 : Fin 3) = t.val / 8 ∧ win0_13.index t (1 : Fin 3) = t.val % 8 ∧ win0_13.index t (2 : Fin 3) = 0 := (by decide +kernel : ∀ t : Fin grid0.N, _)
/-- Where the blocks of window 3 start. -/
theorem idx3 : ∀ t : Fin cfg0.N, win0_3.index t (0 : Fin 3) = t.val / 8 ∧ win0_3.index t (1 : Fin 3) = 0 ∧ win0_3.index t (2 : Fin 3) = 0 := (by decide +kernel : ∀ t : Fin grid0.N, _)
/-- Where the blocks of window 14 start. -/
theorem idx14 : ∀ t : Fin cfg0.N, win0_14.index t (0 : Fin 3) = t.val / 8 ∧ win0_14.index t (1 : Fin 3) = 0 ∧ win0_14.index t (2 : Fin 3) = 0 := (by decide +kernel : ∀ t : Fin grid0.N, _)
/-- Where the blocks of window 4 start. -/
theorem idx4 : ∀ t : Fin cfg0.N, win0_4.index t (0 : Fin 2) = 0 ∧ win0_4.index t (1 : Fin 2) = 0 := (by decide +kernel : ∀ t : Fin grid0.N, _)
/-- Where the blocks of window 5 start. -/
theorem idx5 : ∀ t : Fin cfg0.N, win0_5.index t (0 : Fin 2) = 0 ∧ win0_5.index t (1 : Fin 2) = 0 := (by decide +kernel : ∀ t : Fin grid0.N, _)
/-- Where the blocks of window 6 start. -/
theorem idx6 : ∀ t : Fin cfg0.N, win0_6.index t (0 : Fin 2) = 0 ∧ win0_6.index t (1 : Fin 2) = 0 := (by decide +kernel : ∀ t : Fin grid0.N, _)
/-- Where the blocks of window 7 start. -/
theorem idx7 : ∀ t : Fin cfg0.N, win0_7.index t (0 : Fin 2) = 0 ∧ win0_7.index t (1 : Fin 2) = 0 := (by decide +kernel : ∀ t : Fin grid0.N, _)
/-- Where the blocks of window 8 start. -/
theorem idx8 : ∀ t : Fin cfg0.N, win0_8.index t (0 : Fin 2) = 0 ∧ win0_8.index t (1 : Fin 2) = 0 := (by decide +kernel : ∀ t : Fin grid0.N, _)
/-- Where the blocks of window 9 start. -/
theorem idx9 : ∀ t : Fin cfg0.N, win0_9.index t (0 : Fin 2) = 0 ∧ win0_9.index t (1 : Fin 2) = 0 := (by decide +kernel : ∀ t : Fin grid0.N, _)
/-- Where the blocks of window 10 start. -/
theorem idx10 : ∀ t : Fin cfg0.N, win0_10.index t (0 : Fin 2) = 0 ∧ win0_10.index t (1 : Fin 2) = 0 := (by decide +kernel : ∀ t : Fin grid0.N, _)
/-- Where the blocks of window 11 start. -/
theorem idx11 : ∀ t : Fin cfg0.N, win0_11.index t (0 : Fin 2) = 0 ∧ win0_11.index t (1 : Fin 2) = 0 := (by decide +kernel : ∀ t : Fin grid0.N, _)
/-- Where the blocks of window 12 start. -/
theorem idx12 : ∀ t : Fin cfg0.N, win0_12.index t (0 : Fin 2) = 0 ∧ win0_12.index t (1 : Fin 2) = 0 := (by decide +kernel : ∀ t : Fin grid0.N, _)

theorem blk0 (c : Dev nD) (t : Fin cfg0.N) (r : Fin 512) (k : Fin 1024) :
    @Eq EReal ((iblk (F := Ideal) m c 0 t : S1x512x1024.Idx → EReal) (ix3 0 r k)) ((args m c).X (ix3 (seq t) (pos t r) k)) := by
  refine Eq.trans ?_ (congrFun (V_main_arg0 (F := Ideal) m c) (ix3 (seq t) (pos t r) k))
  show V m c main_arg0 (((cfg0.win 0).blk t).view.emb (ix3 0 r k)) = _
  refine congrArg (V m c main_arg0) ?_
  obtain ⟨e0, e1, e2⟩ := idx0 t
  funext a; apply Fin.ext
  match a with
  | ⟨0, _⟩ => show win0_0.index t (0 : Fin 3) * 1 + 1 * 0 = t.val / 8; omega
  | ⟨1, _⟩ => show win0_0.index t (1 : Fin 3) * 512 + 1 * r.val = t.val % 8 * 512 + r.val; omega
  | ⟨2, _⟩ => show win0_0.index t (2 : Fin 3) * 1024 + 1 * k.val = k.val; omega

theorem blk1 (c : Dev nD) (t : Fin cfg0.N) (r : Fin 512) (k : Fin 512) :
    @Eq EReal ((iblk (F := Ideal) m c 1 t : S1x512x512.Idx → EReal) (ix3 0 r k)) ((args m c).A (ix3 (seq t) (pos t r) k)) := by
  refine Eq.trans ?_ (congrFun (V_main_arg1 (F := Ideal) m c) (ix3 (seq t) (pos t r) k))
  show V m c main_arg1 (((cfg0.win 1).blk t).view.emb (ix3 0 r k)) = _
  refine congrArg (V m c main_arg1) ?_
  obtain ⟨e0, e1, e2⟩ := idx1 t
  funext a; apply Fin.ext
  match a with
  | ⟨0, _⟩ => show win0_1.index t (0 : Fin 3) * 1 + 1 * 0 = t.val / 8; omega
  | ⟨1, _⟩ => show win0_1.index t (1 : Fin 3) * 512 + 1 * r.val = t.val % 8 * 512 + r.val; omega
  | ⟨2, _⟩ => show win0_1.index t (2 : Fin 3) * 512 + 1 * k.val = k.val; omega

theorem blk2 (c : Dev nD) (t : Fin cfg0.N) (r : Fin 512) (k : Fin 512) :
    @Eq EReal ((iblk (F := Ideal) m c 2 t : S1x512x512.Idx → EReal) (ix3 0 r k)) ((args m c).R (ix3 (seq t) (pos t r) k)) := by
  refine Eq.trans ?_ (congrFun (V_main_arg2 (F := Ideal) m c) (ix3 (seq t) (pos t r) k))
  show V m c main_arg2 (((cfg0.win 2).blk t).view.emb (ix3 0 r k)) = _
  refine congrArg (V m c main_arg2) ?_
  obtain ⟨e0, e1, e2⟩ := idx2 t
  funext a; apply Fin.ext
  match a with
  | ⟨0, _⟩ => show win0_2.index t (0 : Fin 3) * 1 + 1 * 0 = t.val / 8; omega
  | ⟨1, _⟩ => show win0_2.index t (1 : Fin 3) * 512 + 1 * r.val = t.val % 8 * 512 + r.val; omega
  | ⟨2, _⟩ => show win0_2.index t (2 : Fin 3) * 512 + 1 * k.val = k.val; omega

theorem blk3 (c : Dev nD) (t : Fin cfg0.N) (r : Fin 2) (k : Fin 2816) :
    @Eq EReal ((iblk (F := Ideal) m c 3 t : S1x2x2816.Idx → EReal) (ix3 0 r k)) ((args m c).C (ix3 (seq t) r k)) := by
  refine Eq.trans ?_ (congrFun (V_main_arg3 (F := Ideal) m c) (ix3 (seq t) r k))
  show V m c main_arg3 (((cfg0.win 3).blk t).view.emb (ix3 0 r k)) = _
  refine congrArg (V m c main_arg3) ?_
  obtain ⟨e0, e1, e2⟩ := idx3 t
  funext a; apply Fin.ext
  match a with
  | ⟨0, _⟩ => show win0_3.index t (0 : Fin 3) * 1 + 1 * 0 = t.val / 8; omega
  | ⟨1, _⟩ => show win0_3.index t (1 : Fin 3) * 2 + 1 * r.val = r.val; omega
  | ⟨2, _⟩ => show win0_3.index t (2 : Fin 3) * 2816 + 1 * k.val = k.val; omega

theorem blk4 (c : Dev nD) (t : Fin cfg0.N) (j : Fin 512) (k : Fin 1024) :
    @Eq EReal ((iblk (F := Ideal) m c 4 t : S512x1024.Idx → EReal) (ix2 j k)) ((args m c).W (ix2 (Cert.FfnSpec.meets j) k)) := by
  refine Eq.trans ?_ (V9 m c j k)
  show V m c main_v9 (((cfg0.win 4).blk t).view.emb (ix2 j k)) = _
  refine congrArg (V m c main_v9) ?_
  obtain ⟨e0, e1⟩ := idx4 t
  funext a; apply Fin.ext
  match a with
  | ⟨0, _⟩ => show win0_4.index t (0 : Fin 2) * 512 + 1 * j.val = j.val; omega
  | ⟨1, _⟩ => show win0_4.index t (1 : Fin 2) * 1024 + 1 * k.val = k.val; omega

theorem blk5 (c : Dev nD) (t : Fin cfg0.N) (j : Fin 512) (k : Fin 1024) :
    @Eq EReal ((iblk (F := Ideal) m c 5 t : S512x1024.Idx → EReal) (ix2 j k)) ((args m c).W (ix2 (Cert.FfnSpec.below j) k)) := by
  refine Eq.trans ?_ (V10 m c j k)
  show V m c main_v10 (((cfg0.win 5).blk t).view.emb (ix2 j k)) = _
  refine congrArg (V m c main_v10) ?_
  obtain ⟨e0, e1⟩ := idx5 t
  funext a; apply Fin.ext
  match a with
  | ⟨0, _⟩ => show win0_5.index t (0 : Fin 2) * 512 + 1 * j.val = j.val; omega
  | ⟨1, _⟩ => show win0_5.index t (1 : Fin 2) * 1024 + 1 * k.val = k.val; omega

theorem blk6 (c : Dev nD) (t : Fin cfg0.N) (k : Fin 1024) :
    @Eq EReal ((iblk (F := Ideal) m c 6 t : S1x1024.Idx → EReal) (ix2 0 k)) ((args m c).G (ix1 k)) := by
  refine Eq.trans ?_ (V11 m c k)
  show V m c main_v11 (((cfg0.win 6).blk t).view.emb (ix2 0 k)) = _
  refine congrArg (V m c main_v11) ?_
  obtain ⟨e0, e1⟩ := idx6 t
  funext a; apply Fin.ext
  match a with
  | ⟨0, _⟩ => show win0_6.index t (0 : Fin 2) * 1 + 1 * 0 = 0; omega
  | ⟨1, _⟩ => show win0_6.index t (1 : Fin 2) * 1024 + 1 * k.val = k.val; omega

theorem blk7 (c : Dev nD) (t : Fin cfg0.N) (k : Fin 1024) (j : Fin 2816) :
    @Eq EReal ((iblk (F := Ideal) m c 7 t : S1024x2816.Idx → EReal) (ix2 k j)) ((args m c).U (ix2 k j)) := by
  refine Eq.trans ?_ (V12 m c k j)
  show V m c main_v12 (((cfg0.win 7).blk t).view.emb (ix2 k j)) = _
  refine congrArg (V m c main_v12) ?_
  obtain ⟨e0, e1⟩ := idx7 t
  funext a; apply Fin.ext
  match a with
  | ⟨0, _⟩ => show win0_7.index t (0 : Fin 2) * 1024 + 1 * k.val = k.val; omega
  | ⟨1, _⟩ => show win0_7.index t (1 : Fin 2) * 2816 + 1 * j.val = j.val; omega

theorem blk8 (c : Dev nD) (t : Fin cfg0.N) (k : Fin 1024) (j : Fin 2816) :
    @Eq EReal ((iblk (F := Ideal) m c 8 t : S1024x2816.Idx → EReal) (ix2 k j)) ((args m c).H (ix2 k j)) := by
  refine Eq.trans ?_ (V13 m c k j)
  show V m c main_v13 (((cfg0.win 8).blk t).view.emb (ix2 k j)) = _
  refine congrArg (V m c main_v13) ?_
  obtain ⟨e0, e1⟩ := idx8 t
  funext a; apply Fin.ext
  match a with
  | ⟨0, _⟩ => show win0_8.index t (0 : Fin 2) * 1024 + 1 * k.val = k.val; omega
  | ⟨1, _⟩ => show win0_8.index t (1 : Fin 2) * 2816 + 1 * j.val = j.val; omega

theorem blk9 (c : Dev nD) (t : Fin cfg0.N) (k : Fin 3) (j : Fin 2816) :
    @Eq EReal ((iblk (F := Ideal) m c 9 t : S3x2816.Idx → EReal) (ix2 k j)) ((args m c).K (ix2 k j)) := by
  refine Eq.trans ?_ (congrFun (V_main_arg8 (F := Ideal) m c) (ix2 k j))
  show V m c main_arg8 (((cfg0.win 9).blk t).view.emb (ix2 k j)) = _
  refine congrArg (V m c main_arg8) ?_
  obtain ⟨e0, e1⟩ := idx9 t
  funext a; apply Fin.ext
  match a with
  | ⟨0, _⟩ => show win0_9.index t (0 : Fin 2) * 3 + 1 * k.val = k.val; omega
  | ⟨1, _⟩ => show win0_9.index t (1 : Fin 2) * 2816 + 1 * j.val = j.val; omega

theorem blk10 (c : Dev nD) (t : Fin cfg0.N) (j : Fin 2816) :
    @Eq EReal ((iblk (F := Ideal) m c 10 t : S1x2816.Idx → EReal) (ix2 0 j)) ((args m c).B (ix1 j)) := by
  refine Eq.trans ?_ (V14 m c j)
  show V m c main_v14 (((cfg0.win 10).blk t).view.emb (ix2 0 j)) = _
  refine congrArg (V m c main_v14) ?_
  obtain ⟨e0, e1⟩ := idx10 t
  funext a; apply Fin.ext
  match a with
  | ⟨0, _⟩ => show win0_10.index t (0 : Fin 2) * 1 + 1 * 0 = 0; omega
  | ⟨1, _⟩ => show win0_10.index t (1 : Fin 2) * 2816 + 1 * j.val = j.val; omega

theorem blk11 (c : Dev nD) (t : Fin cfg0.N) (j : Fin 2816) (k : Fin 1024) :
    @Eq EReal ((iblk (F := Ideal) m c 11 t : S2816x1024.Idx → EReal) (ix2 j k)) ((args m c).D (ix2 j k)) := by
  refine Eq.trans ?_ (V15 m c j k)
  show V m c main_v15 (((cfg0.win 11).blk t).view.emb (ix2 j k)) = _
  refine congrArg (V m c main_v15) ?_
  obtain ⟨e0, e1⟩ := idx11 t
  funext a; apply Fin.ext
  match a with
  | ⟨0, _⟩ => show win0_11.index t (0 : Fin 2) * 2816 + 1 * j.val = j.val; omega
  | ⟨1, _⟩ => show win0_11.index t (1 : Fin 2) * 1024 + 1 * k.val = k.val; omega

theorem blk12 (c : Dev nD) (t : Fin cfg0.N) (k : Fin 1024) :
    @Eq EReal ((iblk (F := Ideal) m c 12 t : S1x1024.Idx → EReal) (ix2 0 k)) ((args m c).L (ix1 k)) := by
  refine Eq.trans ?_ (V16 m c k)
  show V m c main_v16 (((cfg0.win 12).blk t).view.emb (ix2 0 k)) = _
  refine congrArg (V m c main_v16) ?_
  obtain ⟨e0, e1⟩ := idx12 t
  funext a; apply Fin.ext
  match a with
  | ⟨0, _⟩ => show win0_12.index t (0 : Fin 2) * 1 + 1 * 0 = 0; omega
  | ⟨1, _⟩ => show win0_12.index t (1 : Fin 2) * 1024 + 1 * k.val = k.val; omega

end Cert.FfnIdeal.Value
end
-- ==== Proof.Ffn.Out.lean ====
/- What a step of the feed-forward call computes, index by index. -/
module

public import proofs.«01_k».proof.Proof.Ffn.Blocks
public import Idealize.ShloMosaic.Lib.Pointwise
public import Idealize.ShloMosaic.Lib.Pipeline.ValueKit
public import Idealize.ShloMosaic.Lib.StableHlo
public import Idealize.ShloMosaic.Lib.ValueIdx
public import Idealize.ShloMosaic.Lib.ValueLayout

@[expose] public section

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.FfnSpec (Args)

variable (m : (ℓ : Loc nD τ sig) → Buf (Elt Ideal) ℓ) (ρ : Dev nD → PrngReg)

/-- The token with the mixers' outputs added. -/
theorem mix_blk (c : Dev nD) (t : Fin cfg0.N) (r : Fin 512) (k : Fin 1024) :
    @Eq EReal ((k0_pay4 (F := Ideal) (iblk m c 0 t) (iblk m c 1 t) (iblk m c 4 t) (iblk m c 2 t) (iblk m c 5 t) : S512x1024.Idx → EReal) (ix2 r k))
      (Cert.FfnSpec.mix (args m c) (seq t) (pos t r) k) := by
  unfold k0_pay4
  pointwise
  simp only [blk0, blk1, blk2, blk4, blk5]
  rfl

/-- The normalised token. -/
theorem hid_blk (c : Dev nD) (t : Fin cfg0.N) (r : Fin 512) (k : Fin 1024) :
    @Eq EReal ((k0_pay5 (F := Ideal) (iblk m c 0 t) (iblk m c 1 t) (iblk m c 4 t) (iblk m c 2 t) (iblk m c 5 t) (iblk m c 6 t) : S512x1024.Idx → EReal) (ix2 r k))
      (Cert.FfnSpec.hid (args m c) (seq t) (pos t r) k) := by
  unfold k0_pay5
  pointwise
  simp only [mix_blk, blk6]
  rfl

/-- The up-projected row. -/
theorem up_blk (c : Dev nD) (t : Fin cfg0.N) (r : Fin 512) (j : Fin 2816) :
    @Eq EReal ((upAt (F := Ideal) m c t : S512x2816.Idx → EReal) (ix2 r j)) (Cert.FfnSpec.up (args m c) (seq t) (pos t r) j) := by
  unfold upAt upBlk k0_pay6
  pointwise
  simp only [hid_blk, blk7]
  rfl

/-- The gate's row. -/
theorem gate_blk (c : Dev nD) (t : Fin cfg0.N) (r : Fin 512) (j : Fin 2816) :
    @Eq EReal ((k0_pay9 (F := Ideal) (k0_pay5 (iblk m c 0 t) (iblk m c 1 t) (iblk m c 4 t) (iblk m c 2 t) (iblk m c 5 t) (iblk m c 6 t)) (iblk m c 8 t) : S512x2816.Idx → EReal) (ix2 r j))
      (∑ k, Cert.FfnSpec.hid (args m c) (seq t) (pos t r) k * (args m c).H (ix2 k j)) := by
  unfold k0_pay9
  pointwise
  simp only [hid_blk, blk8]

/-- The two rows before a step are those of the sequence before it. -/
theorem tail_blk (c : Dev nD) (t : Fin cfg0.N) (n : Fin 2) (j : Fin 2816) (p : ℕ) (hp : p < 4098) (e : t.val % 8 * 512 + n.val = p) :
    @Eq EReal ((tailAt (F := Ideal) m c t : S2x2816.Idx → EReal) (ix2 n j)) (Cert.FfnSpec.strip (args m c) (seq t) p hp j) := by
  unfold tailAt Cert.FfnSpec.strip
  by_cases h0 : t.val % 8 = 0
  · rw [if_pos h0]
    refine Eq.trans ?_ (dif_pos (by omega)).symm
    unfold k0_pay3
    pointwise
    rw [blk3]
    exact congrArg (fun z : Fin 2 => (args m c).C (ix3 (seq t) z j)) (Fin.ext (by show n.val = p; omega))
  · rw [if_neg h0]
    refine Eq.trans ?_ (dif_neg (by omega)).symm
    unfold last2
    refine (up_blk m c ⟨t.val - 1, lt_of_le_of_lt (Nat.sub_le _ _) t.isLt⟩ ⟨n.val + 510, by omega⟩ j).trans ?_
    exact congrArg₂ (fun (x : Fin 8) (z : Fin 4096) => Cert.FfnSpec.up (args m c) x z j)
      (Fin.ext (by show (t.val - 1) / 8 = t.val / 8; omega))
      (Fin.ext (by show (t.val - 1) % 8 * 512 + (n.val + 510) = p - 2; omega))

/-- The rows a tap of the convolution reads. -/
theorem strip_blk (c : Dev nD) (t : Fin cfg0.N) (o : Fin 3) (r : Fin 512) (j : Fin 2816) (p : ℕ) (hp : p < 4098) (e : o.val + (t.val % 8 * 512 + r.val) = p) :
    @Eq EReal ((strip (F := Ideal) (tailAt m c t) (upAt m c t) o : S512x2816.Idx → EReal) (ix2 r j)) (Cert.FfnSpec.strip (args m c) (seq t) p hp j) := by
  have hr : r.val < 512 := r.isLt
  have ho : o.val < 3 := o.isLt
  unfold strip
  by_cases h : r.val + o.val < 2
  · refine (dif_pos h).trans ?_
    exact tail_blk m c t ⟨r.val + o.val, h⟩ j p hp (by show t.val % 8 * 512 + (r.val + o.val) = p; omega)
  · refine (dif_neg h).trans ?_
    refine (up_blk m c t ⟨r.val + o.val - 2, by omega⟩ j).trans ?_
    unfold Cert.FfnSpec.strip
    refine Eq.trans ?_ (dif_neg (by omega)).symm
    exact congrArg (fun (z : Fin 4096) => Cert.FfnSpec.up (args m c) (seq t) z j)
      (Fin.ext (by show t.val % 8 * 512 + (r.val + o.val - 2) = p - 2; omega))

/-- The convolution. -/
theorem conv_blk (c : Dev nD) (t : Fin cfg0.N) (r : Fin 512) (j : Fin 2816) :
    @Eq EReal ((k0_pay7 (F := Ideal) (iblk m c 10 t) (View.ld (iblk m c 9 t) (Rect.unit (s := S3x2816) ![0, 0] S1x2816.size inb_S3x2816_S1x2816_0_0)) (strip (tailAt m c t) (upAt m c t) 0) (View.ld (iblk m c 9 t) (Rect.unit (s := S3x2816) ![1, 0] S1x2816.size inb_S3x2816_S1x2816_1_0)) (strip (tailAt m c t) (upAt m c t) 1) (View.ld (iblk m c 9 t) (Rect.unit (s := S3x2816) ![2, 0] S1x2816.size inb_S3x2816_S1x2816_2_0)) (strip (tailAt m c t) (upAt m c t) 2) : S512x2816.Idx → EReal) (ix2 r j))
      (Cert.FfnSpec.conv (args m c) (seq t) (pos t r) j) := by
  unfold k0_pay7
  pointwise
  rw [blk10, blk9, blk9, blk9, strip_blk m c t 0 r j (pos t r).val (by omega) (Nat.zero_add _),
    strip_blk m c t 1 r j (1 + (pos t r).val) (by omega) rfl, strip_blk m c t 2 r j (2 + (pos t r).val) (by omega) rfl]
  rfl

/-- The row of results. -/
theorem y_blk (c : Dev nD) (t : Fin cfg0.N) (r : Fin 512) (k : Fin 1024) :
    @Eq EReal ((yAt (F := Ideal) m c t : S1x512x1024.Idx → EReal) (ix3 0 r k)) (Cert.FfnSpec.y (args m c) (seq t) (pos t r) k) := by
  show (k0_pay1 (F := Ideal) (k0_pay4 (iblk m c 0 t) (iblk m c 1 t) (iblk m c 4 t) (iblk m c 2 t) (iblk m c 5 t)) (k0_pay7 (iblk m c 10 t) (View.ld (iblk m c 9 t) (Rect.unit (s := S3x2816) ![0, 0] S1x2816.size inb_S3x2816_S1x2816_0_0)) (strip (tailAt m c t) (upAt m c t) 0) (View.ld (iblk m c 9 t) (Rect.unit (s := S3x2816) ![1, 0] S1x2816.size inb_S3x2816_S1x2816_1_0)) (strip (tailAt m c t) (upAt m c t) 1) (View.ld (iblk m c 9 t) (Rect.unit (s := S3x2816) ![2, 0] S1x2816.size inb_S3x2816_S1x2816_2_0)) (strip (tailAt m c t) (upAt m c t) 2))
    (k0_pay9 (k0_pay5 (iblk m c 0 t) (iblk m c 1 t) (iblk m c 4 t) (iblk m c 2 t) (iblk m c 5 t) (iblk m c 6 t)) (iblk m c 8 t)) (k0_pay10 (iblk m c 10 t) (View.ld (iblk m c 9 t) (Rect.unit (s := S3x2816) ![0, 0] S1x2816.size inb_S3x2816_S1x2816_0_0)) (strip (tailAt m c t) (upAt m c t) 0) (View.ld (iblk m c 9 t) (Rect.unit (s := S3x2816) ![1, 0] S1x2816.size inb_S3x2816_S1x2816_1_0)) (strip (tailAt m c t) (upAt m c t) 1) (View.ld (iblk m c 9 t) (Rect.unit (s := S3x2816) ![2, 0] S1x2816.size inb_S3x2816_S1x2816_2_0)) (strip (tailAt m c t) (upAt m c t) 2)) k0_pay11 (iblk m c 11 t) (iblk m c 12 t) : S1x512x1024.Idx → EReal) (ix3 0 r k) = _
  unfold k0_pay1 k0_pay10 k0_pay11
  pointwise
  simp only [mix_blk, gate_blk, conv_blk, blk11, blk12]
  simp only [show ∀ v : EReal, v * (v * v) = v * v * v from fun v => (mul_assoc v v v).symm]
  rfl

/-- The array of results after the last step. -/
theorem final13 (c : Dev nD) : @Eq (S8x4096x1024.Idx → EReal) ((dats (F := Ideal) m 0 c).arrAt 13 cfg0.N)
    (fun i => Cert.FfnSpec.y (args m c) (i 0) (i 1) (i 2)) := by
  refine (dats m 0 c).arrAt_eq_of_covers 13 _ (by decide +kernel) fun t hf y => ?_
  blk_simp
  rw [after0_13]
  idx_vars y
  obtain ⟨e0, e1, e2⟩ := idx13 t
  obtain rfl : y0 = 0 := Fin.ext (by omega)
  refine (y_blk m c t y1 y2).trans ?_
  have h0 : seq t = (⟨win0_13.index t (0 : Fin 3) * 1 + 1 * 0, by show _ < 8; have := (seq t).isLt; have : (seq t).val = t.val / 8 := rfl; omega⟩ : Fin 8) :=
    Fin.ext (show t.val / 8 = win0_13.index t (0 : Fin 3) * 1 + 1 * 0 by omega)
  have h1 : pos t y1 = (⟨win0_13.index t (1 : Fin 3) * 512 + 1 * y1.val, by show _ < 4096; omega⟩ : Fin 4096) :=
    Fin.ext (show t.val % 8 * 512 + y1.val = win0_13.index t (1 : Fin 3) * 512 + 1 * y1.val by omega)
  have h2 : y2 = (⟨win0_13.index t (2 : Fin 3) * 1024 + 1 * y2.val, by show _ < 1024; omega⟩ : Fin 1024) :=
    Fin.ext (show y2.val = win0_13.index t (2 : Fin 3) * 1024 + 1 * y2.val by omega)
  exact (congrFun (congrFun (congrArg (Cert.FfnSpec.y (args m c)) h0) _) _).trans ((congrFun (congrArg (Cert.FfnSpec.y (args m c) _) h1) _).trans (congrArg (Cert.FfnSpec.y (args m c) _ _) h2))

/-- The two rows carried on, after the last step of a sequence. -/
theorem last_blk (c : Dev nD) (t : Fin cfg0.N) (h7 : t.val % 8 = 7) (n : Fin 2) (j : Fin 2816) :
    @Eq EReal ((k0_pay2 (last2 (upAt (F := Ideal) m c t)) : S1x2x2816.Idx → EReal) (ix3 0 n j)) (Cert.FfnSpec.tail (args m c) (seq t) n j) := by
  unfold k0_pay2
  pointwise
  unfold last2 Cert.FfnSpec.tail Cert.FfnSpec.strip
  refine (up_blk m c t ⟨n.val + 510, by omega⟩ j).trans (Eq.trans ?_ (dif_neg (by omega)).symm)
  exact congrArg (fun z : Fin 4096 => Cert.FfnSpec.up (args m c) (seq t) z j)
    (Fin.ext (by show t.val % 8 * 512 + (n.val + 510) = 4096 + n.val - 2; omega))

/-- The array of carried rows after the last step. -/
theorem final14 (c : Dev nD) : @Eq (S8x2x2816.Idx → EReal) ((dats (F := Ideal) m 0 c).arrAt 14 cfg0.N)
    (fun i => Cert.FfnSpec.tail (args m c) (i 0) (i 1) (i 2)) := by
  refine (dats m 0 c).arrAt_eq_of_covers 14 _ (by decide +kernel) fun t hf y => ?_
  have h7 := (flush0_14 t).mp hf
  blk_simp
  rw [after0_14]
  idx_vars y
  obtain ⟨e0, e1, e2⟩ := idx14 t
  obtain rfl : y0 = 0 := Fin.ext (by omega)
  refine (last_blk m c t h7 y1 y2).trans ?_
  have h0 : seq t = (⟨win0_14.index t (0 : Fin 3) * 1 + 1 * 0, by show _ < 8; have := (seq t).isLt; have : (seq t).val = t.val / 8 := rfl; omega⟩ : Fin 8) :=
    Fin.ext (show t.val / 8 = win0_14.index t (0 : Fin 3) * 1 + 1 * 0 by omega)
  have h1 : y1 = (⟨win0_14.index t (1 : Fin 3) * 2 + 1 * y1.val, by show _ < 2; omega⟩ : Fin 2) :=
    Fin.ext (show y1.val = win0_14.index t (1 : Fin 3) * 2 + 1 * y1.val by omega)
  have h2 : y2 = (⟨win0_14.index t (2 : Fin 3) * 2816 + 1 * y2.val, by show _ < 2816; omega⟩ : Fin 2816) :=
    Fin.ext (show y2.val = win0_14.index t (2 : Fin 3) * 2816 + 1 * y2.val by omega)
  exact (congrFun (congrFun (congrArg (Cert.FfnSpec.tail (args m c)) h0) _) _).trans ((congrFun (congrArg (Cert.FfnSpec.tail (args m c) _) h1) _).trans (congrArg (Cert.FfnSpec.tail (args m c) _ _) h2))

/-- The run, both results entry by entry and the arguments kept. -/
theorem run_spec (ρ : Dev nD → PrngReg) : θ_run defs (onTc (τ := τ) (main (F := Ideal))) ⟨m, fun _ => 0, ρ⟩ fun r => ∀ c : Dev nD,
      @Eq (S8x4096x1024.Idx → EReal) (r.2.mem ((c.tc : Thread nD τ).loc main_v17_0)) (fun i => Cert.FfnSpec.y (args m c) (i 0) (i 1) (i 2))
      ∧ @Eq (S8x2x2816.Idx → EReal) (r.2.mem ((c.tc : Thread nD τ).loc main_v17_1)) (fun i => Cert.FfnSpec.tail (args m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h.2 c).1 13).trans (final13 m c), ((h.2 c).1 14).trans (final14 m c), h.1 c⟩)
    (θ_run_and (frame_of m ρ (dats m) (A_eq m) (run_main m ρ)) (run_main m ρ))

/-- The arguments are kept and every semaphore ends at zero. -/
theorem frame (ρ : Dev nD → PrngReg) : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0 :=
  θ_run_and (frame_of m ρ (dats m) (A_eq m) (run_main m ρ)) ((θ_run defs _ _).mono (fun _ h => h.2) (run_quiescent m ρ))

end Cert.FfnIdeal.Value
end
-- ==== Proof.Ffn.Ref.lean ====
/- The reference's run, its results said index by index. -/
module

public import proofs.«01_k».proof.Proof.Ffn.Spec
public import proofs.«01_k».proof.Proof.Gen.FfnRefIdeal.Run
public import Idealize.ShloMosaic.Lib.Pointwise
public import Idealize.ShloMosaic.Lib.StableHlo

@[expose] public section

noncomputable section

namespace Cert.FfnRefIdeal.Value

open Cert.FfnRefIdeal Cert.FfnRefIdeal.Gen Idealize.ShloMosaic Idealize.ShloMosaic.TcCoe Idealize.SL.Sem Idealize.ShloMosaic.StableHlo Cert.FfnSpec

variable (m : (ℓ : Loc nD τ sig) → Buf (Elt Ideal) ℓ) (ρ : Dev nD → PrngReg)

/-- The reference's arguments. -/
def args (c : Dev nD) : Args where
  X := m ((c.tc : Thread nD τ).loc main_arg0)
  A := m ((c.tc : Thread nD τ).loc main_arg1)
  R := m ((c.tc : Thread nD τ).loc main_arg2)
  C := m ((c.tc : Thread nD τ).loc main_arg3)
  W := m ((c.tc : Thread nD τ).loc main_arg4)
  G := m ((c.tc : Thread nD τ).loc main_arg5)
  U := m ((c.tc : Thread nD τ).loc main_arg6)
  H := m ((c.tc : Thread nD τ).loc main_arg7)
  K := m ((c.tc : Thread nD τ).loc main_arg8)
  B := m ((c.tc : Thread nD τ).loc main_arg9)
  D := m ((c.tc : Thread nD τ).loc main_arg10)
  L := m ((c.tc : Thread nD τ).loc main_arg11)

/-- Exchanging the two halves of a head's number: which column of the key-grouped order a plain column comes from. -/
def regroup : Fin 512 ≃ Fin 512 where
  toFun j := ⟨(j.val / 64 % 2 * 4 + j.val / 64 / 2) * 64 + j.val % 64, by omega⟩
  invFun j := ⟨(j.val / 64 % 4 * 2 + j.val / 64 / 4) * 64 + j.val % 64, by omega⟩
  left_inv j := Fin.ext (by simp only; omega)
  right_inv j := Fin.ext (by simp only; omega)

/-- A plain column of the concatenated mixers' outputs meets the row of its own number. -/
theorem meets_symm (x : Fin 512) : meets (regroup.symm x) = ⟨x.val, by omega⟩ := by
  refine Fin.ext ?_
  show src (((x.val / 64 % 4 * 2 + x.val / 64 / 4) * 64 + x.val % 64) / 64) * 64 + ((x.val / 64 % 4 * 2 + x.val / 64 / 4) * 64 + x.val % 64) % 64 = x.val
  unfold src
  omega

set_option maxHeartbeats 1000000 in
theorem mix_eq (c : Dev nD) (b : Fin 8) (s : Fin 4096) (k : Fin 1024) :
    @Eq EReal ((res_main_v7 (F := Ideal) (launchContents m c) : S8x4096x1024.Idx → EReal) (ix3 b s k)) (mix (args m c) b s k) := by
  unfold res_main_v7
  pointwise
  refine (add_assoc _ _ _).symm.trans ?_
  refine congrArg₂ (· + ·) (congrArg₂ (· + ·) rfl ?_) rfl
  refine Eq.trans (Finset.sum_congr rfl fun x _ => ?_)
    (Equiv.sum_comp regroup.symm fun j => (args m c).A (ix3 b s j) * (args m c).W (ix2 (meets j) k))
  rw [meets_symm]
  refine congrArg₂ (· * ·) (congrArg (fun z : Fin 512 => (args m c).A (ix3 b s z)) (Fin.ext ?_)) rfl
  show x.val / 64 % 4 * 128 + x.val / 256 * 64 + x.val % 64 = (x.val / 64 % 4 * 2 + x.val / 64 / 4) * 64 + x.val % 64
  omega

theorem hid_eq (c : Dev nD) (b : Fin 8) (s : Fin 4096) (k : Fin 1024) :
    @Eq EReal ((res_main_v20 (F := Ideal) (launchContents m c) : S8x4096x1024.Idx → EReal) (ix3 b s k)) (hid (args m c) b s k) := by
  unfold res_main_v20
  pointwise
  simp only [mix_eq]
  rfl

theorem strip_eq (c : Dev nD) (b : Fin 8) (n : Fin 4098) (j : Fin 2816) :
    @Eq EReal ((res_main_v22 (F := Ideal) (launchContents m c) : S8x4098x2816.Idx → EReal) (ix3 b n j)) (strip (args m c) b n.val n.isLt j) := by
  unfold res_main_v22
  pointwise
  simp only [hid_eq]
  rfl

theorem conv_eq (c : Dev nD) (b : Fin 8) (s : Fin 4096) (j : Fin 2816) :
    @Eq EReal ((res_main_v45 (F := Ideal) (launchContents m c) : S8x4096x2816.Idx → EReal) (ix3 b s j)) (conv (args m c) b s j) := by
  unfold res_main_v45
  pointwise
  simp only [strip_eq]
  unfold conv
  rfl

theorem out_eq (c : Dev nD) (b : Fin 8) (s : Fin 4096) (k : Fin 1024) :
    @Eq EReal ((res_main_v62 (F := Ideal) (launchContents m c) : S8x4096x1024.Idx → EReal) (ix3 b s k)) (out (args m c) b s k) := by
  unfold res_main_v62
  pointwise
  simp only [mix_eq, conv_eq, hid_eq]
  rfl

/-- Both results of the reference, entry by entry, and the arguments kept. -/
theorem run_spec : θ_run defs (onTc (τ := τ) (main (F := Ideal))) ⟨m, fun _ => 0, ρ⟩ fun r => ∀ c : Dev nD,
      @Eq (S8x4096x1024.Idx → EReal) (r.2.mem ((c.tc : Thread nD τ).loc main_v75)) (fun i => y (args m c) (i 0) (i 1) (i 2))
      ∧ @Eq (S8x2x2816.Idx → EReal) (r.2.mem ((c.tc : Thread nD τ).loc main_v76)) (fun i => tail (args m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => by
    obtain ⟨h75, h76, ha⟩ := h c
    refine ⟨h75.trans ?_, h76.trans ?_, ha⟩
    all_goals clear h75 h76 ha h r; funext i; idx_vars i; pointwise
    · simp only [out_eq]
      rfl
    · simp only [strip_eq]
      rfl)
    (run m ρ)

end Cert.FfnRefIdeal.Value
end
-- ==== Proof.Ffn.Claims.lean ====
/- The feed-forward block's claims: the kernel's and the reference's frames, and that they compute the same arrays. -/
module

public import proofs.«01_k».proof.Defs
public import proofs.«01_k».proof.Proof.Ffn.Out
public import proofs.«01_k».proof.Proof.Ffn.Ref
public import Idealize.ShloMosaic.Lib.Quiescent

@[expose] public section

noncomputable section

namespace Cert.FfnSpec

open Idealize.ShloMosaic Idealize.SL.Sem

/-- The kernel keeps its arguments and leaves every semaphore at zero. -/
theorem frame_ideal : Cert.quiescent_FfnIdeal := fun m ρ _ => Cert.FfnIdeal.Value.frame m ρ

/-- The reference declares no semaphore, and its run keeps its arguments. -/
theorem frame_ref : Cert.quiescent_FfnRefIdeal := fun m ρ _ =>
  (θ_run _ _ _).mono (fun _ h => ⟨fun c => (h c).2.2, sem_eq_zero_of_no_sems rfl _⟩) (Cert.FfnRefIdeal.Value.run_spec m ρ)

/-- Both programs end with the same two arrays. -/
theorem algebraic : Cert.algebraic_FfnIdeal_FfnRefIdeal := by
  intro m g m' g' _ hagree
  have hr := Cert.FfnRefIdeal.Value.run_spec m' g'
  have e0 : ∀ c : Dev Cert.FfnIdeal.nD, m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0) := fun c => (hagree c).1
  have e1 : ∀ c : Dev Cert.FfnIdeal.nD, m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1) := fun c => (hagree c).2.1
  have e2 : ∀ c : Dev Cert.FfnIdeal.nD, m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2) := fun c => (hagree c).2.2.1
  have e3 : ∀ c : Dev Cert.FfnIdeal.nD, m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3) := fun c => (hagree c).2.2.2.1
  have e4 : ∀ c : Dev Cert.FfnIdeal.nD, m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4) := fun c => (hagree c).2.2.2.2.1
  have e5 : ∀ c : Dev Cert.FfnIdeal.nD, m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5) := fun c => (hagree c).2.2.2.2.2.1
  have e6 : ∀ c : Dev Cert.FfnIdeal.nD, m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6) := fun c => (hagree c).2.2.2.2.2.2.1
  have e7 : ∀ c : Dev Cert.FfnIdeal.nD, m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7) := fun c => (hagree c).2.2.2.2.2.2.2.1
  have e8 : ∀ c : Dev Cert.FfnIdeal.nD, m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8) := fun c => (hagree c).2.2.2.2.2.2.2.2.1
  have e9 : ∀ c : Dev Cert.FfnIdeal.nD, m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9) := fun c => (hagree c).2.2.2.2.2.2.2.2.2.1
  have e10 : ∀ c : Dev Cert.FfnIdeal.nD, m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10) := fun c => (hagree c).2.2.2.2.2.2.2.2.2.2.1
  have e11 : ∀ c : Dev Cert.FfnIdeal.nD, m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11) := fun c => (hagree c).2.2.2.2.2.2.2.2.2.2.2
  have ea : ∀ c : Dev Cert.FfnIdeal.nD, Cert.FfnRefIdeal.Value.args m' c = Cert.FfnIdeal.Value.args m c := fun c => by
    unfold Cert.FfnRefIdeal.Value.args Cert.FfnIdeal.Value.args
    rw [e0 c, e1 c, e2 c, e3 c, e4 c, e5 c, e6 c, e7 c, e8 c, e9 c, e10 c, e11 c]
  refine ⟨_, _, Cert.FfnIdeal.Value.run_spec m g, (θ_run _ _ _).mono (fun r h c => ?_) hr⟩
  have hc := h c
  rw [ea c, e0 c, e1 c, e2 c, e3 c, e4 c, e5 c, e6 c, e7 c, e8 c, e9 c, e10 c, e11 c] at hc
  rw [e0 c, e1 c, e2 c, e3 c, e4 c, e5 c, e6 c, e7 c, e8 c, e9 c, e10 c, e11 c]
  exact hc

end Cert.FfnSpec
end
-- ==== Proof.Proj.Spec.lean ====
/- What the projection computes, index by index: every token's row is normalised by its root mean square and scaled,
   and multiplied by the columns of the projection's weight matrix. -/
module

public import proofs.«01_k».proof.Proof.Gen.ProjIdeal
public import Idealize.ShloMosaic.Lib.Pointwise

@[expose] public section

noncomputable section

namespace Cert.ProjSpec

open Cert.ProjIdeal Idealize.ShloMosaic

variable (X : S8x4096x1024.Idx → EReal) (g : S1024.Idx → EReal) (W : S1024x2376.Idx → EReal)

/-- Feature `k` of token `n`, the tokens of the eight sequences counted through. -/
def tok (n : Fin 32768) (k : Fin 1024) : EReal := X (ix3 ⟨n.val / 4096, by omega⟩ ⟨n.val % 4096, by omega⟩ k)

/-- Feature `k` of token `n` after the normalisation. -/
def hid (n : Fin 32768) (k : Fin 1024) : EReal :=
  tok X n k * Ideal.rsqrt (Ideal.div (∑ x, tok X n x * tok X n x) (Ideal.ofBits FTy.f32 1149239296#32) +
    Ideal.ofBits FTy.f32 897988541#32) * g (ix1 k)

/-- Column `j` of token `n`'s projection. -/
def zed (n : Fin 32768) (j : Fin 2376) : EReal := ∑ k, hid X g n k * W (ix2 k j)

/-- Where the key-grouped order of heads takes head `h` from: head `h / 2` of key group `h % 2`. -/
def src (h : ℕ) : ℕ := h % 2 * 4 + h / 2

theorem src_lt {j : ℕ} (h : j < 512) : src (j / 64) * 64 + j % 64 < 512 := by unfold src; omega

/-- A query entry: the heads reordered, scaled by one over the square root of the head's width. -/
def query (n : Fin 32768) (j : Fin 512) : EReal :=
  zed X g W n ⟨src (j.val / 64) * 64 + j.val % 64, by have := src_lt j.isLt; omega⟩ * Ideal.ofBits FTy.f32 1040187392#32

/-- The columns of a slice that starts at `off`. -/
def col (off w : ℕ) (h : off + w ≤ 2376) (n : Fin 32768) (j : Fin w) : EReal := zed X g W n ⟨off + j.val, by omega⟩

/-- The indexer's key twice over. -/
def twice (n : Fin 32768) (j : Fin 128) : EReal := zed X g W n ⟨1280 + j.val % 64, by omega⟩

/-- The indexer's key, then its eight head weights, then zeros. -/
def keyW (n : Fin 32768) (j : Fin 128) : EReal :=
  if j.val < 72 then zed X g W n ⟨1280 + j.val % 72, by omega⟩ else 0

end Cert.ProjSpec
end
-- ==== Proof.Proj.Pack.lean ====
module

public import proofs.«01_k».proof.Proof.Gen.ProjIdeal.Value
public import proofs.«01_k».proof.Proof.Proj.Spec
public import Idealize.ShloMosaic.Lib.Pointwise
public import Idealize.ShloMosaic.Lib.Pipeline.ValueKit
public import Idealize.ShloMosaic.Lib.StableHlo
public import Idealize.ShloMosaic.Lib.ValueIdx
public import Idealize.ShloMosaic.Lib.ValueLayout

@[expose] public section

noncomputable section

namespace Cert.ProjIdeal.Value

open Cert.ProjIdeal Cert.ProjIdeal.Gen Idealize.ShloMosaic Idealize.ShloMosaic.TcCoe Idealize.SL.Sem
open Idealize.ShloMosaic.Pipeline (Dat)
open Cert.ProjSpec

variable (m : (ℓ : Loc nD τ sig) → Buf (Elt Ideal) ℓ) (ρ : Dev nD → PrngReg)

/-- Reading heads through a table of head numbers. -/
theorem gather_heads (x : S1024x8x64.Idx → EReal) (w : IVec S8x1 32) (a : Fin 1024) (h : Fin 8) (e : Fin 64) (n : Fin 8)
    (hn : min (w (ix2 h 0)).toInt.toNat 7 = n.val) :
    Host.gather gather_S1024x8x64_S8x1_S1024x8x64_02_1_n_n_1_1_1024164 x w (ix3 a h e) = x (ix3 a n e) := by
  unfold Host.gather
  congr 1
  funext d
  refine Fin.ext ?_
  match d with
  | ⟨0, _⟩ => exact Nat.zero_add _
  | ⟨1, _⟩ =>
    refine Eq.trans ?_ hn
    show _ + _ + _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 3) ∈ (gather_S1024x8x64_S8x1_S1024x8x64_02_1_n_n_1_1_1024164).startIndexMap from List.mem_singleton.mpr rfl)]
    have hsi : (gather_S1024x8x64_S8x1_S1024x8x64_02_1_n_n_1_1_1024164).siIdx (ix3 a h e) ⟨List.idxOf (1 : Fin 3) (gather_S1024x8x64_S8x1_S1024x8x64_02_1_n_n_1_1_1024164).startIndexMap,
        List.idxOf_lt_length_iff.2 (List.mem_singleton.mpr rfl)⟩ = ix2 h 0 := by
      funext b; refine Fin.ext ?_
      match b with
      | ⟨0, _⟩ => rfl
      | ⟨1, _⟩ => rfl
    exact congrArg (fun z => min (w z).toInt.toNat 7) hsi
  | ⟨2, _⟩ => exact Nat.zero_add _

/-- The table holds the key-grouped order. -/
theorem lit_src (h : Fin 8) : min ((lit0 (S8.rowMajor (ix1 h))).toInt.toNat) 7 = src h.val := by
  revert h; decide +kernel

/-- The buffers before the weights' columns are laid side by side. -/
def early (c : Dev nD) : (b : DevRef τ sig) → (b.ty).Contents (Elt Ideal) := StableHlo.after ((hostOps0 (F := Ideal)).take 19) (fun b => m (c, b))

/-- The query columns, their heads in the key-grouped order. -/
theorem early13 (c : Dev nD) : @Eq (S1024x512.Idx → EReal) (early m c (Proc.devRef .tc main_v13))
    (fun i => m (c, Proc.devRef .tc main_arg2) (ix2 (i 0) ⟨src ((i 1).val / 64) * 64 + (i 1).val % 64, by
      have : (i 1).val < 512 := (i 1).isLt; unfold src; show _ < 2376; omega⟩)) := by
  unfold early
  simp only [hostOps0, List.take_succ_cons, List.take_zero]
  after_results_simp
  funext j
  idx_vars j
  pointwise
  rw [gather_heads _ _ _ _ _ ⟨src (j1.val / 64), by unfold src; omega⟩ (by
    pointwise
    exact lit_src ⟨j1.val / 64, by omega⟩)]
  rfl

theorem early1 (c : Dev nD) (k : Fin 1024) (j : Fin 128) :
    @Eq EReal ((early m c (Proc.devRef .tc main_v1) : S1024x128.Idx → EReal) (ix2 k j)) (m (c, Proc.devRef .tc main_arg2) (ix2 k ⟨512 + j.val, by omega⟩)) := by
  unfold early
  simp only [hostOps0, List.take_succ_cons, List.take_zero]
  after_results_simp
  pointwise

theorem early2 (c : Dev nD) (k : Fin 1024) (j : Fin 128) :
    @Eq EReal ((early m c (Proc.devRef .tc main_v2) : S1024x128.Idx → EReal) (ix2 k j)) (m (c, Proc.devRef .tc main_arg2) (ix2 k ⟨640 + j.val, by omega⟩)) := by
  unfold early
  simp only [hostOps0, List.take_succ_cons, List.take_zero]
  after_results_simp
  pointwise

theorem early3 (c : Dev nD) (k : Fin 1024) (j : Fin 512) :
    @Eq EReal ((early m c (Proc.devRef .tc main_v3) : S1024x512.Idx → EReal) (ix2 k j)) (m (c, Proc.devRef .tc main_arg2) (ix2 k ⟨768 + j.val, by omega⟩)) := by
  unfold early
  simp only [hostOps0, List.take_succ_cons, List.take_zero]
  after_results_simp
  pointwise

theorem early4 (c : Dev nD) (k : Fin 1024) (j : Fin 64) :
    @Eq EReal ((early m c (Proc.devRef .tc main_v4) : S1024x64.Idx → EReal) (ix2 k j)) (m (c, Proc.devRef .tc main_arg2) (ix2 k ⟨1280 + j.val, by omega⟩)) := by
  unfold early
  simp only [hostOps0, List.take_succ_cons, List.take_zero]
  after_results_simp
  pointwise

theorem early5 (c : Dev nD) (k : Fin 1024) (j : Fin 8) :
    @Eq EReal ((early m c (Proc.devRef .tc main_v5) : S1024x8.Idx → EReal) (ix2 k j)) (m (c, Proc.devRef .tc main_arg2) (ix2 k ⟨1344 + j.val, by omega⟩)) := by
  unfold early
  simp only [hostOps0, List.take_succ_cons, List.take_zero]
  after_results_simp
  pointwise

theorem early6 (c : Dev nD) (k : Fin 1024) (j : Fin 1024) :
    @Eq EReal ((early m c (Proc.devRef .tc main_v6) : S1024x1024.Idx → EReal) (ix2 k j)) (m (c, Proc.devRef .tc main_arg2) (ix2 k ⟨1352 + j.val, by omega⟩)) := by
  unfold early
  simp only [hostOps0, List.take_succ_cons, List.take_zero]
  after_results_simp
  pointwise

theorem early14 (c : Dev nD) (k : Fin 1024) (j : Fin 56) :
    @Eq EReal ((early m c (Proc.devRef .tc main_v14) : S1024x56.Idx → EReal) (ix2 k j)) 0 := by
  unfold early
  simp only [hostOps0, List.take_succ_cons, List.take_zero]
  after_results_simp
  pointwise

/-- Where the packed weights take column `j` from. -/
def From (j q : ℕ) : Prop :=
  (j < 512 ∧ q = src (j / 64) * 64 + j % 64) ∨ (512 ≤ j ∧ j < 640 ∧ q = j) ∨ (640 ≤ j ∧ j < 768 ∧ q = j) ∨
  (768 ≤ j ∧ j < 1280 ∧ q = j) ∨ (1280 ≤ j ∧ j < 1344 ∧ q = j) ∨ (1344 ≤ j ∧ j < 1352 ∧ q = j) ∨
  (1408 ≤ j ∧ j < 1472 ∧ q + 128 = j) ∨ (1472 ≤ j ∧ j < 1536 ∧ q + 192 = j) ∨ (1536 ≤ j ∧ q + 184 = j)

/-- What the packed weights' column `j` is, entry by entry. -/
def Packs (c : Dev nD) (k : Fin 1024) (j : Fin 2560) (y : EReal) : Prop :=
  (∀ q : Fin 2376, From j.val q.val → y = m (c, Proc.devRef .tc main_arg2) (ix2 k q)) ∧ (1352 ≤ j.val → j.val < 1408 → y = 0)

set_option maxHeartbeats 1000000 in
/-- The packed weights are the layer's columns laid side by side. -/
theorem packs (c : Dev nD) (k : Fin 1024) (j : Fin 2560) :
    Packs m c k j ((V (F := Ideal) m c main_v16 : S1024x2560.Idx → EReal) (ix2 k j)) := by
  have hV : V (F := Ideal) m c main_v16 = StableHlo.after ((hostOps0 (F := Ideal)).drop 19) (early m c) (Proc.devRef .tc main_v16) := by
    show StableHlo.after ((hostOps0 (F := Ideal)).take 19 ++ (hostOps0 (F := Ideal)).drop 19) (fun b => m (c, b)) (Proc.devRef .tc main_v16) = _
    rw [StableHlo.after_append]
    rfl
  rw [hV]
  simp only [hostOps0, List.drop_succ_cons, List.drop_zero]
  after_results_simp
  pointwise
  refine ⟨fun q hq => ?_, fun h1 h2 => ?_⟩
  · rcases hq with h | h | h | h | h | h | h | h | h
    · refine (dif_pos (by omega)).trans ?_
      refine (congrFun (early13 m c) _).trans ?_
      refine congrArg (fun z => m (c, Proc.devRef .tc main_arg2) (ix2 k z)) (Fin.ext ?_)
      exact h.2.symm
    · refine (dif_neg (by omega)).trans ?_
      refine (dif_pos (by omega)).trans ?_
      refine (early1 m c _ _).trans ?_
      refine congrArg (fun z => m (c, Proc.devRef .tc main_arg2) (ix2 k z)) (Fin.ext ?_)
      simp only; omega
    · refine (dif_neg (by omega)).trans ?_
      refine (dif_neg (by omega)).trans ?_
      refine (dif_pos (by omega)).trans ?_
      refine (early2 m c _ _).trans ?_
      refine congrArg (fun z => m (c, Proc.devRef .tc main_arg2) (ix2 k z)) (Fin.ext ?_)
      simp only; omega
    · refine (dif_neg (by omega)).trans ?_
      refine (dif_neg (by omega)).trans ?_
      refine (dif_neg (by omega)).trans ?_
      refine (dif_pos (by omega)).trans ?_
      refine (early3 m c _ _).trans ?_
      refine congrArg (fun z => m (c, Proc.devRef .tc main_arg2) (ix2 k z)) (Fin.ext ?_)
      simp only; omega
    · refine (dif_neg (by omega)).trans ?_
      refine (dif_neg (by omega)).trans ?_
      refine (dif_neg (by omega)).trans ?_
      refine (dif_neg (by omega)).trans ?_
      refine (dif_pos (by omega)).trans ?_
      refine (early4 m c _ _).trans ?_
      refine congrArg (fun z => m (c, Proc.devRef .tc main_arg2) (ix2 k z)) (Fin.ext ?_)
      simp only; omega
    · refine (dif_neg (by omega)).trans ?_
      refine (dif_neg (by omega)).trans ?_
      refine (dif_neg (by omega)).trans ?_
      refine (dif_neg (by omega)).trans ?_
      refine (dif_neg (by omega)).trans ?_
      refine (dif_pos (by omega)).trans ?_
      refine (early5 m c _ _).trans ?_
      refine congrArg (fun z => m (c, Proc.devRef .tc main_arg2) (ix2 k z)) (Fin.ext ?_)
      simp only; omega
    · refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_pos (by omega)).trans ?_
      refine (early4 m c _ _).trans ?_
      refine congrArg (fun z => m (c, Proc.devRef .tc main_arg2) (ix2 k z)) (Fin.ext ?_)
      simp only; omega
    · refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_pos (by omega)).trans ?_
      refine (early4 m c _ _).trans ?_
      refine congrArg (fun z => m (c, Proc.devRef .tc main_arg2) (ix2 k z)) (Fin.ext ?_)
      simp only; omega
    · refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (dif_neg (by omega)).trans ?_
      refine (early6 m c _ _).trans ?_
      refine congrArg (fun z => m (c, Proc.devRef .tc main_arg2) (ix2 k z)) (Fin.ext ?_)
      simp only; omega
  · refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    exact early14 m c _ _

end Cert.ProjIdeal.Value
end
-- ==== Proof.Proj.Blocks.lean ====
module

public import proofs.«01_k».proof.Proof.Gen.ProjIdeal.Value
public import proofs.«01_k».proof.Proof.Proj.Pack
public import Idealize.ShloMosaic.Lib.Pointwise
public import Idealize.ShloMosaic.Lib.Pipeline.ValueKit
public import Idealize.ShloMosaic.Lib.StableHlo
public import Idealize.ShloMosaic.Lib.ValueIdx
public import Idealize.ShloMosaic.Lib.ValueLayout

@[expose] public section

noncomputable section

namespace Cert.ProjIdeal.Value

open Cert.ProjIdeal Cert.ProjIdeal.Gen Idealize.ShloMosaic Idealize.ShloMosaic.TcCoe Idealize.SL.Sem
open Idealize.ShloMosaic.Pipeline (Dat)
open Cert.ProjSpec

variable (m : (ℓ : Loc nD τ sig) → Buf (Elt Ideal) ℓ) (ρ : Dev nD → PrngReg)

/-- The three arguments as launched. -/
abbrev argX (c : Dev nD) : S8x4096x1024.Idx → EReal := m ((c.tc : Thread nD τ).loc main_arg0)
abbrev argG (c : Dev nD) : S1024.Idx → EReal := m ((c.tc : Thread nD τ).loc main_arg1)
abbrev argW (c : Dev nD) : S1024x2376.Idx → EReal := m ((c.tc : Thread nD τ).loc main_arg2)

/-- Row `r` of the block of point `t`, the tokens counted through. -/
def row (t : Fin cfg0.N) (r : Fin 512) : Fin 32768 := ⟨t.val * 512 + r.val, by have := t.isLt; have : cfg0.N = 64 := N_0; omega⟩

theorem V17 (c : Dev nD) (n : Fin 32768) (k : Fin 1024) :
    @Eq EReal ((V (F := Ideal) m c main_v17 : S32768x1024.Idx → EReal) (ix2 n k)) (tok (argX m c) n k) := by
  show (StableHlo.after hostOps0 (fun b => m (c, b)) (Proc.devRef .tc main_v17) : S32768x1024.Idx → EReal) (ix2 n k) = _
  simp only [hostOps0]
  after_results_simp
  pointwise
  rfl

theorem V18 (c : Dev nD) (k : Fin 1024) :
    @Eq EReal ((V (F := Ideal) m c main_v18 : S1x1024.Idx → EReal) (ix2 0 k)) (argG m c (ix1 k)) := by
  show (StableHlo.after hostOps0 (fun b => m (c, b)) (Proc.devRef .tc main_v18) : S1x1024.Idx → EReal) (ix2 0 k) = _
  simp only [hostOps0]
  after_results_simp
  pointwise

/-- Where the blocks of the windows start. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)

theorem blk0 (c : Dev nD) (t : Fin cfg0.N) (r : Fin 512) (k : Fin 1024) :
    @Eq EReal ((iblk (F := Ideal) m c 0 t : S512x1024.Idx → EReal) (ix2 r k)) (tok (argX m c) (row t r) k) := by
  refine Eq.trans ?_ (V17 m c (row t r) k)
  show V m c main_v17 (((cfg0.win 0).blk t).view.emb (ix2 r k)) = _
  refine congrArg (V m c main_v17) ?_
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem blk1 (c : Dev nD) (t : Fin cfg0.N) (k : Fin 1024) :
    @Eq EReal ((iblk (F := Ideal) m c 1 t : S1x1024.Idx → EReal) (ix2 0 k)) (argG m c (ix1 k)) := by
  refine Eq.trans ?_ (V18 m c k)
  show V m c main_v18 (((cfg0.win 1).blk t).view.emb (ix2 0 k)) = _
  refine congrArg (V m c main_v18) ?_
  obtain ⟨e0, e1⟩ := idx1 t
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem blk2 (c : Dev nD) (t : Fin cfg0.N) (k : Fin 1024) (j : Fin 2560) :
    Packs m c k j ((iblk (F := Ideal) m c 2 t : S1024x2560.Idx → EReal) (ix2 k j)) := by
  refine Eq.subst ?_ (packs m c k j)
  show _ = V m c main_v16 (((cfg0.win 2).blk t).view.emb (ix2 k j))
  refine congrArg (V m c main_v16) ?_
  obtain ⟨e0, e1⟩ := idx2 t
  funext a; apply Fin.ext
  match a with
  | ⟨0, _⟩ => show k.val = win0_2.index t (0 : Fin 2) * 1024 + 1 * k.val; omega
  | ⟨1, _⟩ => show j.val = win0_2.index t (1 : Fin 2) * 2560 + 1 * j.val; omega

/-- The normalised row. -/
theorem norm_row (c : Dev nD) (t : Fin cfg0.N) (r : Fin 512) (k : Fin 1024) :
    @Eq EReal ((k0_pay2 (F := Ideal) (iblk m c 0 t) (iblk m c 1 t) : S512x1024.Idx → EReal) (ix2 r k))
      (hid (argX m c) (argG m c) (row t r) k) := by
  unfold k0_pay2
  pointwise
  simp only [blk0, blk1]
  rfl

theorem from_same {j : ℕ} (h1 : 512 ≤ j) (h2 : j < 1352) : From j j := by
  by_cases a : j < 640
  · exact .inr (.inl ⟨h1, a, rfl⟩)
  by_cases b : j < 768
  · exact .inr (.inr (.inl ⟨by omega, b, rfl⟩))
  by_cases d : j < 1280
  · exact .inr (.inr (.inr (.inl ⟨by omega, d, rfl⟩)))
  by_cases e : j < 1344
  · exact .inr (.inr (.inr (.inr (.inl ⟨by omega, e, rfl⟩))))
  · exact .inr (.inr (.inr (.inr (.inr (.inl ⟨by omega, h2, rfl⟩)))))

theorem from_first {j q : ℕ} (h1 : 1408 ≤ j) (h2 : j < 1472) (h : q + 128 = j) : From j q :=
  .inr (.inr (.inr (.inr (.inr (.inr (.inl ⟨h1, h2, h⟩))))))

theorem from_second {j q : ℕ} (h1 : 1472 ≤ j) (h2 : j < 1536) (h : q + 192 = j) : From j q :=
  .inr (.inr (.inr (.inr (.inr (.inr (.inr (.inl ⟨h1, h2, h⟩)))))))

theorem from_gates {j q : ℕ} (h1 : 1536 ≤ j) (h : q + 184 = j) : From j q :=
  .inr (.inr (.inr (.inr (.inr (.inr (.inr (.inr ⟨h1, h⟩)))))))

/-- One column of a row's product with the packed weights. -/
theorem dot_col (c : Dev nD) (t : Fin cfg0.N) (r : Fin 512) (j : Fin 2560) (q : Fin 2376) (h : From j.val q.val) :
    @Eq EReal (∑ x, (k0_pay2 (F := Ideal) (iblk m c 0 t) (iblk m c 1 t) : S512x1024.Idx → EReal) (ix2 r x) *
        (iblk (F := Ideal) m c 2 t : S1024x2560.Idx → EReal) (ix2 x j))
      (zed (argX m c) (argG m c) (argW m c) (row t r) q) :=
  Finset.sum_congr rfl fun x _ => by rw [norm_row, (blk2 m c t x j).1 q h]

theorem dot_zero (c : Dev nD) (t : Fin cfg0.N) (r : Fin 512) (j : Fin 2560) (h1 : 1352 ≤ j.val) (h2 : j.val < 1408) :
    @Eq EReal (∑ x, (k0_pay2 (F := Ideal) (iblk m c 0 t) (iblk m c 1 t) : S512x1024.Idx → EReal) (ix2 r x) *
        (iblk (F := Ideal) m c 2 t : S1024x2560.Idx → EReal) (ix2 x j)) 0 :=
  Finset.sum_eq_zero fun x _ => by rw [(blk2 m c t x j).2 h1 h2, mul_zero]

end Cert.ProjIdeal.Value
end
-- ==== Proof.Proj.Out.lean ====
module

public import proofs.«01_k».proof.Proof.Gen.ProjIdeal.Value
public import proofs.«01_k».proof.Proof.Proj.Blocks
public import Idealize.ShloMosaic.Lib.Pointwise
public import Idealize.ShloMosaic.Lib.Pipeline.ValueKit
public import Idealize.ShloMosaic.Lib.StableHlo
public import Idealize.ShloMosaic.Lib.ValueIdx
public import Idealize.ShloMosaic.Lib.ValueLayout

@[expose] public section

noncomputable section

namespace Cert.ProjIdeal.Value

open Cert.ProjIdeal Cert.ProjIdeal.Gen Idealize.ShloMosaic Idealize.ShloMosaic.TcCoe Idealize.SL.Sem
open Idealize.ShloMosaic.Pipeline (Dat)
open Cert.ProjSpec

variable (m : (ℓ : Loc nD τ sig) → Buf (Elt Ideal) ℓ) (ρ : Dev nD → PrngReg)

theorem idx3 : ∀ t : Fin cfg0.N, win0_3.index t (0 : Fin 2) = t.val ∧ win0_3.index t (1 : Fin 2) = 0 := (by decide +kernel : ∀ t : Fin grid0.N, _)

/-- The queries after the run. -/
theorem final3 (c : Dev nD) : @Eq (S32768x512.Idx → EReal) ((dats (F := Ideal) m 0 c).arrAt 3 cfg0.N)
    (fun i => query (argX m c) (argG m c) (argW m c) (i 0) (i 1)) := by
  refine (dats m 0 c).arrAt_eq_of_covers 3 _ (by decide +kernel) fun t hf y => ?_
  blk_simp
  rw [after0_3]
  unfold_out out0_3
  frame_out
  idx_vars y
  obtain ⟨e0, e1⟩ := idx3 t
  refine Eq.trans ?_ (congrArg₂ (query (argX m c) (argG m c) (argW m c)) (show row t y0 = _ from Fin.ext (show t.val * 512 + y0.val = win0_3.index t (0 : Fin 2) * 512 + 1 * y0.val by omega))
    (show y1 = _ from Fin.ext (show y1.val = win0_3.index t (1 : Fin 2) * 512 + 1 * y1.val by omega)))
  pointwise [k0_pay3]
  refine Eq.trans ?_ (congrArg (fun z => z * _) (dot_col m c t y0 ⟨y1.val, by omega⟩ ⟨src (y1.val / 64) * 64 + y1.val % 64, by have := src_lt y1.isLt; omega⟩
    (.inl ⟨y1.isLt, rfl⟩)))
  rfl

theorem idx4 : ∀ t : Fin cfg0.N, win0_4.index t (0 : Fin 2) = t.val ∧ win0_4.index t (1 : Fin 2) = 0 := (by decide +kernel : ∀ t : Fin grid0.N, _)

/-- The keys after the run. -/
theorem final4 (c : Dev nD) : @Eq (S32768x128.Idx → EReal) ((dats (F := Ideal) m 0 c).arrAt 4 cfg0.N)
    (fun i => col (argX m c) (argG m c) (argW m c) 512 128 (by decide) (i 0) (i 1)) := by
  refine (dats m 0 c).arrAt_eq_of_covers 4 _ (by decide +kernel) fun t hf y => ?_
  blk_simp
  rw [after0_4]
  unfold_out out0_4
  frame_out
  idx_vars y
  obtain ⟨e0, e1⟩ := idx4 t
  refine Eq.trans ?_ (congrArg₂ (col (argX m c) (argG m c) (argW m c) 512 128 (by decide)) (show row t y0 = _ from Fin.ext (show t.val * 512 + y0.val = win0_4.index t (0 : Fin 2) * 512 + 1 * y0.val by omega))
    (show y1 = _ from Fin.ext (show y1.val = win0_4.index t (1 : Fin 2) * 128 + 1 * y1.val by omega)))
  pointwise [k0_pay4]
  exact dot_col m c t y0 ⟨512 + y1.val, by omega⟩ ⟨512 + y1.val, by omega⟩ (from_same (Nat.le_add_right_of_le (by decide)) (show 512 + y1.val < 1352 by omega))

theorem idx5 : ∀ t : Fin cfg0.N, win0_5.index t (0 : Fin 2) = t.val ∧ win0_5.index t (1 : Fin 2) = 0 := (by decide +kernel : ∀ t : Fin grid0.N, _)

/-- The values after the run. -/
theorem final5 (c : Dev nD) : @Eq (S32768x128.Idx → EReal) ((dats (F := Ideal) m 0 c).arrAt 5 cfg0.N)
    (fun i => col (argX m c) (argG m c) (argW m c) 640 128 (by decide) (i 0) (i 1)) := by
  refine (dats m 0 c).arrAt_eq_of_covers 5 _ (by decide +kernel) fun t hf y => ?_
  blk_simp
  rw [after0_5]
  unfold_out out0_5
  frame_out
  idx_vars y
  obtain ⟨e0, e1⟩ := idx5 t
  refine Eq.trans ?_ (congrArg₂ (col (argX m c) (argG m c) (argW m c) 640 128 (by decide)) (show row t y0 = _ from Fin.ext (show t.val * 512 + y0.val = win0_5.index t (0 : Fin 2) * 512 + 1 * y0.val by omega))
    (show y1 = _ from Fin.ext (show y1.val = win0_5.index t (1 : Fin 2) * 128 + 1 * y1.val by omega)))
  pointwise [k0_pay5]
  exact dot_col m c t y0 ⟨640 + y1.val, by omega⟩ ⟨640 + y1.val, by omega⟩ (from_same (Nat.le_add_right_of_le (by decide)) (show 640 + y1.val < 1352 by omega))

theorem idx6 : ∀ t : Fin cfg0.N, win0_6.index t (0 : Fin 2) = t.val ∧ win0_6.index t (1 : Fin 2) = 0 := (by decide +kernel : ∀ t : Fin grid0.N, _)

/-- The keys in the narrow format after the run. -/
theorem final6 (c : Dev nD) : @Eq (S32768x128.Idx → EReal) ((dats (F := Ideal) m 0 c).arrAt 6 cfg0.N)
    (fun i => col (argX m c) (argG m c) (argW m c) 512 128 (by decide) (i 0) (i 1)) := by
  refine (dats m 0 c).arrAt_eq_of_covers 6 _ (by decide +kernel) fun t hf y => ?_
  blk_simp
  rw [after0_6]
  unfold_out out0_6
  frame_out
  idx_vars y
  obtain ⟨e0, e1⟩ := idx6 t
  refine Eq.trans ?_ (congrArg₂ (col (argX m c) (argG m c) (argW m c) 512 128 (by decide)) (show row t y0 = _ from Fin.ext (show t.val * 512 + y0.val = win0_6.index t (0 : Fin 2) * 512 + 1 * y0.val by omega))
    (show y1 = _ from Fin.ext (show y1.val = win0_6.index t (1 : Fin 2) * 128 + 1 * y1.val by omega)))
  pointwise [k0_pay6, k0_pay4]
  exact dot_col m c t y0 ⟨512 + y1.val, by omega⟩ ⟨512 + y1.val, by omega⟩ (from_same (Nat.le_add_right_of_le (by decide)) (show 512 + y1.val < 1352 by omega))

theorem idx7 : ∀ t : Fin cfg0.N, win0_7.index t (0 : Fin 2) = t.val ∧ win0_7.index t (1 : Fin 2) = 0 := (by decide +kernel : ∀ t : Fin grid0.N, _)

/-- The values in the narrow format after the run. -/
theorem final7 (c : Dev nD) : @Eq (S32768x128.Idx → EReal) ((dats (F := Ideal) m 0 c).arrAt 7 cfg0.N)
    (fun i => col (argX m c) (argG m c) (argW m c) 640 128 (by decide) (i 0) (i 1)) := by
  refine (dats m 0 c).arrAt_eq_of_covers 7 _ (by decide +kernel) fun t hf y => ?_
  blk_simp
  rw [after0_7]
  unfold_out out0_7
  frame_out
  idx_vars y
  obtain ⟨e0, e1⟩ := idx7 t
  refine Eq.trans ?_ (congrArg₂ (col (argX m c) (argG m c) (argW m c) 640 128 (by decide)) (show row t y0 = _ from Fin.ext (show t.val * 512 + y0.val = win0_7.index t (0 : Fin 2) * 512 + 1 * y0.val by omega))
    (show y1 = _ from Fin.ext (show y1.val = win0_7.index t (1 : Fin 2) * 128 + 1 * y1.val by omega)))
  pointwise [k0_pay7, k0_pay5]
  exact dot_col m c t y0 ⟨640 + y1.val, by omega⟩ ⟨640 + y1.val, by omega⟩ (from_same (Nat.le_add_right_of_le (by decide)) (show 640 + y1.val < 1352 by omega))

theorem idx8 : ∀ t : Fin cfg0.N, win0_8.index t (0 : Fin 2) = t.val ∧ win0_8.index t (1 : Fin 2) = 0 := (by decide +kernel : ∀ t : Fin grid0.N, _)

/-- The indexer's queries after the run. -/
theorem final8 (c : Dev nD) : @Eq (S32768x512.Idx → EReal) ((dats (F := Ideal) m 0 c).arrAt 8 cfg0.N)
    (fun i => col (argX m c) (argG m c) (argW m c) 768 512 (by decide) (i 0) (i 1)) := by
  refine (dats m 0 c).arrAt_eq_of_covers 8 _ (by decide +kernel) fun t hf y => ?_
  blk_simp
  rw [after0_8]
  unfold_out out0_8
  frame_out
  idx_vars y
  obtain ⟨e0, e1⟩ := idx8 t
  refine Eq.trans ?_ (congrArg₂ (col (argX m c) (argG m c) (argW m c) 768 512 (by decide)) (show row t y0 = _ from Fin.ext (show t.val * 512 + y0.val = win0_8.index t (0 : Fin 2) * 512 + 1 * y0.val by omega))
    (show y1 = _ from Fin.ext (show y1.val = win0_8.index t (1 : Fin 2) * 512 + 1 * y1.val by omega)))
  pointwise [k0_pay8, k0_pay14]
  exact dot_col m c t y0 ⟨768 + y1.val, by omega⟩ ⟨768 + y1.val, by omega⟩ (from_same (Nat.le_add_right_of_le (by decide)) (show 768 + y1.val < 1352 by omega))

theorem idx9 : ∀ t : Fin cfg0.N, win0_9.index t (0 : Fin 2) = t.val ∧ win0_9.index t (1 : Fin 2) = 0 := (by decide +kernel : ∀ t : Fin grid0.N, _)

/-- The indexer's keys after the run. -/
theorem final9 (c : Dev nD) : @Eq (S32768x64.Idx → EReal) ((dats (F := Ideal) m 0 c).arrAt 9 cfg0.N)
    (fun i => col (argX m c) (argG m c) (argW m c) 1280 64 (by decide) (i 0) (i 1)) := by
  refine (dats m 0 c).arrAt_eq_of_covers 9 _ (by decide +kernel) fun t hf y => ?_
  blk_simp
  rw [after0_9]
  unfold_out out0_9
  frame_out
  idx_vars y
  obtain ⟨e0, e1⟩ := idx9 t
  refine Eq.trans ?_ (congrArg₂ (col (argX m c) (argG m c) (argW m c) 1280 64 (by decide)) (show row t y0 = _ from Fin.ext (show t.val * 512 + y0.val = win0_9.index t (0 : Fin 2) * 512 + 1 * y0.val by omega))
    (show y1 = _ from Fin.ext (show y1.val = win0_9.index t (1 : Fin 2) * 64 + 1 * y1.val by omega)))
  pointwise [k0_pay10, k0_pay9, k0_pay14]
  exact dot_col m c t y0 ⟨1280 + y1.val, by omega⟩ ⟨1280 + y1.val, by omega⟩ (from_same (Nat.le_add_right_of_le (by decide)) (show 1280 + y1.val < 1352 by omega))

theorem idx10 : ∀ t : Fin cfg0.N, win0_10.index t (0 : Fin 2) = t.val ∧ win0_10.index t (1 : Fin 2) = 0 := (by decide +kernel : ∀ t : Fin grid0.N, _)

/-- The indexer's keys twice over after the run. -/
theorem final10 (c : Dev nD) : @Eq (S32768x128.Idx → EReal) ((dats (F := Ideal) m 0 c).arrAt 10 cfg0.N)
    (fun i => twice (argX m c) (argG m c) (argW m c) (i 0) (i 1)) := by
  refine (dats m 0 c).arrAt_eq_of_covers 10 _ (by decide +kernel) fun t hf y => ?_
  blk_simp
  rw [after0_10]
  unfold_out out0_10
  frame_out
  idx_vars y
  obtain ⟨e0, e1⟩ := idx10 t
  refine Eq.trans ?_ (congrArg₂ (twice (argX m c) (argG m c) (argW m c)) (show row t y0 = _ from Fin.ext (show t.val * 512 + y0.val = win0_10.index t (0 : Fin 2) * 512 + 1 * y0.val by omega))
    (show y1 = _ from Fin.ext (show y1.val = win0_10.index t (1 : Fin 2) * 128 + 1 * y1.val by omega)))
  pointwise [k0_pay11, k0_pay14]
  by_cases h : y1.val < 64
  · exact dot_col m c t y0 ⟨1408 + y1.val, by omega⟩ ⟨1280 + y1.val % 64, by omega⟩
      (from_first (Nat.le_add_right_of_le (by decide)) (show 1408 + y1.val < 1472 by omega) (show 1280 + y1.val % 64 + 128 = 1408 + y1.val by omega))
  · exact dot_col m c t y0 ⟨1408 + y1.val, by omega⟩ ⟨1280 + y1.val % 64, by omega⟩
      (from_second (show 1472 ≤ 1408 + y1.val by omega) (show 1408 + y1.val < 1536 by omega) (show 1280 + y1.val % 64 + 192 = 1408 + y1.val by omega))

theorem idx11 : ∀ t : Fin cfg0.N, win0_11.index t (0 : Fin 2) = t.val ∧ win0_11.index t (1 : Fin 2) = 0 := (by decide +kernel : ∀ t : Fin grid0.N, _)

/-- The indexer's keys and head weights after the run. -/
theorem final11 (c : Dev nD) : @Eq (S32768x128.Idx → EReal) ((dats (F := Ideal) m 0 c).arrAt 11 cfg0.N)
    (fun i => keyW (argX m c) (argG m c) (argW m c) (i 0) (i 1)) := by
  refine (dats m 0 c).arrAt_eq_of_covers 11 _ (by decide +kernel) fun t hf y => ?_
  blk_simp
  rw [after0_11]
  unfold_out out0_11
  frame_out
  idx_vars y
  obtain ⟨e0, e1⟩ := idx11 t
  refine Eq.trans ?_ (congrArg₂ (keyW (argX m c) (argG m c) (argW m c)) (show row t y0 = _ from Fin.ext (show t.val * 512 + y0.val = win0_11.index t (0 : Fin 2) * 512 + 1 * y0.val by omega))
    (show y1 = _ from Fin.ext (show y1.val = win0_11.index t (1 : Fin 2) * 128 + 1 * y1.val by omega)))
  pointwise [k0_pay9, k0_pay14]
  unfold keyW
  by_cases h : y1.val < 72
  · rw [if_pos h]
    have e : y1.val % 72 = y1.val := Nat.mod_eq_of_lt h
    refine Eq.trans ?_ (dot_col m c t y0 ⟨1280 + y1.val, by omega⟩ ⟨1280 + y1.val % 72, by omega⟩
      (show From (1280 + y1.val) (1280 + y1.val % 72) from e.symm ▸ from_same (Nat.le_add_right_of_le (by decide)) (by omega)))
    rfl
  · rw [if_neg h]
    exact dot_zero m c t y0 ⟨1280 + y1.val, by omega⟩ (show 1352 ≤ 1280 + y1.val by omega) (show 1280 + y1.val < 1408 by omega)

theorem idx12 : ∀ t : Fin cfg0.N, win0_12.index t (0 : Fin 2) = t.val ∧ win0_12.index t (1 : Fin 2) = 0 := (by decide +kernel : ∀ t : Fin grid0.N, _)

/-- The recurrence's input after the run. -/
theorem final12 (c : Dev nD) : @Eq (S32768x512.Idx → EReal) ((dats (F := Ideal) m 0 c).arrAt 12 cfg0.N)
    (fun i => col (argX m c) (argG m c) (argW m c) 1352 512 (by decide) (i 0) (i 1)) := by
  refine (dats m 0 c).arrAt_eq_of_covers 12 _ (by decide +kernel) fun t hf y => ?_
  blk_simp
  rw [after0_12]
  unfold_out out0_12
  frame_out
  idx_vars y
  obtain ⟨e0, e1⟩ := idx12 t
  refine Eq.trans ?_ (congrArg₂ (col (argX m c) (argG m c) (argW m c) 1352 512 (by decide)) (show row t y0 = _ from Fin.ext (show t.val * 512 + y0.val = win0_12.index t (0 : Fin 2) * 512 + 1 * y0.val by omega))
    (show y1 = _ from Fin.ext (show y1.val = win0_12.index t (1 : Fin 2) * 512 + 1 * y1.val by omega)))
  pointwise [k0_pay12, k0_pay14]
  exact dot_col m c t y0 ⟨1536 + y1.val, by omega⟩ ⟨1352 + y1.val, by omega⟩ (from_gates (Nat.le_add_right_of_le (by decide)) (show 1352 + y1.val + 184 = 1536 + y1.val by omega))

theorem idx13 : ∀ t : Fin cfg0.N, win0_13.index t (0 : Fin 2) = t.val ∧ win0_13.index t (1 : Fin 2) = 0 := (by decide +kernel : ∀ t : Fin grid0.N, _)

/-- The recurrence's gate after the run. -/
theorem final13 (c : Dev nD) : @Eq (S32768x512.Idx → EReal) ((dats (F := Ideal) m 0 c).arrAt 13 cfg0.N)
    (fun i => col (argX m c) (argG m c) (argW m c) 1864 512 (by decide) (i 0) (i 1)) := by
  refine (dats m 0 c).arrAt_eq_of_covers 13 _ (by decide +kernel) fun t hf y => ?_
  blk_simp
  rw [after0_13]
  unfold_out out0_13
  frame_out
  idx_vars y
  obtain ⟨e0, e1⟩ := idx13 t
  refine Eq.trans ?_ (congrArg₂ (col (argX m c) (argG m c) (argW m c) 1864 512 (by decide)) (show row t y0 = _ from Fin.ext (show t.val * 512 + y0.val = win0_13.index t (0 : Fin 2) * 512 + 1 * y0.val by omega))
    (show y1 = _ from Fin.ext (show y1.val = win0_13.index t (1 : Fin 2) * 512 + 1 * y1.val by omega)))
  pointwise [k0_pay1, k0_pay13, k0_pay14]
  exact dot_col m c t y0 ⟨2048 + y1.val, by omega⟩ ⟨1864 + y1.val, by omega⟩ (from_gates (Nat.le_add_right_of_le (by decide)) (show 1864 + y1.val + 184 = 2048 + y1.val by omega))

/-- The run, every result entry by entry and the arguments kept. -/
theorem run_spec : θ_run defs (onTc (τ := τ) (main (F := Ideal))) ⟨m, fun _ => 0, ρ⟩ fun r => ∀ c : Dev nD,
      @Eq (S32768x512.Idx → EReal) (r.2.mem ((c.tc : Thread nD τ).loc main_v19_0))
        (fun i => query (argX m c) (argG m c) (argW m c) (i 0) (i 1))
      ∧ @Eq (S32768x128.Idx → EReal) (r.2.mem ((c.tc : Thread nD τ).loc main_v19_1))
        (fun i => col (argX m c) (argG m c) (argW m c) 512 128 (by decide) (i 0) (i 1))
      ∧ @Eq (S32768x128.Idx → EReal) (r.2.mem ((c.tc : Thread nD τ).loc main_v19_2))
        (fun i => col (argX m c) (argG m c) (argW m c) 640 128 (by decide) (i 0) (i 1))
      ∧ @Eq (S32768x128.Idx → EReal) (r.2.mem ((c.tc : Thread nD τ).loc main_v19_3))
        (fun i => col (argX m c) (argG m c) (argW m c) 512 128 (by decide) (i 0) (i 1))
      ∧ @Eq (S32768x128.Idx → EReal) (r.2.mem ((c.tc : Thread nD τ).loc main_v19_4))
        (fun i => col (argX m c) (argG m c) (argW m c) 640 128 (by decide) (i 0) (i 1))
      ∧ @Eq (S32768x512.Idx → EReal) (r.2.mem ((c.tc : Thread nD τ).loc main_v19_5))
        (fun i => col (argX m c) (argG m c) (argW m c) 768 512 (by decide) (i 0) (i 1))
      ∧ @Eq (S32768x64.Idx → EReal) (r.2.mem ((c.tc : Thread nD τ).loc main_v19_6))
        (fun i => col (argX m c) (argG m c) (argW m c) 1280 64 (by decide) (i 0) (i 1))
      ∧ @Eq (S32768x128.Idx → EReal) (r.2.mem ((c.tc : Thread nD τ).loc main_v19_7))
        (fun i => twice (argX m c) (argG m c) (argW m c) (i 0) (i 1))
      ∧ @Eq (S32768x128.Idx → EReal) (r.2.mem ((c.tc : Thread nD τ).loc main_v19_8))
        (fun i => keyW (argX m c) (argG m c) (argW m c) (i 0) (i 1))
      ∧ @Eq (S32768x512.Idx → EReal) (r.2.mem ((c.tc : Thread nD τ).loc main_v19_9))
        (fun i => col (argX m c) (argG m c) (argW m c) 1352 512 (by decide) (i 0) (i 1))
      ∧ @Eq (S32768x512.Idx → EReal) (r.2.mem ((c.tc : Thread nD τ).loc main_v19_10))
        (fun i => col (argX m c) (argG m c) (argW m c) 1864 512 (by decide) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h3, h4, h5, h6, h7, h8, h9, h10, h11, h12, h13, ha⟩ := h c
    exact ⟨h3.trans (final3 m c), h4.trans (final4 m c), h5.trans (final5 m c), h6.trans (final6 m c), h7.trans (final7 m c), h8.trans (final8 m c), h9.trans (final9 m c), h10.trans (final10 m c), h11.trans (final11 m c), h12.trans (final12 m c), h13.trans (final13 m c), ha⟩)
    (run_blocks m ρ)

end Cert.ProjIdeal.Value
end
-- ==== Proof.Proj.Ref.lean ====
/- The reference's run, its results said index by index. -/
module

public import proofs.«01_k».proof.Proof.Proj.Spec
public import proofs.«01_k».proof.Proof.Gen.ProjRefIdeal.Run
public import Idealize.ShloMosaic.Lib.Pointwise
public import Idealize.ShloMosaic.Lib.StableHlo

@[expose] public section

noncomputable section

namespace Cert.ProjRefIdeal.Value

open Cert.ProjRefIdeal Cert.ProjRefIdeal.Gen Idealize.ShloMosaic Idealize.ShloMosaic.TcCoe Idealize.SL.Sem Idealize.ShloMosaic.StableHlo Cert.ProjSpec

variable (m : (ℓ : Loc nD τ sig) → Buf (Elt Ideal) ℓ) (ρ : Dev nD → PrngReg)

/-- Every result of the reference, entry by entry, and the arguments kept. -/
theorem run_spec : θ_run defs (onTc (τ := τ) (main (F := Ideal))) ⟨m, fun _ => 0, ρ⟩ fun r => ∀ c : Dev nD,
      @Eq (S32768x512.Idx → EReal) (r.2.mem ((c.tc : Thread nD τ).loc main_v31))
        (fun i => query (m ((c.tc : Thread nD τ).loc main_arg0)) (m ((c.tc : Thread nD τ).loc main_arg1)) (m ((c.tc : Thread nD τ).loc main_arg2)) (i 0) (i 1))
      ∧ @Eq (S32768x128.Idx → EReal) (r.2.mem ((c.tc : Thread nD τ).loc main_v16))
        (fun i => col (m ((c.tc : Thread nD τ).loc main_arg0)) (m ((c.tc : Thread nD τ).loc main_arg1)) (m ((c.tc : Thread nD τ).loc main_arg2)) 512 128 (by decide) (i 0) (i 1))
      ∧ @Eq (S32768x128.Idx → EReal) (r.2.mem ((c.tc : Thread nD τ).loc main_v17))
        (fun i => col (m ((c.tc : Thread nD τ).loc main_arg0)) (m ((c.tc : Thread nD τ).loc main_arg1)) (m ((c.tc : Thread nD τ).loc main_arg2)) 640 128 (by decide) (i 0) (i 1))
      ∧ @Eq (S32768x128.Idx → EReal) (r.2.mem ((c.tc : Thread nD τ).loc main_v32))
        (fun i => col (m ((c.tc : Thread nD τ).loc main_arg0)) (m ((c.tc : Thread nD τ).loc main_arg1)) (m ((c.tc : Thread nD τ).loc main_arg2)) 512 128 (by decide) (i 0) (i 1))
      ∧ @Eq (S32768x128.Idx → EReal) (r.2.mem ((c.tc : Thread nD τ).loc main_v33))
        (fun i => col (m ((c.tc : Thread nD τ).loc main_arg0)) (m ((c.tc : Thread nD τ).loc main_arg1)) (m ((c.tc : Thread nD τ).loc main_arg2)) 640 128 (by decide) (i 0) (i 1))
      ∧ @Eq (S32768x512.Idx → EReal) (r.2.mem ((c.tc : Thread nD τ).loc main_v34))
        (fun i => col (m ((c.tc : Thread nD τ).loc main_arg0)) (m ((c.tc : Thread nD τ).loc main_arg1)) (m ((c.tc : Thread nD τ).loc main_arg2)) 768 512 (by decide) (i 0) (i 1))
      ∧ @Eq (S32768x64.Idx → EReal) (r.2.mem ((c.tc : Thread nD τ).loc main_v19))
        (fun i => col (m ((c.tc : Thread nD τ).loc main_arg0)) (m ((c.tc : Thread nD τ).loc main_arg1)) (m ((c.tc : Thread nD τ).loc main_arg2)) 1280 64 (by decide) (i 0) (i 1))
      ∧ @Eq (S32768x128.Idx → EReal) (r.2.mem ((c.tc : Thread nD τ).loc main_v35))
        (fun i => twice (m ((c.tc : Thread nD τ).loc main_arg0)) (m ((c.tc : Thread nD τ).loc main_arg1)) (m ((c.tc : Thread nD τ).loc main_arg2)) (i 0) (i 1))
      ∧ @Eq (S32768x128.Idx → EReal) (r.2.mem ((c.tc : Thread nD τ).loc main_v29))
        (fun i => keyW (m ((c.tc : Thread nD τ).loc main_arg0)) (m ((c.tc : Thread nD τ).loc main_arg1)) (m ((c.tc : Thread nD τ).loc main_arg2)) (i 0) (i 1))
      ∧ @Eq (S32768x512.Idx → EReal) (r.2.mem ((c.tc : Thread nD τ).loc main_v21))
        (fun i => col (m ((c.tc : Thread nD τ).loc main_arg0)) (m ((c.tc : Thread nD τ).loc main_arg1)) (m ((c.tc : Thread nD τ).loc main_arg2)) 1352 512 (by decide) (i 0) (i 1))
      ∧ @Eq (S32768x512.Idx → EReal) (r.2.mem ((c.tc : Thread nD τ).loc main_v22))
        (fun i => col (m ((c.tc : Thread nD τ).loc main_arg0)) (m ((c.tc : Thread nD τ).loc main_arg1)) (m ((c.tc : Thread nD τ).loc main_arg2)) 1864 512 (by decide) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h31, h16, h17, h32, h33, h34, h19, h35, h29, h21, h22, ha⟩ := h c
    refine ⟨h31.trans ?_, h16.trans ?_, h17.trans ?_, h32.trans ?_, h33.trans ?_, h34.trans ?_, h19.trans ?_, h35.trans ?_,
      h29.trans ?_, h21.trans ?_, h22.trans ?_, ha⟩
    all_goals clear h31 h16 h17 h32 h33 h34 h19 h35 h29 h21 h22 ha h r; funext i; idx_vars i; pointwise
    · refine congrArg (fun z => zed _ _ _ _ z * _) (Fin.ext ?_)
      simp only [src]
      omega
    all_goals try rfl
    · by_cases h : i1.val < 64
      · refine (dif_pos h).trans ?_
        refine congrArg (zed _ _ _ _) (Fin.ext ?_)
        simp only
        omega
      · refine (dif_neg h).trans ?_
        refine congrArg (zed _ _ _ _) (Fin.ext ?_)
        simp only
        omega
    · unfold keyW
      by_cases h : i1.val < 64
      · refine (dif_pos h).trans (Eq.trans ?_ (if_pos (by omega)).symm)
        refine congrArg (zed _ _ _ _) (Fin.ext ?_)
        simp only
        omega
      · refine (dif_neg h).trans ?_
        by_cases h' : i1.val - 64 < 8
        · refine (dif_pos h').trans (Eq.trans ?_ (if_pos (by omega)).symm)
          refine congrArg (zed _ _ _ _) (Fin.ext ?_)
          simp only
          omega
        · exact (dif_neg h').trans (if_neg (by omega)).symm)
    (run m ρ)

end Cert.ProjRefIdeal.Value
end
-- ==== Proof.Proj.Claims.lean ====
/- The projection's claims: the reference's frame, and that the kernel and the reference compute the same arrays. -/
module

public import proofs.«01_k».proof.Defs
public import proofs.«01_k».proof.Proof.Proj.Out
public import proofs.«01_k».proof.Proof.Proj.Ref
public import Idealize.ShloMosaic.Lib.Quiescent

@[expose] public section

noncomputable section

namespace Cert.ProjSpec

open Idealize.ShloMosaic Idealize.SL.Sem

/-- The reference declares no semaphore, and its run keeps its arguments. -/
theorem frame_ref : Cert.quiescent_ProjRefIdeal := fun m ρ _ =>
  (θ_run _ _ _).mono (fun _ h => ⟨fun c => (h c).2.2.2.2.2.2.2.2.2.2.2, sem_eq_zero_of_no_sems rfl _⟩) (Cert.ProjRefIdeal.Value.run_spec m ρ)

/-- Both programs end with the same eleven arrays. -/
theorem algebraic : Cert.algebraic_ProjIdeal_ProjRefIdeal := by
  intro m g m' g' _ hagree
  have hr := Cert.ProjRefIdeal.Value.run_spec m' g'
  have e0 : ∀ c : Dev Cert.ProjIdeal.nD, m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0) := fun c => (hagree c).1
  have e1 : ∀ c : Dev Cert.ProjIdeal.nD, m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1) := fun c => (hagree c).2.1
  have e2 : ∀ c : Dev Cert.ProjIdeal.nD, m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2) := fun c => (hagree c).2.2
  refine ⟨_, _, _, _, _, _, _, _, _, _, _, Cert.ProjIdeal.Value.run_spec m g, (θ_run _ _ _).mono (fun r h c => ?_) hr⟩
  have hc := h c
  rw [e0 c, e1 c, e2 c] at hc
  rw [e0 c, e1 c, e2 c]
  exact hc

end Cert.ProjSpec
end
-- ==== Proof.lean ====
module

public import proofs.«01_k».proof.Defs
public import proofs.«01_k».proof.Proof.Gen.Rglru
public import proofs.«01_k».proof.Proof.Gen.Rglru.Skeleton
public import proofs.«01_k».proof.Proof.Gen.Rglru.Loops
public import proofs.«01_k».proof.Proof.Gen.Rglru.Launch
public import proofs.«01_k».proof.Proof.Gen.Rglru.Points
public import proofs.«01_k».proof.Proof.Gen.Rglru.Frame
public import proofs.«01_k».proof.Proof.Gen.RglruIdeal
public import proofs.«01_k».proof.Proof.Gen.RglruIdeal.Skeleton
public import proofs.«01_k».proof.Proof.Gen.RglruIdeal.Loops
public import proofs.«01_k».proof.Proof.Gen.RglruIdeal.Launch
public import proofs.«01_k».proof.Proof.Gen.RglruIdeal.Points
public import proofs.«01_k».proof.Proof.Gen.RglruIdeal.Frame
public import proofs.«01_k».proof.Proof.Gen.RglruRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.RglruRefIdeal.Run
public import proofs.«01_k».proof.Proof.Gen.FfnRefIdeal.Run
public import proofs.«01_k».proof.Proof.Gen.ProjRefIdeal.Run
public import Idealize.ShloMosaic.Adequacy
public import Idealize.ShloMosaic.Init
public import proofs.«01_k».proof.Proof.RglruWords.Frame
public import proofs.«01_k».proof.Proof.Rglru.Claims
public import proofs.«01_k».proof.Proof.FfnWords.Frame
public import proofs.«01_k».proof.Proof.Ffn.Claims
public import proofs.«01_k».proof.Proof.Proj.Claims

@[expose] public section

noncomputable section

namespace Cert.Proof

open Idealize.ShloMosaic Idealize.SL.Sem

/-- Every claim of the certificate. -/
theorem claim : Cert.Claim := ⟨Cert.Rglru.Gen.facts, Cert.RglruIdeal.Gen.facts, Cert.RglruRefIdeal.Gen.facts,
  Cert.Ffn.Gen.facts, Cert.FfnIdeal.Gen.facts, Cert.FfnRefIdeal.Gen.facts,
  Cert.Proj.Gen.facts, Cert.ProjIdeal.Gen.facts, Cert.ProjRefIdeal.Gen.facts,
  fun m ρ _ => Cert.Rglru.Value.frame m ρ, Cert.RglruSpec.frame_ideal, Cert.RglruSpec.frame_ref,
  fun m ρ _ => Cert.Ffn.Value.frame m ρ, Cert.FfnSpec.frame_ideal, Cert.FfnSpec.frame_ref,
  fun m ρ _ => Cert.Proj.Gen.frame m ρ, fun m ρ _ => Cert.ProjIdeal.Gen.frame m ρ, Cert.ProjSpec.frame_ref,
  trivial, Cert.RglruSpec.algebraic, trivial, Cert.FfnSpec.algebraic, trivial, Cert.ProjSpec.algebraic⟩

end Cert.Proof

end
